-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)) →
    ∃ (v0 : (c : Dev Cert.TailIdeal.nD) → Buf (Elt Ideal) ((c.tc : Thread Cert.TailIdeal.nD Cert.TailIdeal.τ).loc Cert.TailIdeal.main_v17)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v17) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v81) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v134_0)) (v1 : (c : Dev Cert.ProjIdeal.nD) → Buf (Elt Ideal) ((c.tc : Thread Cert.ProjIdeal.nD Cert.ProjIdeal.τ).loc Cert.ProjIdeal.main_v134_1)) (v2 : (c : Dev Cert.ProjIdeal.nD) → Buf (Elt Ideal) ((c.tc : Thread Cert.ProjIdeal.nD Cert.ProjIdeal.τ).loc Cert.ProjIdeal.main_v134_2)) (v3 : (c : Dev Cert.ProjIdeal.nD) → Buf (Elt Ideal) ((c.tc : Thread Cert.ProjIdeal.nD Cert.ProjIdeal.τ).loc Cert.ProjIdeal.main_v134_3)) (v4 : (c : Dev Cert.ProjIdeal.nD) → Buf (Elt Ideal) ((c.tc : Thread Cert.ProjIdeal.nD Cert.ProjIdeal.τ).loc Cert.ProjIdeal.main_v134_5)) (v5 : (c : Dev Cert.ProjIdeal.nD) → Buf (Elt Ideal) ((c.tc : Thread Cert.ProjIdeal.nD Cert.ProjIdeal.τ).loc Cert.ProjIdeal.main_v134_6)) (v6 : (c : Dev Cert.ProjIdeal.nD) → Buf (Elt Ideal) ((c.tc : Thread Cert.ProjIdeal.nD Cert.ProjIdeal.τ).loc Cert.ProjIdeal.main_v134_7)) (v7 : (c : Dev Cert.ProjIdeal.nD) → Buf (Elt Ideal) ((c.tc : Thread Cert.ProjIdeal.nD Cert.ProjIdeal.τ).loc Cert.ProjIdeal.main_v134_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v134_0) = v0 c
          ∧ r.2.mem ((c.tc : Thread Cert.ProjIdeal.nD Cert.ProjIdeal.τ).loc Cert.ProjIdeal.main_v134_1) = v1 c
          ∧ r.2.mem ((c.tc : Thread Cert.ProjIdeal.nD Cert.ProjIdeal.τ).loc Cert.ProjIdeal.main_v134_2) = v2 c
          ∧ r.2.mem ((c.tc : Thread Cert.ProjIdeal.nD Cert.ProjIdeal.τ).loc Cert.ProjIdeal.main_v134_3) = v3 c
          ∧ r.2.mem ((c.tc : Thread Cert.ProjIdeal.nD Cert.ProjIdeal.τ).loc Cert.ProjIdeal.main_v134_5) = v4 c
          ∧ r.2.mem ((c.tc : Thread Cert.ProjIdeal.nD Cert.ProjIdeal.τ).loc Cert.ProjIdeal.main_v134_6) = v5 c
          ∧ r.2.mem ((c.tc : Thread Cert.ProjIdeal.nD Cert.ProjIdeal.τ).loc Cert.ProjIdeal.main_v134_7) = v6 c
          ∧ r.2.mem ((c.tc : Thread Cert.ProjIdeal.nD Cert.ProjIdeal.τ).loc Cert.ProjIdeal.main_v134_8) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v199) = v0 c
          ∧ r.2.mem ((c.tc : Thread Cert.ProjReferenceIdeal.nD Cert.ProjReferenceIdeal.τ).loc Cert.ProjReferenceIdeal.main_v200) = v1 c
          ∧ r.2.mem ((c.tc : Thread Cert.ProjReferenceIdeal.nD Cert.ProjReferenceIdeal.τ).loc Cert.ProjReferenceIdeal.main_v201) = v2 c
          ∧ r.2.mem ((c.tc : Thread Cert.ProjReferenceIdeal.nD Cert.ProjReferenceIdeal.τ).loc Cert.ProjReferenceIdeal.main_v202) = v3 c
          ∧ r.2.mem ((c.tc : Thread Cert.ProjReferenceIdeal.nD Cert.ProjReferenceIdeal.τ).loc Cert.ProjReferenceIdeal.main_v203) = v4 c
          ∧ r.2.mem ((c.tc : Thread Cert.ProjReferenceIdeal.nD Cert.ProjReferenceIdeal.τ).loc Cert.ProjReferenceIdeal.main_v204) = v5 c
          ∧ r.2.mem ((c.tc : Thread Cert.ProjReferenceIdeal.nD Cert.ProjReferenceIdeal.τ).loc Cert.ProjReferenceIdeal.main_v205) = v6 c
          ∧ r.2.mem ((c.tc : Thread Cert.ProjReferenceIdeal.nD Cert.ProjReferenceIdeal.τ).loc Cert.ProjReferenceIdeal.main_v206) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S8x8192x8x128 : Shape := ⟨4, ![8, 8192, 8, 128]⟩
abbrev S8x8192x2x128 : Shape := ⟨4, ![8, 8192, 2, 128]⟩
abbrev S8x256x2x128 : Shape := ⟨4, ![8, 256, 2, 128]⟩
abbrev S1x128 : Shape := ⟨2, ![1, 128]⟩
abbrev S_ : Shape := ⟨0, ![]⟩

class Facts : Prop where
  bcast_S_S8x8192x8x128 : S_.BroadcastsInDim S8x8192x8x128 (![] : Fin 0 → Fin S8x8192x8x128.rank)
  bcast_S_S8x8192x2x128 : S_.BroadcastsInDim S8x8192x2x128 (![] : Fin 0 → Fin S8x8192x2x128.rank)
  bcast_S_S8x256x2x128 : S_.BroadcastsInDim S8x256x2x128 (![] : Fin 0 → Fin S8x256x2x128.rank)
  bcast_S_S1x128 : S_.BroadcastsInDim S1x128 (![] : Fin 0 → Fin S1x128.rank)

variable [Facts]

def fn {F : FTy → Type} [FloatOps F] (main_arg0 : FVec F S8x8192x8x128 .f32) (main_arg1 : FVec F S8x8192x2x128 .f32) (main_arg2 : FVec F S8x8192x2x128 .f32) (main_arg3 : FVec F S8x256x2x128 .f32) (main_arg4 : FVec F S8x256x2x128 .f32) (main_arg5 : FVec F S1x128 .f32) (main_arg6 : FVec F S1x128 .f32) : IVec S8x8192x8x128 1 × IVec S8x8192x2x128 1 × IVec S8x256x2x128 1 × IVec S1x128 1 × IVec S1x128 1 :=
  let main_v0 : FVec F S8x8192x8x128 .f32 := Host.absf main_arg0
  let main_cst : FVec F S_ .f32 := constant S_ .f32 0x7F800000#32
  let main_v1 : FVec F S8x8192x8x128 .f32 := broadcastInDim S8x8192x8x128 ![] bcast_S_S8x8192x8x128 main_cst
  let main_v2 : IVec S8x8192x8x128 1 := cmpf .olt main_v0 main_v1
  let main_v3 : FVec F S8x8192x2x128 .f32 := Host.absf main_arg1
  let main_cst_0 : FVec F S_ .f32 := constant S_ .f32 0x7F800000#32
  let main_v4 : FVec F S8x8192x2x128 .f32 := broadcastInDim S8x8192x2x128 ![] bcast_S_S8x8192x2x128 main_cst_0
  let main_v5 : IVec S8x8192x2x128 1 := cmpf .olt main_v3 main_v4
  let main_v6 : FVec F S8x256x2x128 .f32 := Host.absf main_arg3
  let main_cst_1 : FVec F S_ .f32 := constant S_ .f32 0x7F800000#32
  let main_v7 : FVec F S8x256x2x128 .f32 := broadcastInDim S8x256x2x128 ![] bcast_S_S8x256x2x128 main_cst_1
  let main_v8 : IVec S8x256x2x128 1 := cmpf .olt main_v6 main_v7
  let main_v9 : FVec F S1x128 .f32 := Host.absf main_arg5
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg6
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  (main_v2, main_v5, main_v8, main_v11, main_v14)
-- ==== Kernel.lean ====
abbrev S8x8192x8x128 : Shape := ⟨4, ![8, 8192, 8, 128]⟩
abbrev S8x8192x2x128 : Shape := ⟨4, ![8, 8192, 2, 128]⟩
abbrev S8x256x2x128 : Shape := ⟨4, ![8, 256, 2, 128]⟩
abbrev S1x128 : Shape := ⟨2, ![1, 128]⟩
abbrev S128 : Shape := ⟨1, ![128]⟩
abbrev S_ : Shape := ⟨0, ![]⟩
abbrev S1x1 : Shape := ⟨2, ![1, 1]⟩
abbrev S8x8192x1024 : Shape := ⟨3, ![8, 8192, 1024]⟩
abbrev S8x8192x256 : Shape := ⟨3, ![8, 8192, 256]⟩
abbrev S8x256x256 : Shape := ⟨3, ![8, 256, 256]⟩
abbrev S8x32x256x256 : Shape := ⟨4, ![8, 32, 256, 256]⟩
abbrev S8x1x256x256 : Shape := ⟨4, ![8, 1, 256, 256]⟩
abbrev S1x512x512 : Shape := ⟨3, ![1, 512, 512]⟩
abbrev S1x8192x128 : Shape := ⟨3, ![1, 8192, 128]⟩
abbrev S1x32x128x256 : Shape := ⟨4, ![1, 32, 128, 256]⟩
abbrev S1x256x128 : Shape := ⟨3, ![1, 256, 128]⟩
abbrev S1x1x128x256 : Shape := ⟨4, ![1, 1, 128, 256]⟩
abbrev S512x512 : Shape := ⟨2, ![512, 512]⟩
abbrev S512x128 : Shape := ⟨2, ![512, 128]⟩
abbrev S2048x128 : Shape := ⟨2, ![2048, 128]⟩
abbrev S256x128 : Shape := ⟨2, ![256, 128]⟩
abbrev S128x256 : Shape := ⟨2, ![128, 256]⟩
abbrev S256x2048 : Shape := ⟨2, ![256, 2048]⟩
abbrev S128x2048 : Shape := ⟨2, ![128, 2048]⟩
abbrev S2048 : Shape := ⟨1, ![2048]⟩
abbrev S1x2048 : Shape := ⟨2, ![1, 2048]⟩
abbrev S1x1024x128 : Shape := ⟨3, ![1, 1024, 128]⟩
abbrev S1024x128 : Shape := ⟨2, ![1024, 128]⟩
abbrev S128x1024 : Shape := ⟨2, ![128, 1024]⟩
abbrev S1024x2048 : Shape := ⟨2, ![1024, 2048]⟩
abbrev S1x512x128 : Shape := ⟨3, ![1, 512, 128]⟩

abbrev nBuf : Space → Nat
  | .hbm => 36
  | .vmem => 13
  | .smem => 0
  | _ => 0

abbrev bufTy : (tb : Table) → Fin (tcTables nBuf tb) → BufTy
  | .hbm, ⟨0, _⟩ => ⟨S8x8192x8x128, .f32⟩
  | .hbm, ⟨1, _⟩ => ⟨S8x8192x2x128, .f32⟩
  | .hbm, ⟨2, _⟩ => ⟨S8x8192x2x128, .f32⟩
  | .hbm, ⟨3, _⟩ => ⟨S8x256x2x128, .f32⟩
  | .hbm, ⟨4, _⟩ => ⟨S8x256x2x128, .f32⟩
  | .hbm, ⟨5, _⟩ => ⟨S1x128, .f32⟩
  | .hbm, ⟨6, _⟩ => ⟨S1x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S8x8192x1024, .f32⟩
  | .hbm, ⟨25, _⟩ => ⟨S8x8192x256, .f32⟩
  | .hbm, ⟨26, _⟩ => ⟨S8x8192x256, .bf16⟩
  | .hbm, ⟨27, _⟩ => ⟨S8x256x256, .f32⟩
  | .hbm, ⟨28, _⟩ => ⟨S8x256x256, .bf16⟩
  | .hbm, ⟨29, _⟩ => ⟨S8x32x256x256, .f32⟩
  | .hbm, ⟨30, _⟩ => ⟨S8x32x256x256, .bf16⟩
  | .hbm, ⟨31, _⟩ => ⟨S8x32x256x256, .bf16⟩
  | .hbm, ⟨32, _⟩ => ⟨S8x1x256x256, .f32⟩
  | .hbm, ⟨33, _⟩ => ⟨S8x1x256x256, .bf16⟩
  | .hbm, ⟨34, _⟩ => ⟨S8x1x256x256, .bf16⟩
  | .hbm, ⟨35, _⟩ => ⟨S8x8192x1024, .bf16⟩
  | .local _ .vmem, ⟨0, _⟩ => ⟨S1x1, .f32⟩
  | .local _ .vmem, ⟨1, _⟩ => ⟨S1x512x512, .f32⟩
  | .local _ .vmem, ⟨2, _⟩ => ⟨S1x512x512, .f32⟩
  | .local _ .vmem, ⟨3, _⟩ => ⟨S1x8192x128, .bf16⟩
  | .local _ .vmem, ⟨4, _⟩ => ⟨S1x8192x128, .bf16⟩
  | .local _ .vmem, ⟨5, _⟩ => ⟨S1x32x128x256, .bf16⟩
  | .local _ .vmem, ⟨6, _⟩ => ⟨S1x32x128x256, .bf16⟩
  | .local _ .vmem, ⟨7, _⟩ => ⟨S1x256x128, .bf16⟩
  | .local _ .vmem, ⟨8, _⟩ => ⟨S1x256x128, .bf16⟩
  | .local _ .vmem, ⟨9, _⟩ => ⟨S1x1x128x256, .bf16⟩
  | .local _ .vmem, ⟨10, _⟩ => ⟨S1x1x128x256, .bf16⟩
  | .local _ .vmem, ⟨11, _⟩ => ⟨S1x512x512, .bf16⟩
  | .local _ .vmem, ⟨12, _⟩ => ⟨S1x512x512, .bf16⟩
  | _, _ => ⟨S8x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S8x8192x8x128 : Shape := ⟨4, ![8, 8192, 8, 128]⟩
abbrev S8x8192x2x128 : Shape := ⟨4, ![8, 8192, 2, 128]⟩
abbrev S8x256x2x128 : Shape := ⟨4, ![8, 256, 2, 128]⟩
abbrev S1x128 : Shape := ⟨2, ![1, 128]⟩
abbrev S8x8192x2x4x128 : Shape := ⟨5, ![8, 8192, 2, 4, 128]⟩
abbrev S8x2x4x8192x128 : Shape := ⟨5, ![8, 2, 4, 8192, 128]⟩
abbrev S8x8448x2x128 : Shape := ⟨4, ![8, 8448, 2, 128]⟩
abbrev S8x2x8448x128 : Shape := ⟨4, ![8, 2, 8448, 128]⟩
abbrev S8x2x4x8192x8448 : Shape := ⟨5, ![8, 2, 4, 8192, 8448]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x8192x1024 : Shape := ⟨3, ![8, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x8192x8x128, .f32⟩
  | .hbm, ⟨1, _⟩ => ⟨S8x8192x2x128, .f32⟩
  | .hbm, ⟨2, _⟩ => ⟨S8x8192x2x128, .f32⟩
  | .hbm, ⟨3, _⟩ => ⟨S8x256x2x128, .f32⟩
  | .hbm, ⟨4, _⟩ => ⟨S8x256x2x128, .f32⟩
  | .hbm, ⟨5, _⟩ => ⟨S1x128, .f32⟩
  | .hbm, ⟨6, _⟩ => ⟨S1x128, .f32⟩
  | .hbm, ⟨7, _⟩ => ⟨S8x8192x2x4x128, .f32⟩
  | .hbm, ⟨8, _⟩ => ⟨S8x2x4x8192x128, .f32⟩
  | .hbm, ⟨9, _⟩ => ⟨S8x8448x2x128, .f32⟩
  | .hbm, ⟨10, _⟩ => ⟨S8x2x8448x128, .f32⟩
  | .hbm, ⟨11, _⟩ => ⟨S8x8448x2x128, .f32⟩
  | .hbm, ⟨12, _⟩ => ⟨S8x2x8448x128, .f32⟩
  | .hbm, ⟨13, _⟩ => ⟨S8x2x4x8192x8448, .f32⟩
  | .hbm, ⟨14, _⟩ => ⟨S_, .f32⟩
  | .hbm, ⟨15, _⟩ => ⟨S8x2x4x8192x8448, .f32⟩
  | .hbm, ⟨16, _⟩ => ⟨S8x2x4x8192x8448, .f32⟩
  | .hbm, ⟨17, _⟩ => ⟨S_, .f32⟩
  | .hbm, ⟨18, _⟩ => ⟨S8x2x4x8192, .f32⟩
  | .hbm, ⟨19, _⟩ => ⟨S_, .f32⟩
  | .hbm, ⟨20, _⟩ => ⟨S8x2x4x8192, .f32⟩
  | .hbm, ⟨21, _⟩ => ⟨S8x2x4x8192, .f32⟩
  | .hbm, ⟨22, _⟩ => ⟨S8x2x4x8192x1, .f32⟩
  | .hbm, ⟨23, _⟩ => ⟨S8x2x4x8192x8448, .f32⟩
  | .hbm, ⟨24, _⟩ => ⟨S8x2x4x8192x8448, .f32⟩
  | .hbm, ⟨25, _⟩ => ⟨S8x2x4x8192x8448, .f32⟩
  | .hbm, ⟨26, _⟩ => ⟨S_, .f32⟩
  | .hbm, ⟨27, _⟩ => ⟨S8x2x4x8192, .f32⟩
  | .hbm, ⟨28, _⟩ => ⟨S8x2x4x8192x1, .f32⟩
  | .hbm, ⟨29, _⟩ => ⟨S8x2x4x8192x8448, .f32⟩
  | .hbm, ⟨30, _⟩ => ⟨S8x2x4x8192x8448, .f32⟩
  | .hbm, ⟨31, _⟩ => ⟨S8x2x4x8192x128, .f32⟩
  | .hbm, ⟨32, _⟩ => ⟨S8x8192x2x4x128, .f32⟩
  | .hbm, ⟨33, _⟩ => ⟨S8x8192x1024, .f32⟩
  | .hbm, ⟨34, _⟩ => ⟨S8x8192x1024, .bf16⟩
  | _, _ => ⟨S8x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Tail.lean ====
abbrev S8x8192x1024 : Shape := ⟨3, ![8, 8192, 1024]⟩
abbrev S8x8192x2048 : Shape := ⟨3, ![8, 8192, 2048]⟩
abbrev S8x1x1024 : Shape := ⟨3, ![8, 1, 1024]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x2048 : Shape := ⟨3, ![1, 512, 2048]⟩
abbrev S1x1x1024 : Shape := ⟨3, ![1, 1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S512x2816 : Shape := ⟨2, ![512, 2816]⟩

abbrev nBuf : Space → Nat
  | .hbm => 37
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S8x8192x2048, .bf16⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x2816, .f32⟩
  | .hbm, ⟨17, _⟩ => ⟨S1x1024x2816, .f32⟩
  | .hbm, ⟨18, _⟩ => ⟨S1x2816x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x2816, .bf16⟩
  | .local _ .vmem, ⟨27, _⟩ => ⟨S1024x2816, .bf16⟩
  | .local _ .vmem, ⟨28, _⟩ => ⟨S2816x1024, .bf16⟩
  | .local _ .vmem, ⟨29, _⟩ => ⟨S1x512x1024, .f32⟩
  | .local _ .vmem, ⟨30, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== TailReferenceIdeal.lean ====
abbrev S8x8192x1024 : Shape := ⟨3, ![8, 8192, 1024]⟩
abbrev S8x8192x2048 : Shape := ⟨3, ![8, 8192, 2048]⟩
abbrev S8x1x1024 : Shape := ⟨3, ![8, 1, 1024]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S8x8192x4x256 : Shape := ⟨4, ![8, 8192, 4, 256]⟩
abbrev S4x256 : Shape := ⟨2, ![4, 256]⟩
abbrev S_ : Shape := ⟨0, ![]⟩
abbrev S8x8192x4 : Shape := ⟨3, ![8, 8192, 4]⟩
abbrev S8x8192x4x1 : Shape := ⟨4, ![8, 8192, 4, 1]⟩
abbrev S1x1x4x256 : Shape := ⟨4, ![1, 1, 4, 256]⟩
abbrev S1024x1024 : Shape := ⟨2, ![1024, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x2816 : Shape := ⟨2, ![1024, 2816]⟩
abbrev S8x8192x2816 : Shape := ⟨3, ![8, 8192, 2816]⟩
abbrev S2816x1024 : Shape := ⟨2, ![2816, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S8x8192x2048, .bf16⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x2816, .f32⟩
  | .hbm, ⟨17, _⟩ => ⟨S1x1024x2816, .f32⟩
  | .hbm, ⟨18, _⟩ => ⟨S1x2816x1024, .f32⟩
  | .hbm, ⟨19, _⟩ => ⟨S8x8192x1024, .f32⟩
  | .hbm, ⟨20, _⟩ => ⟨S8x8192x1024, .f32⟩
  | .hbm, ⟨21, _⟩ => ⟨S8x8192x1024, .f32⟩
  | .hbm, ⟨22, _⟩ => ⟨S8x8192x4x256, .f32⟩
  | .hbm, ⟨23, _⟩ => ⟨S1024, .f32⟩
  | .hbm, ⟨24, _⟩ => ⟨S4x256, .f32⟩
  | .hbm, ⟨25, _⟩ => ⟨S8x8192x4x256, .f32⟩
  | .hbm, ⟨26, _⟩ => ⟨S_, .f32⟩
  | .hbm, ⟨27, _⟩ => ⟨S8x8192x4, .f32⟩
  | .hbm, ⟨28, _⟩ => ⟨S8x8192x4x1, .f32⟩
  | .hbm, ⟨29, _⟩ => ⟨S_, .f32⟩
  | .hbm, ⟨30, _⟩ => ⟨S8x8192x4x1, .f32⟩
  | .hbm, ⟨31, _⟩ => ⟨S8x8192x4x1, .f32⟩
  | .hbm, ⟨32, _⟩ => ⟨S_, .f32⟩
  | .hbm, ⟨33, _⟩ => ⟨S8x8192x4x1, .f32⟩
  | .hbm, ⟨34, _⟩ => ⟨S8x8192x4x1, .f32⟩
  | .hbm, ⟨35, _⟩ => ⟨S8x8192x4x1, .f32⟩
  | .hbm, ⟨36, _⟩ => ⟨S8x8192x4x256, .f32⟩
  | .hbm, ⟨37, _⟩ => ⟨S8x8192x4x256, .f32⟩
  | .hbm, ⟨38, _⟩ => ⟨S1x1x4x256, .f32⟩
  | .hbm, ⟨39, _⟩ => ⟨S8x8192x4x256, .f32⟩
  | .hbm, ⟨40, _⟩ => ⟨S8x8192x4x256, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x2048, .f32⟩
  | .hbm, ⟨45, _⟩ => ⟨S8x8192x1024, .f32⟩
  | .hbm, ⟨46, _⟩ => ⟨S8x8192x1024, .f32⟩
  | .hbm, ⟨47, _⟩ => ⟨S1024x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S1024x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S1024x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x1x1024, .f32⟩
  | .hbm, ⟨79, _⟩ => ⟨S8x1x1024, .f32⟩
  | .hbm, ⟨80, _⟩ => ⟨S8x8192x1024, .f32⟩
  | .hbm, ⟨81, _⟩ => ⟨S8x8192x1024, .f32⟩
  | .hbm, ⟨82, _⟩ => ⟨S8x8192x1024, .f32⟩
  | .hbm, ⟨83, _⟩ => ⟨S8x8192x1024, .f32⟩
  | .hbm, ⟨84, _⟩ => ⟨S1024x2816, .f32⟩
  | .hbm, ⟨85, _⟩ => ⟨S8x8192x2816, .f32⟩
  | .hbm, ⟨86, _⟩ => ⟨S8x8192x2816, .f32⟩
  | .hbm, ⟨87, _⟩ => ⟨S8x8192x2816, .f32⟩
  | .hbm, ⟨88, _⟩ => ⟨S_, .f32⟩
  | .hbm, ⟨89, _⟩ => ⟨S8x8192x2816, .f32⟩
  | .hbm, ⟨90, _⟩ => ⟨S8x8192x2816, .f32⟩
  | .hbm, ⟨91, _⟩ => ⟨S_, .f32⟩
  | .hbm, ⟨92, _⟩ => ⟨S8x8192x2816, .f32⟩
  | .hbm, ⟨93, _⟩ => ⟨S8x8192x2816, .f32⟩
  | .hbm, ⟨94, _⟩ => ⟨S8x8192x2816, .f32⟩
  | .hbm, ⟨95, _⟩ => ⟨S1024x2816, .f32⟩
  | .hbm, ⟨96, _⟩ => ⟨S8x8192x2816, .f32⟩
  | .hbm, ⟨97, _⟩ => ⟨S8x8192x2816, .f32⟩
  | .hbm, ⟨98, _⟩ => ⟨S2816x1024, .f32⟩
  | .hbm, ⟨99, _⟩ => ⟨S8x8192x1024, .f32⟩
  | .hbm, ⟨100, _⟩ => ⟨S8x8192x1024, .f32⟩
  | .hbm, ⟨101, _⟩ => ⟨S8x8192x1024, .f32⟩
  | .hbm, ⟨102, _⟩ => ⟨S8x8192x1024, .f32⟩
  | .hbm, ⟨103, _⟩ => ⟨S8x8192x1024, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S_, .f32⟩
  | .hbm, ⟨108, _⟩ => ⟨S8x8192x1, .f32⟩
  | .hbm, ⟨109, _⟩ => ⟨S8x8192x1, .f32⟩
  | .hbm, ⟨110, _⟩ => ⟨S_, .f32⟩
  | .hbm, ⟨111, _⟩ => ⟨S8x8192x1, .f32⟩
  | .hbm, ⟨112, _⟩ => ⟨S8x8192x1, .f32⟩
  | .hbm, ⟨113, _⟩ => ⟨S8x8192x1, .f32⟩
  | .hbm, ⟨114, _⟩ => ⟨S8x8192x1024, .f32⟩
  | .hbm, ⟨115, _⟩ => ⟨S8x8192x1024, .f32⟩
  | .hbm, ⟨116, _⟩ => ⟨S1x1x1024, .f32⟩
  | .hbm, ⟨117, _⟩ => ⟨S8x8192x1024, .f32⟩
  | .hbm, ⟨118, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_6 : Ref sig .tc := ⟨.hbm, 104, rfl⟩
abbrev main_v70 : Ref sig .tc := ⟨.hbm, 105, rfl⟩
abbrev main_v71 : Ref sig .tc := ⟨.hbm, 106, rfl⟩
abbrev main_cst_7 : Ref sig .tc := ⟨.hbm, 107, rfl⟩
abbrev main_v72 : Ref sig .tc := ⟨.hbm, 108, rfl⟩
abbrev main_v73 : Ref sig .tc := ⟨.hbm, 109, rfl⟩
abbrev main_cst_8 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== Proj.lean ====
abbrev S8x8192x1024 : Shape := ⟨3, ![8, 8192, 1024]⟩
abbrev S8x1x1024 : Shape := ⟨3, ![8, 1, 1024]⟩
abbrev S1x1024 : Shape := ⟨2, ![1, 1024]⟩
abbrev S1x1024x7696 : Shape := ⟨3, ![1, 1024, 7696]⟩
abbrev S1x16 : Shape := ⟨2, ![1, 16]⟩
abbrev S1x5x2048 : Shape := ⟨3, ![1, 5, 2048]⟩
abbrev S1x2048 : Shape := ⟨2, ![1, 2048]⟩
abbrev S1x128 : Shape := ⟨2, ![1, 128]⟩
abbrev S1024x7696 : Shape := ⟨2, ![1024, 7696]⟩
abbrev S1024x1024 : Shape := ⟨2, ![1024, 1024]⟩
abbrev S1024x16 : Shape := ⟨2, ![1024, 16]⟩
abbrev S1024x256 : Shape := ⟨2, ![1024, 256]⟩
abbrev S1024x2048 : Shape := ⟨2, ![1024, 2048]⟩
abbrev S64 : Shape := ⟨1, ![64]⟩
abbrev S_ : Shape := ⟨0, ![]⟩
abbrev S128 : Shape := ⟨1, ![128]⟩
abbrev S8 : Shape := ⟨1, ![8]⟩
abbrev S8x1 : Shape := ⟨2, ![8, 1]⟩
abbrev S8x128 : Shape := ⟨2, ![8, 128]⟩
abbrev S1024 : Shape := ⟨1, ![1024]⟩
abbrev S2 : Shape := ⟨1, ![2]⟩
abbrev S2x1 : Shape := ⟨2, ![2, 1]⟩
abbrev S2x128 : Shape := ⟨2, ![2, 128]⟩
abbrev S256 : Shape := ⟨1, ![256]⟩
abbrev S1024x1 : Shape := ⟨2, ![1024, 1]⟩
abbrev S256x1 : Shape := ⟨2, ![256, 1]⟩
abbrev S128x1 : Shape := ⟨2, ![128, 1]⟩
abbrev S16 : Shape := ⟨1, ![16]⟩
abbrev S16x1 : Shape := ⟨2, ![16, 1]⟩
abbrev S32 : Shape := ⟨1, ![32]⟩
abbrev S1x32 : Shape := ⟨2, ![1, 32]⟩
abbrev S128x32 : Shape := ⟨2, ![128, 32]⟩
abbrev S64x1 : Shape := ⟨2, ![64, 1]⟩
abbrev S64x32 : Shape := ⟨2, ![64, 32]⟩
abbrev S128x1x32 : Shape := ⟨3, ![128, 1, 32]⟩
abbrev S128x64x32 : Shape := ⟨3, ![128, 64, 32]⟩
abbrev S1x64x32 : Shape := ⟨3, ![1, 64, 32]⟩
abbrev S128x64x64 : Shape := ⟨3, ![128, 64, 64]⟩
abbrev S8192x64 : Shape := ⟨2, ![8192, 64]⟩
abbrev S8192x128 : Shape := ⟨2, ![8192, 128]⟩
abbrev S5x2048 : Shape := ⟨2, ![5, 2048]⟩
abbrev S2048 : Shape := ⟨1, ![2048]⟩
abbrev S16x1024 : Shape := ⟨2, ![16, 1024]⟩
abbrev S1024x5632 : Shape := ⟨2, ![1024, 5632]⟩
abbrev S8x32x1024x256 : Shape := ⟨4, ![8, 32, 1024, 256]⟩
abbrev S8x32x16x256 : Shape := ⟨4, ![8, 32, 16, 256]⟩
abbrev S8x8192x256 : Shape := ⟨3, ![8, 8192, 256]⟩
abbrev S8x32x256x256 : Shape := ⟨4, ![8, 32, 256, 256]⟩
abbrev S8x8192x2048 : Shape := ⟨3, ![8, 8192, 2048]⟩
abbrev S1x8x1024 : Shape := ⟨3, ![1, 8, 1024]⟩
abbrev S1x256x1024 : Shape := ⟨3, ![1, 256, 1024]⟩
abbrev S1x1x1024 : Shape := ⟨3, ![1, 1, 1024]⟩
abbrev S256x128 : Shape := ⟨2, ![256, 128]⟩
abbrev S1x1x1024x256 : Shape := ⟨4, ![1, 1, 1024, 256]⟩
abbrev S1x1x16x256 : Shape := ⟨4, ![1, 1, 16, 256]⟩
abbrev S1x256x256 : Shape := ⟨3, ![1, 256, 256]⟩
abbrev S1x1x256x256 : Shape := ⟨4, ![1, 1, 256, 256]⟩
abbrev S1x256x2048 : Shape := ⟨3, ![1, 256, 2048]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x2048 : Shape := ⟨2, ![272, 2048]⟩
abbrev S256x2048 : Shape := ⟨2, ![256, 2048]⟩
abbrev S16x256 : Shape := ⟨2, ![16, 256]⟩
abbrev S8x256 : Shape := ⟨2, ![8, 256]⟩
abbrev S12x256 : Shape := ⟨2, ![12, 256]⟩
abbrev S4x256 : Shape := ⟨2, ![4, 256]⟩
abbrev S256x5632 : Shape := ⟨2, ![256, 5632]⟩
abbrev S256x256 : Shape := ⟨2, ![256, 256]⟩
abbrev S1x256x128 : Shape := ⟨3, ![1, 256, 128]⟩

abbrev nBuf : Space → Nat
  | .hbm => 169
  | .vmem => 41
  | .smem => 0
  | _ => 0

abbrev hbmTy0_0 (i : Nat) : BufTy := match i % 128 with
  | 0 => ⟨S8x8192x1024, .f32⟩
  | 1 => ⟨S8x1x1024, .f32⟩
  | 2 => ⟨S8x1x1024, .f32⟩
  | 3 => ⟨S1x1024, .f32⟩
  | 4 => ⟨S1x1024x7696, .f32⟩
  | 5 => ⟨S1x16, .f32⟩
  | 6 => ⟨S1x5x2048, .f32⟩
  | 7 => ⟨S1x2048, .f32⟩
  | 8 => ⟨S1x128, .f32⟩
  | 9 => ⟨S1x128, .f32⟩
  | 10 => ⟨S1024x7696, .f32⟩
  | 11 => ⟨S1024x1024, .f32⟩
  | 12 => ⟨S1024x7696, .f32⟩
  | 13 => ⟨S1024x1024, .f32⟩
  | 14 => ⟨S1024x7696, .f32⟩
  | 15 => ⟨S1024x1024, .f32⟩
  | 16 => ⟨S1024x7696, .f32⟩
  | 17 => ⟨S1024x1024, .f32⟩
  | 18 => ⟨S1024x7696, .f32⟩
  | 19 => ⟨S1024x16, .f32⟩
  | 20 => ⟨S1024x7696, .f32⟩
  | 21 => ⟨S1024x1024, .f32⟩
  | 22 => ⟨S1024x7696, .f32⟩
  | 23 => ⟨S1024x256, .f32⟩
  | 24 => ⟨S1024x7696, .f32⟩
  | 25 => ⟨S1024x256, .f32⟩
  | 26 => ⟨S1024x7696, .f32⟩
  | 27 => ⟨S1024x2048, .f32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S128, .i32⟩
  | 43 => ⟨S8, .i32⟩
  | 44 => ⟨S8x1, .i32⟩
  | 45 => ⟨S_, .i32⟩
  | 46 => ⟨S8x1, .i32⟩
  | 47 => ⟨S8x1, .i32⟩
  | 48 => ⟨S1x128, .i32⟩
  | 49 => ⟨S8x128, .i32⟩
  | 50 => ⟨S8x128, .i32⟩
  | 51 => ⟨S8x128, .i32⟩
  | 52 => ⟨S1024, .i32⟩
  | 53 => ⟨S2, .i32⟩
  | 54 => ⟨S2x1, .i32⟩
  | 55 => ⟨S_, .i32⟩
  | 56 => ⟨S2x1, .i32⟩
  | 57 => ⟨S2x1, .i32⟩
  | 58 => ⟨S1x128, .i32⟩
  | 59 => ⟨S2x128, .i32⟩
  | 60 => ⟨S2x128, .i32⟩
  | 61 => ⟨S2x128, .i32⟩
  | 62 => ⟨S256, .i32⟩
  | 63 => ⟨S1024x2048, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x1024, .f32⟩
  | 73 => ⟨S_, .i32⟩
  | 74 => ⟨S256, .i32⟩
  | 75 => ⟨S256, .i1⟩
  | 76 => ⟨S_, .i32⟩
  | 77 => ⟨S256, .i32⟩
  | 78 => ⟨S256, .i32⟩
  | 79 => ⟨S256, .i32⟩
  | 80 => ⟨S256x1, .i32⟩
  | 81 => ⟨S1024x256, .f32⟩
  | 82 => ⟨S1024x2048, .bf16⟩
  | 83 => ⟨S1024x1024, .bf16⟩
  | 84 => ⟨S1024x1024, .bf16⟩
  | 85 => ⟨S1024x16, .bf16⟩
  | 86 => ⟨S1024x1024, .bf16⟩
  | 87 => ⟨S1024x256, .bf16⟩
  | 88 => ⟨S1024x256, .bf16⟩
  | 89 => ⟨S1024x2048, .bf16⟩
  | 90 => ⟨S128, .f32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S128, .f32⟩
  | 100 => ⟨S1x128, .f32⟩
  | 101 => ⟨S128, .f32⟩
  | 102 => ⟨S_, .i32⟩
  | 103 => ⟨S128, .i32⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S128, .f32⟩
  | 111 => ⟨S1x128, .f32⟩
  | 112 => ⟨S16, .f32⟩
  | 113 => ⟨S16x1, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S128, .f32⟩
  | 123 => ⟨S128x1, .f32⟩
  | 124 => ⟨S1x32, .f32⟩
  | 125 => ⟨S128x32, .f32⟩
  | 126 => ⟨S128x32, .f32⟩
  | 127 => ⟨S128x32, .f32⟩
  | _ => ⟨S8x8192x1024, .f32⟩

abbrev hbmTy0_1 (i : Nat) : BufTy := match i % 128 with
  | 0 => ⟨S64, .f32⟩
  | 1 => ⟨S64x1, .f32⟩
  | 2 => ⟨S1x32, .f32⟩
  | 3 => ⟨S64x32, .f32⟩
  | 4 => ⟨S64x32, .f32⟩
  | 5 => ⟨S64x32, .f32⟩
  | 6 => ⟨S128x32, .f32⟩
  | 7 => ⟨S128x1x32, .f32⟩
  | 8 => ⟨S128x64x32, .f32⟩
  | 9 => ⟨S64x32, .f32⟩
  | 10 => ⟨S1x64x32, .f32⟩
  | 11 => ⟨S128x64x32, .f32⟩
  | 12 => ⟨S128x64x64, .f32⟩
  | 13 => ⟨S8192x64, .f32⟩
  | 14 => ⟨S128x32, .f32⟩
  | 15 => ⟨S128x1x32, .f32⟩
  | 16 => ⟨S128x64x32, .f32⟩
  | 17 => ⟨S64x32, .f32⟩
  | 18 => ⟨S1x64x32, .f32⟩
  | 19 => ⟨S128x64x32, .f32⟩
  | 20 => ⟨S128x64x64, .f32⟩
  | 21 => ⟨S8192x64, .f32⟩
  | 22 => ⟨S8192x128, .f32⟩
  | 23 => ⟨S8192x64, .f32⟩
  | 24 => ⟨S8192x128, .f32⟩
  | 25 => ⟨S1024, .f32⟩
  | 26 => ⟨S1x1024, .f32⟩
  | 27 => ⟨S5x2048, .f32⟩
  | 28 => ⟨S2048, .f32⟩
  | 29 => ⟨S16x1024, .bf16⟩
  | 30 => ⟨S1024x5632, .bf16⟩
  | 31 => ⟨S1x2048, .f32⟩
  | 32 => ⟨S8x8192x1024, .bf16⟩
  | 33 => ⟨S8x32x1024x256, .bf16⟩
  | 34 => ⟨S8x8192x1024, .bf16⟩
  | 35 => ⟨S8x8192x1024, .bf16⟩
  | 36 => ⟨S8x32x16x256, .f32⟩
  | 37 => ⟨S8x8192x1024, .bf16⟩
  | 38 => ⟨S8x8192x256, .bf16⟩
  | 39 => ⟨S8x32x256x256, .bf16⟩
  | 40 => ⟨S8x8192x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S16x1, .f32⟩
  | .local _ .vmem, ⟨18, _⟩ => ⟨S5x2048, .f32⟩
  | .local _ .vmem, ⟨19, _⟩ => ⟨S1x2048, .f32⟩
  | .local _ .vmem, ⟨20, _⟩ => ⟨S1024x2048, .bf16⟩
  | .local _ .vmem, ⟨21, _⟩ => ⟨S16x1024, .bf16⟩
  | .local _ .vmem, ⟨22, _⟩ => ⟨S1024x5632, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x1x1024x256, .bf16⟩
  | .local _ .vmem, ⟨26, _⟩ => ⟨S1x1x1024x256, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x1x16x256, .f32⟩
  | .local _ .vmem, ⟨32, _⟩ => ⟨S1x1x16x256, .f32⟩
  | .local _ .vmem, ⟨33, _⟩ => ⟨S1x256x1024, .bf16⟩
  | .local _ .vmem, ⟨34, _⟩ => ⟨S1x256x1024, .bf16⟩
  | .local _ .vmem, ⟨35, _⟩ => ⟨S1x256x256, .bf16⟩
  | .local _ .vmem, ⟨36, _⟩ => ⟨S1x256x256, .bf16⟩
  | .local _ .vmem, ⟨37, _⟩ => ⟨S1x1x256x256, .bf16⟩
  | .local _ .vmem, ⟨38, _⟩ => ⟨S1x1x256x256, .bf16⟩
  | .local _ .vmem, ⟨39, _⟩ => ⟨S1x256x2048, .bf16⟩
  | .local _ .vmem, ⟨40, _⟩ => ⟨S1x256x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_v71 : Ref sig .tc := ⟨.hbm, 92, rfl⟩
abbrev main_v72 : Ref sig .tc := ⟨.hbm, 93, rfl⟩
abbrev main_c_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_11 : Ref sig .tc := ⟨.hbm, 102, rfl⟩
abbrev main_v80 : Ref sig .tc := ⟨.hbm, 103, rfl⟩
abbrev main_v81 : Ref sig .tc := ⟨.hbm, 104, rfl⟩
abbrev main_c_12 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst : Ref sig .tc := ⟨.hbm, 116, rfl⟩
abbrev main_v92 : Ref sig .tc := ⟨.hbm, 117, rfl⟩
abbrev main_v93 : Ref sig .tc := ⟨.hbm, 118, rfl⟩
abbrev main_cst_13 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134_0 : Ref sig .tc := ⟨.hbm, 160, rfl⟩
abbrev main_v134_1 : Ref sig .tc := ⟨.hbm, 161, rfl⟩
abbrev main_v134_2 : Ref sig .tc := ⟨.hbm, 162, rfl⟩
abbrev main_v134_3 : Ref sig .tc := ⟨.hbm, 163, rfl⟩
abbrev main_v134_4 : Ref sig .tc := ⟨.hbm, 164, rfl⟩
abbrev main_v134_5 : Ref sig .tc := ⟨.hbm, 165, rfl⟩
abbrev main_v134_6 : Ref sig .tc := ⟨.hbm, 166, rfl⟩
abbrev main_v134_7 : Ref sig .tc := ⟨.hbm, 167, rfl⟩
abbrev main_v134_8 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S5x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x16x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ProjReferenceIdeal.lean ====
abbrev S8x8192x1024 : Shape := ⟨3, ![8, 8192, 1024]⟩
abbrev S8x1x1024 : Shape := ⟨3, ![8, 1, 1024]⟩
abbrev S1x1024 : Shape := ⟨2, ![1, 1024]⟩
abbrev S1x1024x7696 : Shape := ⟨3, ![1, 1024, 7696]⟩
abbrev S1x16 : Shape := ⟨2, ![1, 16]⟩
abbrev S1x5x2048 : Shape := ⟨3, ![1, 5, 2048]⟩
abbrev S1x2048 : Shape := ⟨2, ![1, 2048]⟩
abbrev S1x128 : Shape := ⟨2, ![1, 128]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x7696 : Shape := ⟨2, ![1024, 7696]⟩
abbrev S8x8192x7696 : Shape := ⟨3, ![8, 8192, 7696]⟩
abbrev S8x8192x16 : Shape := ⟨3, ![8, 8192, 16]⟩
abbrev S8x8192x256 : Shape := ⟨3, ![8, 8192, 256]⟩
abbrev S8x8192x2048 : Shape := ⟨3, ![8, 8192, 2048]⟩
abbrev S5x2048 : Shape := ⟨2, ![5, 2048]⟩
abbrev S2048 : Shape := ⟨1, ![2048]⟩
abbrev S8x8196x2048 : Shape := ⟨3, ![8, 8196, 2048]⟩
abbrev S1x1x2048 : Shape := ⟨3, ![1, 1, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x1x64 : Shape := ⟨3, ![8192, 1, 64]⟩
abbrev S8x8192x8x128 : Shape := ⟨4, ![8, 8192, 8, 128]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192x8x64 : Shape := ⟨4, ![8, 8192, 8, 64]⟩
abbrev S1x8192x1x64 : Shape := ⟨4, ![1, 8192, 1, 64]⟩
abbrev S8x8192x8x64x1 : Shape := ⟨5, ![8, 8192, 8, 64, 1]⟩
abbrev S8x8192x8x64x2 : Shape := ⟨5, ![8, 8192, 8, 64, 2]⟩
abbrev S8x8192x8x2x64 : Shape := ⟨5, ![8, 8192, 8, 2, 64]⟩
abbrev S8x8192x2x128 : Shape := ⟨4, ![8, 8192, 2, 128]⟩
abbrev S8x8192x2 : Shape := ⟨3, ![8, 8192, 2]⟩
abbrev S8x8192x2x1 : Shape := ⟨4, ![8, 8192, 2, 1]⟩
abbrev S8x8192x2x64 : Shape := ⟨4, ![8, 8192, 2, 64]⟩
abbrev S8x8192x2x64x1 : Shape := ⟨5, ![8, 8192, 2, 64, 1]⟩
abbrev S8x8192x2x64x2 : Shape := ⟨5, ![8, 8192, 2, 64, 2]⟩
abbrev S8x8192x2x2x64 : Shape := ⟨5, ![8, 8192, 2, 2, 64]⟩
abbrev S8x32x256x1024 : Shape := ⟨4, ![8, 32, 256, 1024]⟩
abbrev S8x32x1024x256 : Shape := ⟨4, ![8, 32, 1024, 256]⟩
abbrev S8x32x256x256 : Shape := ⟨4, ![8, 32, 256, 256]⟩

abbrev nBuf : Space → Nat
  | .hbm => 245
  | .vmem => 0
  | .smem => 0
  | _ => 0

abbrev hbmTy0_0 (i : Nat) : BufTy := match i % 128 with
  | 0 => ⟨S8x8192x1024, .f32⟩
  | 1 => ⟨S8x1x1024, .f32⟩
  | 2 => ⟨S8x1x1024, .f32⟩
  | 3 => ⟨S1x1024, .f32⟩
  | 4 => ⟨S1x1024x7696, .f32⟩
  | 5 => ⟨S1x16, .f32⟩
  | 6 => ⟨S1x5x2048, .f32⟩
  | 7 => ⟨S1x2048, .f32⟩
  | 8 => ⟨S1x128, .f32⟩
  | 9 => ⟨S1x128, .f32⟩
  | 10 => ⟨S1024, .f32⟩
  | 11 => ⟨S8x8192x1024, .f32⟩
  | 12 => ⟨S_, .f32⟩
  | 13 => ⟨S8x8192, .f32⟩
  | 14 => ⟨S8x8192x1, .f32⟩
  | 15 => ⟨S_, .f32⟩
  | 16 => ⟨S8x8192x1, .f32⟩
  | 17 => ⟨S8x8192x1, .f32⟩
  | 18 => ⟨S_, .f32⟩
  | 19 => ⟨S8x8192x1, .f32⟩
  | 20 => ⟨S8x8192x1, .f32⟩
  | 21 => ⟨S8x8192x1, .f32⟩
  | 22 => ⟨S8x8192x1024, .f32⟩
  | 23 => ⟨S8x8192x1024, .f32⟩
  | 24 => ⟨S1x1x1024, .f32⟩
  | 25 => ⟨S8x8192x1024, .f32⟩
  | 26 => ⟨S8x8192x1024, .f32⟩
  | 27 => ⟨S_, .f32⟩
  | 28 => ⟨S8x1x1024, .f32⟩
  | 29 => ⟨S8x1x1024, .f32⟩
  | 30 => ⟨S8x8192x1024, .f32⟩
  | 31 => ⟨S8x8192x1024, .f32⟩
  | 32 => ⟨S8x8192x1024, .f32⟩
  | 33 => ⟨S8x8192x1024, .f32⟩
  | 34 => ⟨S1024x7696, .f32⟩
  | 35 => ⟨S8x8192x7696, .f32⟩
  | 36 => ⟨S8x8192x1024, .f32⟩
  | 37 => ⟨S8x8192x1024, .f32⟩
  | 38 => ⟨S8x8192x1024, .f32⟩
  | 39 => ⟨S8x8192x1024, .f32⟩
  | 40 => ⟨S8x8192x16, .f32⟩
  | 41 => ⟨S8x8192x1024, .f32⟩
  | 42 => ⟨S8x8192x256, .f32⟩
  | 43 => ⟨S8x8192x256, .f32⟩
  | 44 => ⟨S8x8192x2048, .f32⟩
  | 45 => ⟨S8x8192x2048, .f32⟩
  | 46 => ⟨S5x2048, .f32⟩
  | 47 => ⟨S2048, .f32⟩
  | 48 => ⟨S_, .i32⟩
  | 49 => ⟨S_, .f32⟩
  | 50 => ⟨S8x8196x2048, .f32⟩
  | 51 => ⟨S8x8192x2048, .f32⟩
  | 52 => ⟨S1x2048, .f32⟩
  | 53 => ⟨S2048, .f32⟩
  | 54 => ⟨S1x1x2048, .f32⟩
  | 55 => ⟨S8x8192x2048, .f32⟩
  | 56 => ⟨S8x8192x2048, .f32⟩
  | 57 => ⟨S_, .f32⟩
  | 58 => ⟨S8x8192x2048, .f32⟩
  | 59 => ⟨S8x8192x2048, .f32⟩
  | 60 => ⟨S8x8192x2048, .f32⟩
  | 61 => ⟨S1x2048, .f32⟩
  | 62 => ⟨S2048, .f32⟩
  | 63 => ⟨S1x1x2048, .f32⟩
  | 64 => ⟨S8x8192x2048, .f32⟩
  | 65 => ⟨S8x8192x2048, .f32⟩
  | 66 => ⟨S8x8192x2048, .f32⟩
  | 67 => ⟨S8x8192x2048, .f32⟩
  | 68 => ⟨S1x2048, .f32⟩
  | 69 => ⟨S2048, .f32⟩
  | 70 => ⟨S1x1x2048, .f32⟩
  | 71 => ⟨S8x8192x2048, .f32⟩
  | 72 => ⟨S8x8192x2048, .f32⟩
  | 73 => ⟨S8x8192x2048, .f32⟩
  | 74 => ⟨S8x8192x2048, .f32⟩
  | 75 => ⟨S1x2048, .f32⟩
  | 76 => ⟨S2048, .f32⟩
  | 77 => ⟨S1x1x2048, .f32⟩
  | 78 => ⟨S8x8192x2048, .f32⟩
  | 79 => ⟨S8x8192x2048, .f32⟩
  | 80 => ⟨S8x8192x2048, .f32⟩
  | 81 => ⟨S8x8192x2048, .f32⟩
  | 82 => ⟨S1x2048, .f32⟩
  | 83 => ⟨S2048, .f32⟩
  | 84 => ⟨S1x1x2048, .f32⟩
  | 85 => ⟨S8x8192x2048, .f32⟩
  | 86 => ⟨S8x8192x2048, .f32⟩
  | 87 => ⟨S8x8192x2048, .f32⟩
  | 88 => ⟨S1x1x2048, .f32⟩
  | 89 => ⟨S8x8192x2048, .f32⟩
  | 90 => ⟨S8x8192x2048, .f32⟩
  | 91 => ⟨S8x8192x2048, .f32⟩
  | 92 => ⟨S8x8192x2048, .f32⟩
  | 93 => ⟨S_, .f32⟩
  | 94 => ⟨S8x8192x2048, .f32⟩
  | 95 => ⟨S8x8192x2048, .f32⟩
  | 96 => ⟨S_, .f32⟩
  | 97 => ⟨S8x8192x2048, .f32⟩
  | 98 => ⟨S8x8192x2048, .f32⟩
  | 99 => ⟨S8x8192x2048, .f32⟩
  | 100 => ⟨S8x8192x1024, .f32⟩
  | 101 => ⟨S8x8192x1024, .f32⟩
  | 102 => ⟨S_, .f32⟩
  | 103 => ⟨S8x8192x1024, .f32⟩
  | 104 => ⟨S8x8192x1024, .f32⟩
  | 105 => ⟨S128, .f32⟩
  | 106 => ⟨S128x64, .f32⟩
  | 107 => ⟨S8192, .f32⟩
  | 108 => ⟨S64, .f32⟩
  | 109 => ⟨S1x64, .f32⟩
  | 110 => ⟨S128x64, .f32⟩
  | 111 => ⟨S8192, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S8192x1, .f32⟩
  | 121 => ⟨S1x32, .f32⟩
  | 122 => ⟨S8192x32, .f32⟩
  | 123 => ⟨S8192x32, .f32⟩
  | 124 => ⟨S8192x32, .f32⟩
  | 125 => ⟨S8192x1, .f32⟩
  | 126 => ⟨S1x32, .f32⟩
  | 127 => ⟨S8192x32, .f32⟩
  | _ => ⟨S8x8192x1024, .f32⟩

abbrev hbmTy0_1 (i : Nat) : BufTy := match i % 128 with
  | 0 => ⟨S8192x32, .f32⟩
  | 1 => ⟨S8192x32, .f32⟩
  | 2 => ⟨S8192x64, .f32⟩
  | 3 => ⟨S8192x64, .f32⟩
  | 4 => ⟨S8192x1x64, .f32⟩
  | 5 => ⟨S8192x64, .f32⟩
  | 6 => ⟨S8192x1x64, .f32⟩
  | 7 => ⟨S8x8192x8x128, .f32⟩
  | 8 => ⟨S128, .f32⟩
  | 9 => ⟨S8x8192x8x128, .f32⟩
  | 10 => ⟨S_, .f32⟩
  | 11 => ⟨S8x8192x8, .f32⟩
  | 12 => ⟨S8x8192x8x1, .f32⟩
  | 13 => ⟨S_, .f32⟩
  | 14 => ⟨S8x8192x8x1, .f32⟩
  | 15 => ⟨S8x8192x8x1, .f32⟩
  | 16 => ⟨S_, .f32⟩
  | 17 => ⟨S8x8192x8x1, .f32⟩
  | 18 => ⟨S8x8192x8x1, .f32⟩
  | 19 => ⟨S8x8192x8x1, .f32⟩
  | 20 => ⟨S8x8192x8x128, .f32⟩
  | 21 => ⟨S8x8192x8x128, .f32⟩
  | 22 => ⟨S1x1x1x128, .f32⟩
  | 23 => ⟨S8x8192x8x128, .f32⟩
  | 24 => ⟨S8x8192x8x128, .f32⟩
  | 25 => ⟨S8x8192x8x64, .f32⟩
  | 26 => ⟨S8x8192x8x64, .f32⟩
  | 27 => ⟨S1x8192x1x64, .f32⟩
  | 28 => ⟨S8x8192x8x64, .f32⟩
  | 29 => ⟨S8x8192x8x64, .f32⟩
  | 30 => ⟨S1x8192x1x64, .f32⟩
  | 31 => ⟨S8x8192x8x64, .f32⟩
  | 32 => ⟨S8x8192x8x64, .f32⟩
  | 33 => ⟨S8x8192x8x64, .f32⟩
  | 34 => ⟨S1x8192x1x64, .f32⟩
  | 35 => ⟨S8x8192x8x64, .f32⟩
  | 36 => ⟨S8x8192x8x64, .f32⟩
  | 37 => ⟨S1x8192x1x64, .f32⟩
  | 38 => ⟨S8x8192x8x64, .f32⟩
  | 39 => ⟨S8x8192x8x64, .f32⟩
  | 40 => ⟨S8x8192x8x64, .f32⟩
  | 41 => ⟨S8x8192x8x64x1, .f32⟩
  | 42 => ⟨S8x8192x8x64x1, .f32⟩
  | 43 => ⟨S8x8192x8x64x2, .f32⟩
  | 44 => ⟨S8x8192x8x128, .f32⟩
  | 45 => ⟨S8x8192x8x64x2, .f32⟩
  | 46 => ⟨S8x8192x8x2x64, .f32⟩
  | 47 => ⟨S8x8192x1024, .f32⟩
  | 48 => ⟨S8x8192x2x128, .f32⟩
  | 49 => ⟨S128, .f32⟩
  | 50 => ⟨S8x8192x2x128, .f32⟩
  | 51 => ⟨S_, .f32⟩
  | 52 => ⟨S8x8192x2, .f32⟩
  | 53 => ⟨S8x8192x2x1, .f32⟩
  | 54 => ⟨S_, .f32⟩
  | 55 => ⟨S8x8192x2x1, .f32⟩
  | 56 => ⟨S8x8192x2x1, .f32⟩
  | 57 => ⟨S_, .f32⟩
  | 58 => ⟨S8x8192x2x1, .f32⟩
  | 59 => ⟨S8x8192x2x1, .f32⟩
  | 60 => ⟨S8x8192x2x1, .f32⟩
  | 61 => ⟨S8x8192x2x128, .f32⟩
  | 62 => ⟨S8x8192x2x128, .f32⟩
  | 63 => ⟨S1x1x1x128, .f32⟩
  | 64 => ⟨S8x8192x2x128, .f32⟩
  | 65 => ⟨S8x8192x2x128, .f32⟩
  | 66 => ⟨S8x8192x2x64, .f32⟩
  | 67 => ⟨S8x8192x2x64, .f32⟩
  | 68 => ⟨S1x8192x1x64, .f32⟩
  | 69 => ⟨S8x8192x2x64, .f32⟩
  | 70 => ⟨S8x8192x2x64, .f32⟩
  | 71 => ⟨S1x8192x1x64, .f32⟩
  | 72 => ⟨S8x8192x2x64, .f32⟩
  | 73 => ⟨S8x8192x2x64, .f32⟩
  | 74 => ⟨S8x8192x2x64, .f32⟩
  | 75 => ⟨S1x8192x1x64, .f32⟩
  | 76 => ⟨S8x8192x2x64, .f32⟩
  | 77 => ⟨S8x8192x2x64, .f32⟩
  | 78 => ⟨S1x8192x1x64, .f32⟩
  | 79 => ⟨S8x8192x2x64, .f32⟩
  | 80 => ⟨S8x8192x2x64, .f32⟩
  | 81 => ⟨S8x8192x2x64, .f32⟩
  | 82 => ⟨S8x8192x2x64x1, .f32⟩
  | 83 => ⟨S8x8192x2x64x1, .f32⟩
  | 84 => ⟨S8x8192x2x64x2, .f32⟩
  | 85 => ⟨S8x8192x2x128, .f32⟩
  | 86 => ⟨S8x8192x2x64x2, .f32⟩
  | 87 => ⟨S8x8192x2x2x64, .f32⟩
  | 88 => ⟨S8x8192x256, .f32⟩
  | 89 => ⟨S8x32x256x1024, .f32⟩
  | 90 => ⟨S8x32x1024x256, .f32⟩
  | 91 => ⟨S8x8192x1024, .f32⟩
  | 92 => ⟨S8x8192x1024, .f32⟩
  | 93 => ⟨S_, .f32⟩
  | 94 => ⟨S8x8192x1024, .f32⟩
  | 95 => ⟨S8x8192x1024, .f32⟩
  | 96 => ⟨S_, .f32⟩
  | 97 => ⟨S8x8192x1024, .f32⟩
  | 98 => ⟨S8x8192x1024, .f32⟩
  | 99 => ⟨S8x32x256x256, .f32⟩
  | 100 => ⟨S8x32x256x256, .f32⟩
  | 101 => ⟨S8x8192x2048, .f32⟩
  | 102 => ⟨S8x8192x2048, .f32⟩
  | 103 => ⟨S_, .f32⟩
  | 104 => ⟨S8x8192x2048, .f32⟩
  | 105 => ⟨S8x8192x2048, .f32⟩
  | 106 => ⟨S_, .f32⟩
  | 107 => ⟨S8x8192x2048, .f32⟩
  | 108 => ⟨S8x8192x2048, .f32⟩
  | 109 => ⟨S8x8192x1024, .bf16⟩
  | 110 => ⟨S8x32x1024x256, .bf16⟩
  | 111 => ⟨S8x8192x1024, .bf16⟩
  | 112 => ⟨S8x8192x1024, .bf16⟩
  | 113 => ⟨S8x8192x1024, .bf16⟩
  | 114 => ⟨S8x8192x256, .bf16⟩
  | 115 => ⟨S8x32x256x256, .bf16⟩
  | 116 => ⟨S8x8192x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_4 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_5 : Ref sig .tc := ⟨.hbm, 114, rfl⟩
abbrev main_v88 : Ref sig .tc := ⟨.hbm, 115, rfl⟩
abbrev main_v89 : Ref sig .tc := ⟨.hbm, 116, rfl⟩
abbrev main_cst_6 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_7 : Ref sig .tc := ⟨.hbm, 138, rfl⟩
abbrev main_v110 : Ref sig .tc := ⟨.hbm, 139, rfl⟩
abbrev main_v111 : Ref sig .tc := ⟨.hbm, 140, rfl⟩
abbrev main_cst_8 : Ref sig .tc := ⟨.hbm, 141, rfl⟩
abbrev main_v112 : Ref sig .tc := ⟨.hbm, 142, rfl⟩
abbrev main_v113 : Ref sig .tc := ⟨.hbm, 143, rfl⟩
abbrev main_cst_9 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_10 : Ref sig .tc := ⟨.hbm, 179, rfl⟩
abbrev main_v148 : Ref sig .tc := ⟨.hbm, 180, rfl⟩
abbrev main_v149 : Ref sig .tc := ⟨.hbm, 181, rfl⟩
abbrev main_cst_11 : Ref sig .tc := ⟨.hbm, 182, rfl⟩
abbrev main_v150 : Ref sig .tc := ⟨.hbm, 183, rfl⟩
abbrev main_v151 : Ref sig .tc := ⟨.hbm, 184, rfl⟩
abbrev main_cst_12 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_cst_13 : Ref sig .tc := ⟨.hbm, 221, rfl⟩
abbrev main_v187 : Ref sig .tc := ⟨.hbm, 222, rfl⟩
abbrev main_v188 : Ref sig .tc := ⟨.hbm, 223, rfl⟩
abbrev main_cst_14 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_15 : Ref sig .tc := ⟨.hbm, 231, rfl⟩
abbrev main_v195 : Ref sig .tc := ⟨.hbm, 232, rfl⟩
abbrev main_v196 : Ref sig .tc := ⟨.hbm, 233, rfl⟩
abbrev main_cst_16 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩

abbrev nD : Nat := 1
abbrev τ : Topo := Topo.v7x

variable {F : FTy → Type} [FloatOps F]
-- ==== Proof.Attn.Chunk.lean ====
module

public import proofs.«01_k».proof.Proof.Gen.KernelIdeal.Value
public import Idealize.ShloMosaic.Lib.Pointwise
public import Idealize.ShloMosaic.Lib.ValueIdx
public import Idealize.ShloMosaic.Lib.Pipeline.ValueKit.Tiles

@[expose] public section

set_option maxRecDepth 16384

noncomputable section

/-! The bounded attention kernel on one chunk of keys: stacked scaled queries, weights, and what a chunk adds to the
numerator and to the denominator. -/

namespace Cert.KernelIdeal.Chunk

open Cert.KernelIdeal Cert.KernelIdeal.Gen Idealize.ShloMosaic

/-- The scale as the kernel reads it: the head dimension's scale over `log 2`. -/
abbrev scale : EReal := ((11863283 / 134217728 * (Real.log 2)⁻¹ : ℝ) : EReal)

theorem named_scale : (Named.named κ "scale_log2e" 0x3E0293EE#32 : Ideal .f32) = scale :=
  IdealRules.named_const.ideal_named_scalar _ _ _ _ rfl

/-- Row `r` of the stacked queries is query `r mod 512` of head `r / 512`, scaled. -/
theorem queries_apply (x : Vec Ideal S1x512x512 .f32) (r : Fin 2048) (d : Fin 128) :
    k0_pay2 (F := Ideal) x (ix2 r d) = x (ix3 0 ⟨r % 512, by omega⟩ ⟨r / 512 * 128 + d, by omega⟩) * scale := by
  have e : ∀ (a a' b b' : Fin 512), a.val = a'.val → b.val = b'.val → x (ix3 0 a b) = x (ix3 0 a' b') := by
    intro a a' b b' ha hb
    rw [Fin.ext ha, Fin.ext hb]
  pointwise [k0_pay2]
  rw [named_scale]
  split_ifs
  all_goals (congr 1; apply e <;> (dsimp only; omega))

/-- A latent chunk's scores less the bound, as powers of two. -/
def weights (k : FVec Ideal S1024x128 .bf16) (q : FVec Ideal S2048x128 .bf16) (b : FVec Ideal S1x1 .f32) : FVec Ideal S1024x2048 .f32 :=
  exp2 (subf (matmul dot_S1024x128_S2048x128_S1024x2048_1_1_0_0_n_n none k q (constant S1024x2048 .f32 0x00000000#32))
    (broadcastTo S1024x2048 b broadcasts_S1x1_S1024x2048))

theorem weights_apply (k : FVec Ideal S1024x128 .bf16) (q : FVec Ideal S2048x128 .bf16) (b : FVec Ideal S1x1 .f32) (j : Fin 1024) (r : Fin 2048) :
    weights k q b (ix2 j r) = Ideal.exp2 ((∑ d : Fin 128, k (ix2 j d) * q (ix2 r d)) - b (ix2 0 0)) := by
  pointwise [weights]
  rfl

/-- The context's scores less the bound, as powers of two. -/
def weightsCtx (k : FVec Ideal S256x128 .bf16) (q : FVec Ideal S2048x128 .bf16) (b : FVec Ideal S1x1 .f32) : FVec Ideal S256x2048 .f32 :=
  exp2 (subf (matmul dot_S256x128_S2048x128_S256x2048_1_1_0_0_n_n none k q (constant S256x2048 .f32 0x00000000#32))
    (broadcastTo S256x2048 b broadcasts_S1x1_S256x2048))

theorem weightsCtx_apply (k : FVec Ideal S256x128 .bf16) (q : FVec Ideal S2048x128 .bf16) (b : FVec Ideal S1x1 .f32) (j : Fin 256) (r : Fin 2048) :
    weightsCtx k q b (ix2 j r) = Ideal.exp2 ((∑ d : Fin 128, k (ix2 j d) * q (ix2 r d)) - b (ix2 0 0)) := by
  pointwise [weightsCtx]
  rfl

/-- What a latent chunk adds to the numerator. -/
def numPart (v : FVec Ideal S128x1024 .bf16) (p : FVec Ideal S1024x2048 .f32) : FVec Ideal S128x2048 .f32 :=
  matmul dot_S128x1024_S1024x2048_S128x2048_1_0_0_1_n_n none v (truncf .bf16 p bitsLt_bf16_f32) (constant S128x2048 .f32 0x00000000#32)

theorem numPart_apply (v : FVec Ideal S128x1024 .bf16) (p : FVec Ideal S1024x2048 .f32) (d : Fin 128) (r : Fin 2048) :
    numPart v p (ix2 d r) = ∑ j : Fin 1024, v (ix2 d j) * p (ix2 j r) := by
  pointwise [numPart]

/-- What the context adds to the numerator. -/
def numCtx (v : FVec Ideal S128x256 .bf16) (p : FVec Ideal S256x2048 .f32) : FVec Ideal S128x2048 .f32 :=
  matmul dot_S128x256_S256x2048_S128x2048_1_0_0_1_n_n none v (truncf .bf16 p bitsLt_bf16_f32) (constant S128x2048 .f32 0x00000000#32)

theorem numCtx_apply (v : FVec Ideal S128x256 .bf16) (p : FVec Ideal S256x2048 .f32) (d : Fin 128) (r : Fin 2048) :
    numCtx v p (ix2 d r) = ∑ j : Fin 256, v (ix2 d j) * p (ix2 j r) := by
  pointwise [numCtx]

/-- What a latent chunk adds to the denominator. -/
def denPart (p : FVec Ideal S1024x2048 .f32) : FVec Ideal S1x2048 .f32 :=
  shapeCast S1x2048 (multiReduction .add [0] S2048 p 0x00000000#32 reduces_S1024x2048_S2048 (.inl rfl) rfl) shapeCasts_S2048_S1x2048

theorem denPart_apply (p : FVec Ideal S1024x2048 .f32) (r : Fin 2048) :
    denPart p (ix2 0 r) = ∑ j : Fin 1024, p (ix2 j r) := by
  pointwise [denPart]

/-- What the context adds to the denominator. -/
def denCtx (p : FVec Ideal S256x2048 .f32) : FVec Ideal S1x2048 .f32 :=
  shapeCast S1x2048 (multiReduction .add [0] S2048 p 0x00000000#32 reduces_S256x2048_S2048 (.inl rfl) rfl) shapeCasts_S2048_S1x2048

theorem denCtx_apply (p : FVec Ideal S256x2048 .f32) (r : Fin 2048) :
    denCtx p (ix2 0 r) = ∑ j : Fin 256, p (ix2 j r) := by
  pointwise [denCtx]

/-- A chunk of keys as the kernel casts it. -/
abbrev keysOf (k : Vec Ideal S1x1024x128 .bf16) : FVec Ideal S1024x128 .bf16 := shapeCast S1024x128 k shapeCasts_S1x1024x128_S1024x128

/-- Four value tiles side by side. -/
def valuesOf (a b c d : Vec Ideal S1x1x128x256 .bf16) : FVec Ideal S128x1024 .bf16 :=
  concatenate S128x1024 1 [⟨S128x256, shapeCast S128x256 a shapeCasts_S1x1x128x256_S128x256⟩, ⟨S128x256, shapeCast S128x256 b shapeCasts_S1x1x128x256_S128x256⟩,
    ⟨S128x256, shapeCast S128x256 c shapeCasts_S1x1x128x256_S128x256⟩, ⟨S128x256, shapeCast S128x256 d shapeCasts_S1x1x128x256_S128x256⟩]
    concatenates_S128x256_S128x256_S128x256_S128x256_S128x1024_d1

/-- The keys' coordinate `e` of key `s`. -/
def keyAt (x : Vec Ideal S1x8192x128 .bf16) (s : ℕ) (e : Fin 128) : EReal := x (ix3 0 ⟨s % 8192, by omega⟩ e)

/-- The values' coordinate `d` of key `s`, out of the transposed tiles. -/
def valAt (x : Vec Ideal S1x32x128x256 .bf16) (s : ℕ) (d : Fin 128) : EReal := x (ix4 0 ⟨s / 256 % 32, by omega⟩ d ⟨s % 256, by omega⟩)

/-- A chunk of keys loaded from row `1024 * n` on. -/
theorem keysOf_ld (x : Vec Ideal S1x8192x128 .bf16) (n : ℕ) (hn : n < 8) (inb) (j : Fin 1024) (e : Fin 128) :
    keysOf (View.ld x (Rect.unit (s := S1x8192x128) ![0, 1024 * n, 0] S1x1024x128.size inb)) (ix2 j e) = keyAt x (1024 * n + j) e := by
  unfold keysOf keyAt
  pointwise []
  exact congrArg (fun s => x (ix3 0 s e)) (Fin.ext (by show 1024 * n + j.val = (1024 * n + j.val) % 8192; omega))

/-- One value tile loaded at position `n`. -/
theorem tile_ld (x : Vec Ideal S1x32x128x256 .bf16) (n : ℕ) (hn : n < 32) (inb) (d : Fin 128) (j : Fin 256) (s : ℕ) (hs : s = 256 * n + j) :
    View.ld x (Rect.unit (s := S1x32x128x256) ![0, n, 0, 0] S1x1x128x256.size inb) (ix4 0 0 d j) = valAt x s d := by
  subst hs
  refine View.ld_unit_apply_of x _ _ _ _ _ fun a => ?_
  match a with
  | ⟨0, _⟩ => rfl
  | ⟨1, _⟩ => show (256 * n + j.val) / 256 % 32 = n + 0; omega
  | ⟨2, _⟩ => exact (Nat.zero_add _).symm
  | ⟨3, _⟩ => show (256 * n + j.val) % 256 = 0 + j.val; omega

/-- Four value tiles side by side, read at a key. -/
theorem valuesOf_apply (v0 v1 v2 v3 : Vec Ideal S1x1x128x256 .bf16) (f : ℕ → EReal) (d : Fin 128)
    (t0 : ∀ j : Fin 256, v0 (ix4 0 0 d j) = f j) (t1 : ∀ j : Fin 256, v1 (ix4 0 0 d j) = f (256 + j))
    (t2 : ∀ j : Fin 256, v2 (ix4 0 0 d j) = f (512 + j)) (t3 : ∀ j : Fin 256, v3 (ix4 0 0 d j) = f (768 + j)) (j : Fin 1024) :
    valuesOf v0 v1 v2 v3 (ix2 d j) = f j := by
  have hj := j.isLt
  pointwise [valuesOf]
  split_ifs
  all_goals first
    | exact t0 _
    | exact (t1 _).trans (congrArg f (by dsimp only <;> omega))
    | exact (t2 _).trans (congrArg f (by dsimp only <;> omega))
    | exact (t3 _).trans (congrArg f (by dsimp only <;> omega))

/-- Four value tiles loaded from position `4 * n` on. -/
theorem valuesOf_ld (x : Vec Ideal S1x32x128x256 .bf16) (n n0 n1 n2 n3 : ℕ) (hn : n < 8) (h0 : n0 = 4 * n) (h1 : n1 = 4 * n + 1) (h2 : n2 = 4 * n + 2) (h3 : n3 = 4 * n + 3)
    (i0 i1 i2 i3) (d : Fin 128) (j : Fin 1024) :
    valuesOf (View.ld x (Rect.unit (s := S1x32x128x256) ![0, n0, 0, 0] S1x1x128x256.size i0)) (View.ld x (Rect.unit (s := S1x32x128x256) ![0, n1, 0, 0] S1x1x128x256.size i1))
      (View.ld x (Rect.unit (s := S1x32x128x256) ![0, n2, 0, 0] S1x1x128x256.size i2)) (View.ld x (Rect.unit (s := S1x32x128x256) ![0, n3, 0, 0] S1x1x128x256.size i3)) (ix2 d j)
      = valAt x (1024 * n + j) d :=
  valuesOf_apply _ _ _ _ (fun s => valAt x (1024 * n + s) d) d
    (fun j => tile_ld x n0 (by omega) i0 d j _ (by omega)) (fun j => tile_ld x n1 (by omega) i1 d j _ (by omega))
    (fun j => tile_ld x n2 (by omega) i2 d j _ (by omega)) (fun j => tile_ld x n3 (by omega) i3 d j _ (by omega)) j

end Cert.KernelIdeal.Chunk

end
-- ==== Proof.Attn.Block.lean ====
module

public import proofs.«01_k».proof.Proof.Attn.Chunk

@[expose] public section

set_option maxRecDepth 16384

noncomputable section

/-! The bounded attention kernel's block: the quotient of the sums over all keys. -/

namespace Cert.KernelIdeal.Block

open Cert.KernelIdeal Cert.KernelIdeal.Gen Cert.KernelIdeal.Chunk Idealize.ShloMosaic

/-- The queries and the bound as the body loads them. -/
abbrev qs (x1 : Vec Ideal S1x512x512 .f32) : FVec Ideal S2048x128 .bf16 := k0_pay2 (View.ld x1 r0_0)
abbrev bd (x0 : Vec Ideal S1x1 .f32) : FVec Ideal S1x1 .f32 := k0_pay3 (View.ld x0 r0_1)
/-- The weights of a latent chunk, of the context. -/
abbrev latW (x0 : Vec Ideal S1x1 .f32) (x1 : Vec Ideal S1x512x512 .f32) (k : Vec Ideal S1x1024x128 .bf16) := weights (keysOf k) (qs x1) (bd x0)
abbrev ctxW (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) := weightsCtx (shapeCast S256x128 (View.ld x4 r0_2) shapeCasts_S1x256x128_S256x128) (qs x1) (bd x0)

/-- The numerator over the nine chunks. -/
def num (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) : FVec Ideal S128x2048 .f32 :=
  addf (addf (addf (addf (addf (addf (addf (addf (numCtx (shapeCast S128x256 (View.ld x5 r0_3) shapeCasts_S1x1x128x256_S128x256) (ctxW x0 x1 x2 x3 x4 x5))
    (numPart (valuesOf (View.ld x3 r0_5) (View.ld x3 r0_6) (View.ld x3 r0_7) (View.ld x3 r0_8)) (latW x0 x1 (View.ld x2 r0_4))))
    (numPart (valuesOf (View.ld x3 r0_10) (View.ld x3 r0_11) (View.ld x3 r0_12) (View.ld x3 r0_13)) (latW x0 x1 (View.ld x2 r0_9))))
    (numPart (valuesOf (View.ld x3 r0_15) (View.ld x3 r0_16) (View.ld x3 r0_17) (View.ld x3 r0_18)) (latW x0 x1 (View.ld x2 r0_14))))
    (numPart (valuesOf (View.ld x3 r0_20) (View.ld x3 r0_21) (View.ld x3 r0_22) (View.ld x3 r0_23)) (latW x0 x1 (View.ld x2 r0_19))))
    (numPart (valuesOf (View.ld x3 r0_25) (View.ld x3 r0_26) (View.ld x3 r0_27) (View.ld x3 r0_28)) (latW x0 x1 (View.ld x2 r0_24))))
    (numPart (valuesOf (View.ld x3 r0_30) (View.ld x3 r0_31) (View.ld x3 r0_32) (View.ld x3 r0_33)) (latW x0 x1 (View.ld x2 r0_29))))
    (numPart (valuesOf (View.ld x3 r0_35) (View.ld x3 r0_36) (View.ld x3 r0_37) (View.ld x3 r0_38)) (latW x0 x1 (View.ld x2 r0_34))))
    (numPart (valuesOf (View.ld x3 r0_40) (View.ld x3 r0_41) (View.ld x3 r0_42) (View.ld x3 r0_43)) (latW x0 x1 (View.ld x2 r0_39)))

/-- The denominator over the nine chunks. -/
def den (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) : FVec Ideal S1x2048 .f32 :=
  addf (addf (addf (addf (addf (addf (addf (addf (denCtx (ctxW x0 x1 x2 x3 x4 x5)) (denPart (latW x0 x1 (View.ld x2 r0_4)))) (denPart (latW x0 x1 (View.ld x2 r0_9)))) (denPart (latW x0 x1 (View.ld x2 r0_14)))) (denPart (latW x0 x1 (View.ld x2 r0_19)))) (denPart (latW x0 x1 (View.ld x2 r0_24)))) (denPart (latW x0 x1 (View.ld x2 r0_29)))) (denPart (latW x0 x1 (View.ld x2 r0_34)))) (denPart (latW x0 x1 (View.ld x2 r0_39)))

/-- The quotient the body stores, by stacked query. -/
theorem quotient_eq (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) :
    k0_pay37 (k0_pay42 x0 x1 x2 x3 x4 x5) (k0_pay43 x0 x1 x2 x3 x4 x5) (k0_pay48 x0 x1 x2 x3 x4 x5) (k0_pay49 x0 x1 x2 x3 x4 x5) (k0_pay50 x0 x1 x2 x3 x4 x5) (k0_pay51 x0 x1 x2 x3 x4 x5) (View.ld x3 r0_41) (View.ld x3 r0_42) (View.ld x3 r0_43)
      = transpose S2048x128 [1, 0] (divf (num x0 x1 x2 x3 x4 x5) (broadcastTo S128x2048 (den x0 x1 x2 x3 x4 x5) broadcasts_S1x2048_S128x2048)) transposes_S128x2048_p1_0_S2048x128 := by
  rfl

variable (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16)

theorem bd_apply : bd x0 (ix2 0 0) = x0 (ix2 0 0) := by
  show k0_pay3 (View.ld x0 r0_1) (ix2 0 0) = _
  rw [View.ld_unit_lit]
  swap
  · decide
  pointwise [k0_pay3]

/-- Row `r` of the stacked queries, coordinate `d`. -/
def qAt (x1 : Vec Ideal S1x512x512 .f32) (r : Fin 2048) (d : Fin 128) : EReal :=
  x1 (ix3 0 ⟨r % 512, by omega⟩ ⟨r / 512 * 128 + d, by omega⟩) * scale

theorem qs_apply (r : Fin 2048) (d : Fin 128) : qs x1 (ix2 r d) = qAt x1 r d := by
  show k0_pay2 (View.ld x1 r0_0) (ix2 r d) = _
  rw [View.ld_unit_lit]
  swap
  · decide
  exact queries_apply x1 r d

/-- The weight of latent key `s` for stacked query `r`. -/
def wAt (x0 : Vec Ideal S1x1 .f32) (x1 : Vec Ideal S1x512x512 .f32) (x2 : Vec Ideal S1x8192x128 .bf16) (r : Fin 2048) (s : ℕ) : EReal :=
  Ideal.exp2 ((∑ e : Fin 128, keyAt x2 s e * qAt x1 r e) - x0 (ix2 0 0))

/-- The weight of context key `j` for stacked query `r`. -/
def cAt (x0 : Vec Ideal S1x1 .f32) (x1 : Vec Ideal S1x512x512 .f32) (x4 : Vec Ideal S1x256x128 .bf16) (r : Fin 2048) (j : Fin 256) : EReal :=
  Ideal.exp2 ((∑ e : Fin 128, x4 (ix3 0 j e) * qAt x1 r e) - x0 (ix2 0 0))

theorem latW_ld (n m : ℕ) (hn : n < 8) (hm : m = 1024 * n) (inb) (j : Fin 1024) (r : Fin 2048) :
    latW x0 x1 (View.ld x2 (Rect.unit (s := S1x8192x128) ![0, m, 0] S1x1024x128.size inb)) (ix2 j r) = wAt x0 x1 x2 r (1024 * n + j) := by
  subst hm
  rw [latW, weights_apply, bd_apply]
  unfold wAt
  congr 2
  exact Finset.sum_congr rfl fun e _ => by rw [keysOf_ld x2 n hn inb j e, qs_apply]

theorem ctxW_apply (j : Fin 256) (r : Fin 2048) : ctxW x0 x1 x2 x3 x4 x5 (ix2 j r) = cAt x0 x1 x4 r j := by
  rw [ctxW, weightsCtx_apply, bd_apply]
  unfold cAt
  congr 2
  refine Finset.sum_congr rfl fun e _ => ?_
  rw [qs_apply]
  congr 1
  rw [View.ld_unit_lit]
  swap
  · decide
  pointwise []

/-- What chunk `n` adds to the numerator. -/
theorem numPart_ld (n m n0 n1 n2 n3 : ℕ) (hn : n < 8) (hm : m = 1024 * n) (h0 : n0 = 4 * n) (h1 : n1 = 4 * n + 1) (h2 : n2 = 4 * n + 2) (h3 : n3 = 4 * n + 3)
    (i i0 i1 i2 i3) (d : Fin 128) (r : Fin 2048) :
    numPart (valuesOf (View.ld x3 (Rect.unit (s := S1x32x128x256) ![0, n0, 0, 0] S1x1x128x256.size i0)) (View.ld x3 (Rect.unit (s := S1x32x128x256) ![0, n1, 0, 0] S1x1x128x256.size i1))
      (View.ld x3 (Rect.unit (s := S1x32x128x256) ![0, n2, 0, 0] S1x1x128x256.size i2)) (View.ld x3 (Rect.unit (s := S1x32x128x256) ![0, n3, 0, 0] S1x1x128x256.size i3)))
      (latW x0 x1 (View.ld x2 (Rect.unit (s := S1x8192x128) ![0, m, 0] S1x1024x128.size i))) (ix2 d r)
      = ∑ s ∈ Finset.range 1024, valAt x3 (1024 * n + s) d * wAt x0 x1 x2 r (1024 * n + s) := by
  rw [numPart_apply, Finset.sum_range]
  exact Finset.sum_congr rfl fun j _ => by rw [valuesOf_ld x3 n n0 n1 n2 n3 hn h0 h1 h2 h3, latW_ld x0 x1 x2 n m hn hm]

/-- What chunk `n` adds to the denominator. -/
theorem denPart_ld (n m : ℕ) (hn : n < 8) (hm : m = 1024 * n) (i) (r : Fin 2048) :
    denPart (latW x0 x1 (View.ld x2 (Rect.unit (s := S1x8192x128) ![0, m, 0] S1x1024x128.size i))) (ix2 0 r)
      = ∑ s ∈ Finset.range 1024, wAt x0 x1 x2 r (1024 * n + s) := by
  rw [denPart_apply, Finset.sum_range]
  exact Finset.sum_congr rfl fun j _ => latW_ld x0 x1 x2 n m hn hm i j r

/-- Eight chunks of 1024 added one after another are the sum over 8192. -/
theorem chunks (f : ℕ → EReal) (c : EReal) :
    c + ∑ s ∈ Finset.range 1024, f (1024 * 0 + s) + ∑ s ∈ Finset.range 1024, f (1024 * 1 + s) + ∑ s ∈ Finset.range 1024, f (1024 * 2 + s)
      + ∑ s ∈ Finset.range 1024, f (1024 * 3 + s) + ∑ s ∈ Finset.range 1024, f (1024 * 4 + s) + ∑ s ∈ Finset.range 1024, f (1024 * 5 + s)
      + ∑ s ∈ Finset.range 1024, f (1024 * 6 + s) + ∑ s ∈ Finset.range 1024, f (1024 * 7 + s) = c + ∑ s ∈ Finset.range 8192, f s := by
  rw [show (8192 : ℕ) = 1024 * 7 + 1024 from rfl, Finset.sum_range_add f (1024 * 7), show 1024 * 7 = 1024 * 6 + 1024 from rfl, Finset.sum_range_add f (1024 * 6),
    show 1024 * 6 = 1024 * 5 + 1024 from rfl, Finset.sum_range_add f (1024 * 5), show 1024 * 5 = 1024 * 4 + 1024 from rfl, Finset.sum_range_add f (1024 * 4),
    show 1024 * 4 = 1024 * 3 + 1024 from rfl, Finset.sum_range_add f (1024 * 3), show 1024 * 3 = 1024 * 2 + 1024 from rfl, Finset.sum_range_add f (1024 * 2),
    show 1024 * 2 = 1024 * 1 + 1024 from rfl, Finset.sum_range_add f (1024 * 1), show 1024 * 1 = 1024 * 0 + 1024 from rfl, Finset.sum_range_add f (1024 * 0)]
  simp only [Nat.mul_zero, Finset.range_zero, Finset.sum_empty, zero_add, add_assoc]

/-- The numerator is the sum over the context and all latent keys of value times weight. -/
theorem num_apply (d : Fin 128) (r : Fin 2048) :
    num x0 x1 x2 x3 x4 x5 (ix2 d r) = (∑ j : Fin 256, x5 (ix4 0 0 d j) * cAt x0 x1 x4 r j) + ∑ s ∈ Finset.range 8192, valAt x3 s d * wAt x0 x1 x2 r s := by
  have n0 := numPart_ld x0 x1 x2 x3 0 0 0 1 2 3 (by omega) rfl rfl rfl rfl rfl (by decide) (by decide) (by decide) (by decide) (by decide) d r
  have n1 := numPart_ld x0 x1 x2 x3 1 1024 4 5 6 7 (by omega) rfl rfl rfl rfl rfl (by decide) (by decide) (by decide) (by decide) (by decide) d r
  have n2 := numPart_ld x0 x1 x2 x3 2 2048 8 9 10 11 (by omega) rfl rfl rfl rfl rfl (by decide) (by decide) (by decide) (by decide) (by decide) d r
  have n3 := numPart_ld x0 x1 x2 x3 3 3072 12 13 14 15 (by omega) rfl rfl rfl rfl rfl (by decide) (by decide) (by decide) (by decide) (by decide) d r
  have n4 := numPart_ld x0 x1 x2 x3 4 4096 16 17 18 19 (by omega) rfl rfl rfl rfl rfl (by decide) (by decide) (by decide) (by decide) (by decide) d r
  have n5 := numPart_ld x0 x1 x2 x3 5 5120 20 21 22 23 (by omega) rfl rfl rfl rfl rfl (by decide) (by decide) (by decide) (by decide) (by decide) d r
  have n6 := numPart_ld x0 x1 x2 x3 6 6144 24 25 26 27 (by omega) rfl rfl rfl rfl rfl (by decide) (by decide) (by decide) (by decide) (by decide) d r
  have n7 := numPart_ld x0 x1 x2 x3 7 7168 28 29 30 31 (by omega) rfl rfl rfl rfl rfl (by decide) (by decide) (by decide) (by decide) (by decide) d r
  rw [← chunks]
  have hc : numCtx (shapeCast S128x256 (View.ld x5 r0_3) shapeCasts_S1x1x128x256_S128x256) (ctxW x0 x1 x2 x3 x4 x5) (ix2 d r) = ∑ j : Fin 256, x5 (ix4 0 0 d j) * cAt x0 x1 x4 r j := by
    rw [numCtx_apply]
    refine Finset.sum_congr rfl fun j _ => ?_
    rw [ctxW_apply]
    congr 1
    rw [View.ld_unit_lit]
    swap
    · decide
    pointwise []
  rw [← hc, ← n0, ← n1, ← n2, ← n3, ← n4, ← n5, ← n6, ← n7]
  rfl

/-- The denominator is the sum over the context and all latent keys of the weights. -/
theorem den_apply (r : Fin 2048) :
    den x0 x1 x2 x3 x4 x5 (ix2 0 r) = (∑ j : Fin 256, cAt x0 x1 x4 r j) + ∑ s ∈ Finset.range 8192, wAt x0 x1 x2 r s := by
  have n0 := denPart_ld x0 x1 x2 0 0 (by omega) rfl (by decide) r
  have n1 := denPart_ld x0 x1 x2 1 1024 (by omega) rfl (by decide) r
  have n2 := denPart_ld x0 x1 x2 2 2048 (by omega) rfl (by decide) r
  have n3 := denPart_ld x0 x1 x2 3 3072 (by omega) rfl (by decide) r
  have n4 := denPart_ld x0 x1 x2 4 4096 (by omega) rfl (by decide) r
  have n5 := denPart_ld x0 x1 x2 5 5120 (by omega) rfl (by decide) r
  have n6 := denPart_ld x0 x1 x2 6 6144 (by omega) rfl (by decide) r
  have n7 := denPart_ld x0 x1 x2 7 7168 (by omega) rfl (by decide) r
  rw [← chunks]
  have hc : denCtx (ctxW x0 x1 x2 x3 x4 x5) (ix2 0 r) = ∑ j : Fin 256, cAt x0 x1 x4 r j := by
    rw [denCtx_apply]
    exact Finset.sum_congr rfl fun j _ => ctxW_apply ..
  rw [← hc, ← n0, ← n1, ← n2, ← n3, ← n4, ← n5, ← n6, ← n7]
  rfl

/-- Numerator over denominator for stacked query `r`, coordinate `d`. -/
def quotAt (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) (r : Fin 2048) (d : Fin 128) : EReal :=
  Ideal.div ((∑ j : Fin 256, x5 (ix4 0 0 d j) * cAt x0 x1 x4 r j) + ∑ s ∈ Finset.range 8192, valAt x3 s d * wAt x0 x1 x2 r s)
    ((∑ j : Fin 256, cAt x0 x1 x4 r j) + ∑ s ∈ Finset.range 8192, wAt x0 x1 x2 r s)

theorem quotient_apply (r : Fin 2048) (d : Fin 128) :
    transpose S2048x128 [1, 0] (divf (num x0 x1 x2 x3 x4 x5) (broadcastTo S128x2048 (den x0 x1 x2 x3 x4 x5) broadcasts_S1x2048_S128x2048)) transposes_S128x2048_p1_0_S2048x128 (ix2 r d)
      = quotAt x0 x1 x2 x3 x4 x5 r d := by
  unfold quotAt
  rw [← num_apply, ← den_apply]
  generalize num x0 x1 x2 x3 x4 x5 = u
  generalize den x0 x1 x2 x3 x4 x5 = w
  pointwise []

/-- What one of the four stores writes: rows `512 * h` on of the quotient. -/
theorem stored_apply (q : FVec Ideal S2048x128 .f32) (h : ℕ) (hh : h < 4) (hs : S2048x128.Slices ![512 * h, 0] S512x128) (i : Fin 512) (d : Fin 128) :
    (shapeCast S1x512x128 (truncf .bf16 (extractStridedSlice S512x128 ![512 * h, 0] q hs) bitsLt_bf16_f32) shapeCasts_S512x128_S1x512x128) (ix3 0 i d)
      = q (ix2 ⟨512 * h + i, by omega⟩ d) := by
  pointwise []

/-- The value at a block's index, of the whole block. -/
def blockAt (x0 : Vec Ideal S1x1 .f32) (x1 : Vec Ideal S1x512x512 .f32) (x2 : Vec Ideal S1x8192x128 .bf16) (x3 : Vec Ideal S1x32x128x256 .bf16) (x4 : Vec Ideal S1x256x128 .bf16) (x5 : Vec Ideal S1x1x128x256 .bf16) (y : S1x512x512.Idx) : EReal :=
  quotAt x0 x1 x2 x3 x4 x5 ⟨(y 2).val / 128 * 512 + (y 1).val, by have h1 : (y 1).val < 512 := (y 1).isLt; have h2 : (y 2).val < 512 := (y 2).isLt; omega⟩ ⟨(y 2).val % 128, by omega⟩

theorem piece (h : ℕ) (hh : h < 4) (hs : S2048x128.Slices ![512 * h, 0] S512x128) (o : ℕ) (ho : o = 128 * h) (inb) (x : S1x512x128.Idx) :
    (shapeCast S1x512x128 (truncf .bf16 (extractStridedSlice S512x128 ![512 * h, 0]
        (transpose S2048x128 [1, 0] (divf (num x0 x1 x2 x3 x4 x5) (broadcastTo S128x2048 (den x0 x1 x2 x3 x4 x5) broadcasts_S1x2048_S128x2048)) transposes_S128x2048_p1_0_S2048x128) hs)
        bitsLt_bf16_f32) shapeCasts_S512x128_S1x512x128) x
      = blockAt x0 x1 x2 x3 x4 x5 ((Rect.unit (s := S1x512x512) ![0, 0, o] S1x512x128.size inb).emb x) := by
  subst ho
  obtain ⟨z, i, d, rfl⟩ : ∃ (z : Fin 1) (i : Fin 512) (d : Fin 128), x = ix3 z i d := ⟨x 0, x 1, x 2, eq_ix3 x⟩
  obtain rfl : z = 0 := Subsingleton.elim _ _
  rw [stored_apply _ h hh, quotient_apply]
  unfold blockAt
  congr 1
  · exact Fin.ext (by show 512 * h + i.val = (128 * h + 1 * d.val) / 128 * 512 + (0 + 1 * i.val); omega)
  · exact Fin.ext (by show d.val = (128 * h + 1 * d.val) % 128; omega)

/-- The block the body stores. -/
theorem out_apply (y : S1x512x512.Idx) : out0_6 x0 x1 x2 x3 x4 x5 y = blockAt x0 x1 x2 x3 x4 x5 y := by
  have hq := quotient_eq x0 x1 x2 x3 x4 x5
  refine View.canon_apply_of_pieces (Val := Elt Ideal) (e := .bf16) (blockAt x0 x1 x2 x3 x4 x5) _ ?_ y (Gen.cover0_6 _ _ _ _ y)
  intro p hp
  simp only [List.mem_cons, List.not_mem_nil, or_false] at hp
  rcases hp with rfl | rfl | rfl | rfl
  · intro x
    unfold k0_pay1 k0_pay41
    dsimp only
    rw [hq]
    exact piece x0 x1 x2 x3 x4 x5 3 (by omega) _ 384 rfl _ x
  · intro x
    unfold k0_pay40
    dsimp only
    rw [hq]
    exact piece x0 x1 x2 x3 x4 x5 2 (by omega) _ 256 rfl _ x
  · intro x
    unfold k0_pay39
    dsimp only
    rw [hq]
    exact piece x0 x1 x2 x3 x4 x5 1 (by omega) _ 128 rfl _ x
  · intro x
    unfold k0_pay38
    dsimp only
    rw [hq]
    exact piece x0 x1 x2 x3 x4 x5 0 (by omega) _ 0 rfl _ x

end Cert.KernelIdeal.Block

end
-- ==== Proof.Attn.Spec.lean ====
module

public import Idealize.ShloMosaic.Lib.Pointwise
public import Idealize.ShloMosaic.Lib.ValueIdx

@[expose] public section

set_option maxRecDepth 16384

noncomputable section

/-! The attention of one query head, as the kernels compute it. -/

namespace Cert.Attn

open Idealize.ShloMosaic

/-- The scale the kernels multiply the queries by: the head dimension's scale over `log 2`. -/
abbrev scale : EReal := ((11863283 / 134217728 * (Real.log 2)⁻¹ : ℝ) : EReal)

/-- Arrays of queries, of latent keys or values, of context keys or values. -/
abbrev Qs := (⟨4, ![8, 8192, 8, 128]⟩ : Shape).Idx → EReal
abbrev Ks := (⟨4, ![8, 8192, 2, 128]⟩ : Shape).Idx → EReal
abbrev Cs := (⟨4, ![8, 256, 2, 128]⟩ : Shape).Idx → EReal

/-- The key head of a query head: four query heads share one. -/
abbrev grp (h : Fin 8) : Fin 2 := ⟨h / 4, by omega⟩

/-- The weight of latent key `t` (taken modulo the number of keys): the power of two of the scaled score less `β`. -/
def wL (Q : Qs) (K : Ks) (β : EReal) (b : Fin 8) (s : Fin 8192) (h : Fin 8) (t : ℕ) : EReal :=
  Ideal.exp2 ((∑ e : Fin 128, K (ix4 b ⟨t % 8192, by omega⟩ (grp h) e) * (Q (ix4 b s h e) * scale)) - β)

/-- The weight of context key `j`. -/
def wC (Q : Qs) (KC : Cs) (β : EReal) (b : Fin 8) (s : Fin 8192) (h : Fin 8) (j : Fin 256) : EReal :=
  Ideal.exp2 ((∑ e : Fin 128, KC (ix4 b j (grp h) e) * (Q (ix4 b s h e) * scale)) - β)

/-- The attention as the kernels compute it: values times weights over the context and the latent keys, over the sum of
the weights. -/
def attn (Q : Qs) (K V : Ks) (KC VC : Cs) (β : EReal) (b : Fin 8) (s : Fin 8192) (h : Fin 8) (d : Fin 128) : EReal :=
  Ideal.div ((∑ j : Fin 256, VC (ix4 b j (grp h) d) * wC Q KC β b s h j) + ∑ t ∈ Finset.range 8192, V (ix4 b ⟨t % 8192, by omega⟩ (grp h) d) * wL Q K β b s h t)
    ((∑ j : Fin 256, wC Q KC β b s h j) + ∑ t ∈ Finset.range 8192, wL Q K β b s h t)

end Cert.Attn

end
-- ==== Proof.Attn.Arr.lean ====
module

public import proofs.«01_k».proof.Proof.Attn.Block
public import proofs.«01_k».proof.Proof.Attn.Spec
public import Idealize.ShloMosaic.Lib.Claim
public import Idealize.ShloMosaic.Lib.Pipeline.ValueKit

@[expose] public section

set_option maxRecDepth 16384

noncomputable section

/-! The bounded attention kernel's result array, as one function of its arguments. -/

namespace Cert.KernelIdeal.Arr

open Cert.KernelIdeal Cert.KernelIdeal.Gen Cert.KernelIdeal.Block Cert.KernelIdeal.Chunk Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument arrays. -/
abbrev aQ (c : Dev nD) : Attn.Qs := m ((c : Thread nD τ).loc main_arg0)
abbrev aK (c : Dev nD) : Attn.Ks := m ((c : Thread nD τ).loc main_arg1)
abbrev aV (c : Dev nD) : Attn.Ks := m ((c : Thread nD τ).loc main_arg2)
abbrev aKC (c : Dev nD) : Attn.Cs := m ((c : Thread nD τ).loc main_arg3)
abbrev aVC (c : Dev nD) : Attn.Cs := m ((c : Thread nD τ).loc main_arg4)

/-- The host's bound. -/
def bound (c : Dev nD) : EReal := (V m c main_v12 : S1x1.Idx → EReal) (ix2 0 0)

theorem q_at (c : Dev nD) (b : Fin 8) (s : Fin 8192) (x : Fin 1024) :
    (V m c main_v13 : S8x8192x1024.Idx → EReal) (ix3 b s x) = aQ m c (ix4 b s ⟨x / 128, by omega⟩ ⟨x % 128, by omega⟩) := by
  entry_read
  pointwise []
theorem k_at (c : Dev nD) (b : Fin 8) (s : Fin 8192) (x : Fin 256) :
    (V m c main_v15 : S8x8192x256.Idx → EReal) (ix3 b s x) = aK m c (ix4 b s ⟨x / 128, by omega⟩ ⟨x % 128, by omega⟩) := by
  entry_read
  pointwise []
theorem kc_at (c : Dev nD) (b : Fin 8) (s : Fin 256) (x : Fin 256) :
    (V m c main_v17 : S8x256x256.Idx → EReal) (ix3 b s x) = aKC m c (ix4 b s ⟨x / 128, by omega⟩ ⟨x % 128, by omega⟩) := by
  entry_read
  pointwise []
theorem v_at (c : Dev nD) (b : Fin 8) (u : Fin 32) (x : Fin 256) (w : Fin 256) :
    (V m c main_v20 : S8x32x256x256.Idx → EReal) (ix4 b u x w) = aV m c (ix4 b ⟨u * 256 + w, by omega⟩ ⟨x / 128, by omega⟩ ⟨x % 128, by omega⟩) := by
  entry_read
  pointwise []
theorem vc_at (c : Dev nD) (b : Fin 8) (x : Fin 256) (w : Fin 256) :
    (V m c main_v23 : S8x1x256x256.Idx → EReal) (ix4 b 0 x w) = aVC m c (ix4 b w ⟨x / 128, by omega⟩ ⟨x % 128, by omega⟩) := by
  entry_read
  pointwise []

/-- Where each window's block lies at a grid point. -/
theorem i0 : ∀ t : Fin cfg0.N, win0_0.index t = ![0, 0] := (by decide +kernel : ∀ t : Fin grid0.N, win0_0.index t = ![0, 0])
theorem i1 : ∀ t : Fin cfg0.N, win0_1.index t = ![(grid0.coords t 0).val, (grid0.coords t 2).val, (grid0.coords t 1).val] :=
  (by decide +kernel : ∀ t : Fin grid0.N, win0_1.index t = ![(grid0.coords t 0).val, (grid0.coords t 2).val, (grid0.coords t 1).val])
theorem i2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem i3 : ∀ t : Fin cfg0.N, win0_3.index t = ![(grid0.coords t 0).val, 0, (grid0.coords t 1).val, 0] :=
  (by decide +kernel : ∀ t : Fin grid0.N, win0_3.index t = ![(grid0.coords t 0).val, 0, (grid0.coords t 1).val, 0])
theorem i4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])
theorem i5 : ∀ t : Fin cfg0.N, win0_5.index t = ![(grid0.coords t 0).val, 0, (grid0.coords t 1).val, 0] :=
  (by decide +kernel : ∀ t : Fin grid0.N, win0_5.index t = ![(grid0.coords t 0).val, 0, (grid0.coords t 1).val, 0])
theorem i6 : ∀ t : Fin cfg0.N, win0_6.index t = ![(grid0.coords t 0).val, (grid0.coords t 2).val, (grid0.coords t 1).val] :=
  (by decide +kernel : ∀ t : Fin grid0.N, win0_6.index t = ![(grid0.coords t 0).val, (grid0.coords t 2).val, (grid0.coords t 1).val])

/-- A grid point's batch, head group and query block. -/
abbrev tb (t : Fin cfg0.N) : Fin 8 := grid0.coords t 0
abbrev tg (t : Fin cfg0.N) : Fin 2 := grid0.coords t 1
abbrev tq (t : Fin cfg0.N) : Fin 16 := grid0.coords t 2

theorem blk0 (c : Dev nD) (t : Fin cfg0.N) : (iblk m c 0 t : S1x1.Idx → EReal) (ix2 0 0) = bound m c := by
  unfold bound
  blk_simp [iblk]
  congr 1
  blk_ext [i0]

theorem blk1 (c : Dev nD) (t : Fin cfg0.N) (i j : Fin 512) :
    (iblk m c 1 t : S1x512x512.Idx → EReal) (ix3 0 i j) = (V m c main_v13 : S8x8192x1024.Idx → EReal)
      (ix3 (tb t) ⟨(tq t).val * 512 + i, by have := (tq t).isLt; omega⟩ ⟨(tg t).val * 512 + j, by have := (tg t).isLt; omega⟩) := by
  blk_simp [iblk]
  congr 1
  blk_ext [i1]
  exact Nat.add_zero _

theorem blk2 (c : Dev nD) (t : Fin cfg0.N) (s : Fin 8192) (e : Fin 128) :
    (iblk m c 2 t : S1x8192x128.Idx → EReal) (ix3 0 s e) = (V m c main_v15 : S8x8192x256.Idx → EReal)
      (ix3 (tb t) s ⟨(tg t).val * 128 + e, by have := (tg t).isLt; omega⟩) := by
  blk_simp [iblk]
  congr 1
  blk_ext [i2]
  exact Nat.add_zero _

theorem blk3 (c : Dev nD) (t : Fin cfg0.N) (u : Fin 32) (d : Fin 128) (w : Fin 256) :
    (iblk m c 3 t : S1x32x128x256.Idx → EReal) (ix4 0 u d w) = (V m c main_v20 : S8x32x256x256.Idx → EReal)
      (ix4 (tb t) u ⟨(tg t).val * 128 + d, by have := (tg t).isLt; omega⟩ w) := by
  blk_simp [iblk]
  congr 1
  blk_ext [i3]
  exact Nat.add_zero _

theorem blk4 (c : Dev nD) (t : Fin cfg0.N) (s : Fin 256) (e : Fin 128) :
    (iblk m c 4 t : S1x256x128.Idx → EReal) (ix3 0 s e) = (V m c main_v17 : S8x256x256.Idx → EReal)
      (ix3 (tb t) s ⟨(tg t).val * 128 + e, by have := (tg t).isLt; omega⟩) := by
  blk_simp [iblk]
  congr 1
  blk_ext [i4]
  exact Nat.add_zero _

theorem blk5 (c : Dev nD) (t : Fin cfg0.N) (d : Fin 128) (w : Fin 256) :
    (iblk m c 5 t : S1x1x128x256.Idx → EReal) (ix4 0 0 d w) = (V m c main_v23 : S8x1x256x256.Idx → EReal)
      (ix4 (tb t) 0 ⟨(tg t).val * 128 + d, by have := (tg t).isLt; omega⟩ w) := by
  blk_simp [iblk]
  congr 1
  blk_ext [i5]
  exact Nat.add_zero _

/-- The result array. -/
def G (c : Dev nD) (y : S8x8192x1024.Idx) : EReal :=
  Attn.attn (aQ m c) (aK m c) (aV m c) (aKC m c) (aVC m c) (bound m c) (y 0) (y 1) ⟨(y 2).val / 128, by have h : (y 2).val < 1024 := (y 2).isLt; omega⟩
    ⟨(y 2).val % 128, by omega⟩

section
variable (c : Dev nD) (t : Fin cfg0.N) (i j : Fin 512)

/-- The query row, the query head and the stacked row of a block index. -/
abbrev sOf : Fin 8192 := ⟨(tq t).val * 512 + i, by have := (tq t).isLt; omega⟩
abbrev hOf : Fin 8 := ⟨(tg t).val * 4 + j / 128, by have := (tg t).isLt; omega⟩
abbrev rOf : Fin 2048 := ⟨j / 128 * 512 + i, by omega⟩

theorem grp_hOf : Attn.grp (hOf t j) = tg t := Fin.ext (by have := (tg t).isLt; show ((tg t).val * 4 + j.val / 128) / 4 = (tg t).val; omega)

theorem q_entry (e : Fin 128) : qAt (iblk m c 1 t) (rOf i j) e = aQ m c (ix4 (tb t) (sOf t i) (hOf t j) e) * Attn.scale := by
  unfold qAt
  have hg := (tg t).isLt
  rw [blk1, q_at]
  congr 2
  congr 1 <;> apply Fin.ext <;> dsimp only <;> omega

theorem k_entry (n : ℕ) (e : Fin 128) : keyAt (iblk m c 2 t) n e = aK m c (ix4 (tb t) ⟨n % 8192, by omega⟩ (Attn.grp (hOf t j)) e) := by
  unfold keyAt
  have hg := (tg t).isLt
  rw [blk2, k_at, grp_hOf]
  congr 2 <;> apply Fin.ext <;> dsimp only <;> omega

theorem kc_entry (n : Fin 256) (e : Fin 128) : (iblk m c 4 t : S1x256x128.Idx → EReal) (ix3 0 n e) = aKC m c (ix4 (tb t) n (Attn.grp (hOf t j)) e) := by
  have hg := (tg t).isLt
  rw [blk4, kc_at, grp_hOf]
  congr 2 <;> apply Fin.ext <;> dsimp only <;> omega

theorem v_entry (n : ℕ) (d : Fin 128) : valAt (iblk m c 3 t) n d = aV m c (ix4 (tb t) ⟨n % 8192, by omega⟩ (Attn.grp (hOf t j)) d) := by
  unfold valAt
  have hg := (tg t).isLt
  rw [blk3, v_at, grp_hOf]
  congr 2 <;> apply Fin.ext <;> dsimp only <;> omega

theorem vc_entry (n : Fin 256) (d : Fin 128) : (iblk m c 5 t : S1x1x128x256.Idx → EReal) (ix4 0 0 d n) = aVC m c (ix4 (tb t) n (Attn.grp (hOf t j)) d) := by
  have hg := (tg t).isLt
  rw [blk5, vc_at, grp_hOf]
  congr 2 <;> apply Fin.ext <;> dsimp only <;> omega

theorem w_entry (n : ℕ) : wAt (iblk m c 0 t) (iblk m c 1 t) (iblk m c 2 t) (rOf i j) n = Attn.wL (aQ m c) (aK m c) (bound m c) (tb t) (sOf t i) (hOf t j) n := by
  unfold wAt Attn.wL
  rw [blk0]
  congr 2
  exact Finset.sum_congr rfl fun e _ => by rw [k_entry m c t j, q_entry]

theorem wc_entry (n : Fin 256) : cAt (iblk m c 0 t) (iblk m c 1 t) (iblk m c 4 t) (rOf i j) n = Attn.wC (aQ m c) (aKC m c) (bound m c) (tb t) (sOf t i) (hOf t j) n := by
  unfold cAt Attn.wC
  rw [blk0]
  congr 2
  exact Finset.sum_congr rfl fun e _ => by rw [kc_entry m c t j, q_entry]

/-- What a grid point stores at a block index. -/
theorem quot_entry (d : Fin 128) :
    quotAt (iblk m c 0 t) (iblk m c 1 t) (iblk m c 2 t) (iblk m c 3 t) (iblk m c 4 t) (iblk m c 5 t) (rOf i j) d
      = Attn.attn (aQ m c) (aK m c) (aV m c) (aKC m c) (aVC m c) (bound m c) (tb t) (sOf t i) (hOf t j) d := by
  unfold quotAt Attn.attn
  simp only [w_entry m c t i j, wc_entry m c t i j, v_entry m c t j, vc_entry m c t j]

end

/-- The block a grid point writes back. -/
theorem out_entry (c : Dev nD) (t : Fin cfg0.N) (i j : Fin 512) :
    out0_6 (iblk m c 0 t) (iblk m c 1 t) (iblk m c 2 t) (iblk m c 3 t) (iblk m c 4 t) (iblk m c 5 t) (ix3 0 i j)
      = G m c (ix3 (tb t) (sOf t i) ⟨(tg t).val * 512 + j, by have := (tg t).isLt; omega⟩) := by
  rw [out_apply]
  refine (quot_entry m c t i j ⟨j % 128, by omega⟩).trans ?_
  have hg := (tg t).isLt
  show Attn.attn (aQ m c) (aK m c) (aV m c) (aKC m c) (aVC m c) (bound m c) (tb t) (sOf t i) (hOf t j) ⟨j % 128, _⟩
    = Attn.attn (aQ m c) (aK m c) (aV m c) (aKC m c) (aVC m c) (bound m c) (tb t) (sOf t i) ⟨((tg t).val * 512 + j.val) / 128, _⟩ ⟨((tg t).val * 512 + j.val) % 128, _⟩
  congr 1 <;> apply Fin.ext <;> dsimp only <;> omega

/-- Where a block's index lies in the result array. -/
theorem emb6 (t : Fin cfg0.N) (i j : Fin 512) :
    (win0_6.blk t).view.emb (ix3 0 i j) = ix3 (tb t) (sOf t i) ⟨(tg t).val * 512 + j, by have := (tg t).isLt; omega⟩ := by
  blk_ext [i6]
  exact Nat.add_zero _

/-- The result array after the run. -/
theorem final (c : Dev nD) : (dats m 0 c).arrAt 6 cfg0.N = G m c := by
  refine (dats m 0 c).arrAt_eq_of_covers 6 (G m c) (by decide +kernel) fun t hf y => ?_
  blk_simp
  rw [after0_6]
  obtain ⟨z, i, j, rfl⟩ : ∃ (z : Fin 1) (i j : Fin 512), y = ix3 z i j := ⟨y 0, y 1, y 2, eq_ix3 y⟩
  obtain rfl : z = 0 := Subsingleton.elim _ _
  exact (out_entry m c t i j).trans (congrArg (G m c) (emb6 t i j).symm)

/-- The run: the result array, and the arguments as launched. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.Attn.Math.lean ====
module

public import proofs.«01_k».proof.Proof.Attn.Spec

@[expose] public section

set_option maxRecDepth 16384

noncomputable section

/-! The kernels' attention is the reference's: powers of two of scores over `log 2` against exponentials of scores. -/

namespace Cert.Attn

open Idealize.ShloMosaic

/-- Multiplying by a nonnegative real distributes over a sum of extended reals. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (by exact_mod_cast hr) (EReal.coe_ne_top r), ih]

/-- A sum of reals is the real sum. -/
theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- Sums of values weighted by powers of two over the sum of the weights is the softmax's weighted sum, whatever real is
taken off the scores on either side. -/
theorem softmax_eq {ι : Type} [Fintype ι] [Nonempty ι] (s : ι → ℝ) (v : ι → EReal) (β M : ℝ) :
    Ideal.div (∑ i, v i * Ideal.exp2 (((s i * (Real.log 2)⁻¹ : ℝ) : EReal) - (β : EReal))) (∑ i, Ideal.exp2 (((s i * (Real.log 2)⁻¹ : ℝ) : EReal) - (β : EReal)))
      = ∑ i, Ideal.div (Ideal.exp ((s i : EReal) - (M : EReal))) (∑ j, Ideal.exp ((s j : EReal) - (M : EReal))) * v i := by
  have hl : Real.log 2 ≠ 0 := (Real.log_pos (by norm_num)).ne'
  have hw : ∀ i, Ideal.exp2 (((s i * (Real.log 2)⁻¹ : ℝ) : EReal) - (β : EReal)) = ((Real.exp (s i - M) * Real.exp (M - β * Real.log 2) : ℝ) : EReal) := by
    intro i
    rw [← EReal.coe_sub, Ideal.exp2_coe]
    congr 1
    show (2 : ℝ) ^ (s i * (Real.log 2)⁻¹ - β) = _
    rw [Real.rpow_def_of_pos (by norm_num), ← Real.exp_add]
    congr 1
    field_simp
    ring
  have hu : ∀ i, Ideal.exp ((s i : EReal) - (M : EReal)) = ((Real.exp (s i - M) : ℝ) : EReal) := by
    intro i
    rw [← EReal.coe_sub, Ideal.exp_coe]
  have hU : 0 < ∑ i, Real.exp (s i - M) := Finset.sum_pos (fun i _ => Real.exp_pos _) Finset.univ_nonempty
  have hk : 0 < Real.exp (M - β * Real.log 2) := Real.exp_pos _
  simp only [hw, hu, coe_sum]
  rw [← Finset.sum_mul, Ideal.div_coe (mul_pos hU hk).ne', sum_mul_coe _ _ _ (by positivity)]
  refine Finset.sum_congr rfl fun i _ => ?_
  rw [Ideal.div_coe hU.ne', mul_assoc, ← EReal.coe_mul, ← EReal.coe_mul, mul_comm (v i)]
  congr 2
  field_simp

/-- A sum over `m` and one over the numbers below `n`, as one sum over `n + m`. -/
theorem join_gen (n m : ℕ) (A : Fin m → EReal) (B : ℕ → EReal) :
    (∑ j, A j) + ∑ t ∈ Finset.range n, B t = ∑ t : Fin (n + m), if h : t.val < n then B t else A ⟨t - n, by omega⟩ := by
  rw [Fin.sum_univ_add, Finset.sum_range, add_comm]
  refine congrArg₂ (· + ·) (Finset.sum_congr rfl fun t _ => Eq.symm (dif_pos (show (Fin.castAdd m t).val < n from t.isLt))) (Finset.sum_congr rfl fun t _ => ?_)
  refine Eq.trans ?_ (dif_neg (by show ¬ n + t.val < n; omega)).symm
  exact congrArg A (Fin.ext (by show t.val = n + t.val - n; omega))

/-- A maximum over finitely many reals, at least one, started from minus infinity, is a real. -/
theorem fold_max_real {ι : Type} (S : Finset ι) (hS : S.Nonempty) (v : ι → EReal) (hv : ∀ i, ∃ r : ℝ, v i = r) : ∃ r : ℝ, S.fold max ⊥ v = r := by
  classical
  induction hS using Finset.Nonempty.cons_induction with
  | singleton a =>
    obtain ⟨r, hr⟩ := hv a
    exact ⟨r, by simp [hr]⟩
  | cons a S ha hS ih =>
    obtain ⟨r, hr⟩ := hv a
    obtain ⟨q, hq⟩ := ih
    exact ⟨max r q, by rw [Finset.fold_cons, hr, hq, EReal.coe_strictMono.monotone.map_max]⟩

/-- Context keys after latent keys: one sum over all keys. -/
theorem join (A : Fin 256 → EReal) (B : ℕ → EReal) :
    (∑ j, A j) + ∑ t ∈ Finset.range 8192, B t = ∑ t : Fin 8448, if h : t.val < 8192 then B t else A ⟨t - 8192, by omega⟩ :=
  join_gen 8192 256 A B

/-- Latent keys, then context keys: the joined array at a key, a head and a coordinate. -/
def cat (K : Ks) (KC : Cs) (b : Fin 8) (t : Fin 8448) (g : Fin 2) (e : Fin 128) : EReal :=
  if h : t.val < 8192 then K (ix4 b ⟨t, h⟩ g e) else KC (ix4 b ⟨t - 8192, by omega⟩ g e)

/-- The reference's score of key `t`. -/
def score (Q : Qs) (K : Ks) (KC : Cs) (b : Fin 8) (s : Fin 8192) (h : Fin 8) (t : Fin 8448) : EReal :=
  (∑ e : Fin 128, Q (ix4 b s h e) * cat K KC b t (grp h) e) * ((11863283 / 134217728 : ℝ) : EReal)

/-- Scores of real queries and keys are real, and the kernels' scaled scores are these over `log 2`. -/
theorem score_real (Q : Qs) (K : Ks) (KC : Cs) (hQ : ∀ i, ∃ r : ℝ, Q i = r) (hK : ∀ i, ∃ r : ℝ, K i = r) (hKC : ∀ i, ∃ r : ℝ, KC i = r)
    (b : Fin 8) (s : Fin 8192) (h : Fin 8) (t : Fin 8448) :
    ∃ r : ℝ, score Q K KC b s h t = r ∧ ∑ e : Fin 128, cat K KC b t (grp h) e * (Q (ix4 b s h e) * scale) = ((r * (Real.log 2)⁻¹ : ℝ) : EReal) := by
  have hC : ∀ e, ∃ r : ℝ, cat K KC b t (grp h) e = r := by
    intro e
    unfold cat
    split_ifs
    · exact hK _
    · exact hKC _
  choose q hq using hQ
  choose k hk using hC
  refine ⟨(∑ e : Fin 128, q (ix4 b s h e) * k e) * (11863283 / 134217728), ?_, ?_⟩
  · unfold score
    simp only [hq, hk, ← EReal.coe_mul, coe_sum]
  · simp only [hq, hk, ← EReal.coe_mul, coe_sum]
    congr 1
    rw [Finset.sum_mul, Finset.sum_mul]
    exact Finset.sum_congr rfl fun e _ => by ring

/-- The reference's attention with `M` taken off the scores. -/
def ref (Q : Qs) (K V : Ks) (KC VC : Cs) (M : EReal) (b : Fin 8) (s : Fin 8192) (h : Fin 8) (d : Fin 128) : EReal :=
  ∑ t : Fin 8448, Ideal.div (Ideal.exp (score Q K KC b s h t - M)) (∑ t : Fin 8448, Ideal.exp (score Q K KC b s h t - M)) * cat V VC b t (grp h) d

/-- The kernels' attention is the reference's, for real queries and keys, a real bound and a real maximum. -/
theorem attn_eq_ref (Q : Qs) (K V : Ks) (KC VC : Cs) (hQ : ∀ i, ∃ r : ℝ, Q i = r) (hK : ∀ i, ∃ r : ℝ, K i = r) (hKC : ∀ i, ∃ r : ℝ, KC i = r)
    (β M : ℝ) (b : Fin 8) (s : Fin 8192) (h : Fin 8) (d : Fin 128) :
    attn Q K V KC VC β b s h d = ref Q K V KC VC M b s h d := by
  choose r hr hr' using score_real Q K KC hQ hK hKC b s h
  unfold attn ref
  simp only [hr]
  rw [← softmax_eq r (fun t => cat V VC b t (grp h) d) β M, join, join]
  have hw : ∀ t : Fin 8448, (if h' : t.val < 8192 then wL Q K β b s h t else wC Q KC β b s h ⟨t - 8192, by omega⟩)
      = Ideal.exp2 (((r t * (Real.log 2)⁻¹ : ℝ) : EReal) - (β : EReal)) := by
    intro t
    rw [← hr']
    unfold cat wL wC
    split_ifs with h'
    · simp only [Nat.mod_eq_of_lt h']
    · rfl
  refine congrArg₂ Ideal.div (Finset.sum_congr rfl fun t _ => ?_) (Finset.sum_congr rfl fun t _ => hw t)
  rw [← hw]
  unfold cat
  split_ifs with h'
  · simp only [Nat.mod_eq_of_lt h']
  · rfl

end Cert.Attn

end
-- ==== Proof.Attn.Bound.lean ====
module

public import proofs.«01_k».proof.Proof.Attn.Arr
public import proofs.«01_k».proof.Proof.Attn.Math

@[expose] public section

set_option maxRecDepth 16384

noncomputable section

/-! The bound that the host computes from the two gains is a real number when the gains are. -/

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- The two gains. -/
abbrev aGq (c : Dev nD) : S1x128.Idx → EReal := m ((c : Thread nD τ).loc main_arg5)
abbrev aGk (c : Dev nD) : S1x128.Idx → EReal := m ((c : Thread nD τ).loc main_arg6)

theorem c_margin : ∃ r : ℝ, (Ideal.ofBits FTy.f32 1124205056#32 : EReal) = r := by
  exact ⟨_, by simp [Ideal.ofBits, Ideal.ieee, -EReal.coe_mul]; rfl⟩
theorem c_scale : ∃ r : ℝ, (Ideal.ofBits FTy.f32 1040356334#32 : EReal) = r := by
  exact ⟨_, by simp [Ideal.ofBits, Ideal.ieee, -EReal.coe_mul]; rfl⟩
theorem c_bot : (Ideal.ofBits FTy.f32 4286578688#32 : EReal) = ⊥ := by
  simp [Ideal.ofBits, Ideal.ieee]

theorem abs_real {x : EReal} (h : ∃ r : ℝ, x = r) : ∃ r : ℝ, (FloatOps.absf (F := Ideal) (φ := .f32) x : EReal) = r := by
  obtain ⟨r, rfl⟩ := h
  exact ⟨max r (-r), (by push_cast; rfl : max (r : EReal) (-(r : EReal)) = _)⟩

theorem mul_real {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

theorem bound_real (c : Dev nD) (hq : ∀ i, ∃ r : ℝ, aGq m c i = r) (hk : ∀ i, ∃ r : ℝ, aGk m c i = r) :
    ∃ r : ℝ, bound m c = r := by
  unfold bound
  entry_read
  pointwise []
  rw [c_bot]
  refine mul_real (mul_real c_margin (Attn.fold_max_real _ Finset.univ_nonempty _ fun i => ?_)) (Attn.fold_max_real _ Finset.univ_nonempty _ fun i => ?_)
  · exact abs_real (mul_real (hq _) c_scale)
  · exact abs_real (hk _)

end Cert.KernelIdeal.Arr

end
-- ==== Proof.Attn.RefAt.lean ====
module

public import proofs.«01_k».proof.Proof.Attn.Math
public import proofs.«01_k».proof.Proof.Gen.ReferenceIdeal.Run
public import proofs.«01_k».proof.Proof.Gen.ReferenceIdeal.Read

@[expose] public section

set_option maxRecDepth 16384

noncomputable section

/-! The reference's result at an index. -/

namespace Cert.ReferenceIdeal.At

open Cert.ReferenceIdeal Cert.ReferenceIdeal.Gen Cert.ReferenceIdeal.Value Cert.ReferenceIdeal.Read Idealize.ShloMosaic Idealize.ShloMosaic.TcCoe Idealize.SL.Sem

variable (Q : Attn.Qs) (K V : Attn.Ks) (KC VC : Attn.Cs)

/-- A query head's place within its group. -/
abbrev sub (h : Fin 8) : Fin 4 := ⟨h % 4, by omega⟩

theorem v1_at (b : Fin 8) (h : Fin 8) (s : Fin 8192) (e : Fin 128) :
    val_main_v1 (F := Ideal) Q (ix5 b (Attn.grp h) (sub h) s e) = Q (ix4 b s h e) := by
  pointwise [val_main_v1, val_main_v0]

theorem v3_at (b : Fin 8) (g : Fin 2) (t : Fin 8448) (e : Fin 128) :
    val_main_v3 (F := Ideal) K KC (ix4 b g t e) = Attn.cat K KC b t g e := by
  unfold Attn.cat
  pointwise [val_main_v3, val_main_v2]

theorem v5_at (b : Fin 8) (g : Fin 2) (t : Fin 8448) (e : Fin 128) :
    val_main_v5 (F := Ideal) V VC (ix4 b g t e) = Attn.cat V VC b t g e := by
  unfold Attn.cat
  pointwise [val_main_v5, val_main_v4]

theorem scale_const : (FloatOps.ofBits .f32 0x3DB504F3#32 : Ideal .f32) = ((11863283 / 134217728 : ℝ) : EReal) := by
  simp [Ideal.ofBits, Ideal.ieee, -EReal.coe_mul]; norm_num

theorem bot_const : (FloatOps.ofBits .f32 0xFF800000#32 : Ideal .f32) = (⊥ : EReal) := by
  simp [Ideal.ofBits, Ideal.ieee]

theorem zero_const : (FloatOps.ofBits .f32 0x00000000#32 : Ideal .f32) = (0 : EReal) := by
  simp [Ideal.ofBits, Ideal.ieee]

theorem v8_at (b : Fin 8) (h : Fin 8) (s : Fin 8192) (t : Fin 8448) :
    val_main_v8 (F := Ideal) Q K KC (ix5 b (Attn.grp h) (sub h) s t) = Attn.score Q K KC b s h t := by
  rw [val_main_v8_apply, val_main_v6_apply, val_main_v7_apply, val_main_cst_apply, scale_const]
  unfold Attn.score
  refine congrArg (fun x : EReal => x * ((11863283 / 134217728 : ℝ) : EReal)) (Finset.sum_congr rfl fun e _ => ?_)
  rw [← v1_at Q b h s e, ← v3_at K KC b (Attn.grp h) t e]
  exact congrArg₂ (fun x y : EReal => x * y) (congrArg _ (eq_ix5 _)) (congrArg _ (eq_ix4 _))

/-- The maximum taken off the scores. -/
def maxAt (b : Fin 8) (h : Fin 8) (s : Fin 8192) : EReal := val_main_v11 (F := Ideal) Q K KC (ix4 b (Attn.grp h) (sub h) s)

theorem v15_at (b : Fin 8) (h : Fin 8) (s : Fin 8192) (t : Fin 8448) :
    val_main_v15 (F := Ideal) Q K KC (ix5 b (Attn.grp h) (sub h) s t) = Ideal.exp (Attn.score Q K KC b s h t - maxAt Q K KC b h s) := by
  rw [val_main_v15_apply, val_main_v14_apply, val_main_v13_apply, val_main_v12_apply, v8_at]
  refine congrArg (fun x : EReal => Ideal.exp (Attn.score Q K KC b s h t - x)) ?_
  exact congrArg (val_main_v11 (F := Ideal) Q K KC) (eq_ix4 _)

theorem v19_at (b : Fin 8) (h : Fin 8) (s : Fin 8192) (t : Fin 8448) :
    val_main_v19 (F := Ideal) Q K KC (ix5 b (Attn.grp h) (sub h) s t)
      = Ideal.div (Ideal.exp (Attn.score Q K KC b s h t - maxAt Q K KC b h s)) (∑ t : Fin 8448, Ideal.exp (Attn.score Q K KC b s h t - maxAt Q K KC b h s)) := by
  rw [val_main_v19_apply, val_main_v18_apply, val_main_v17_apply, val_main_v16_apply, val_main_cst_2_apply, zero_const, zero_add, v15_at]
  refine congrArg (Ideal.div _) (Finset.sum_congr rfl fun t _ => ?_)
  rw [← v15_at]
  exact congrArg (val_main_v15 (F := Ideal) Q K KC) (eq_ix5 _)

/-- The reference's result at a query, a column. -/
theorem out_at (b : Fin 8) (s : Fin 8192) (x : Fin 1024) :
    val_main_v23 (F := Ideal) Q K V KC VC (ix3 b s x)
      = Attn.ref Q K V KC VC (maxAt Q K KC b ⟨x / 128, by omega⟩ s) b s ⟨x / 128, by omega⟩ ⟨x % 128, by omega⟩ := by
  have e : val_main_v23 (F := Ideal) Q K V KC VC (ix3 b s x)
      = val_main_v20 (F := Ideal) Q K V KC VC (ix5 b (Attn.grp ⟨x / 128, by omega⟩) (sub ⟨x / 128, by omega⟩) s ⟨x % 128, by omega⟩) := by
    unfold val_main_v23 val_main_v22 val_main_v21
    generalize val_main_v20 (F := Ideal) Q K V KC VC = y
    pointwise []
    have hx : x.val / 512 = x.val / 128 / 4 := by omega
    exact congrArg (fun g : Fin 2 => y (ix5 b g ⟨x / 128 % 4, by omega⟩ s ⟨x % 128, by omega⟩)) (Fin.ext hx)
  rw [e, val_main_v20_apply]
  unfold Attn.ref
  refine Finset.sum_congr rfl fun t _ => ?_
  rw [← v19_at, ← v5_at]
  exact congrArg₂ (fun x y : EReal => x * y) (congrArg _ (eq_ix5 _)) (congrArg _ (eq_ix4 _))

/-- The maximum is a real when queries and keys are. -/
theorem maxAt_real (hQ : ∀ i, ∃ r : ℝ, Q i = r) (hK : ∀ i, ∃ r : ℝ, K i = r) (hKC : ∀ i, ∃ r : ℝ, KC i = r) (b : Fin 8) (h : Fin 8) (s : Fin 8192) :
    ∃ r : ℝ, maxAt Q K KC b h s = r := by
  unfold maxAt
  rw [val_main_v11_apply, val_main_v10_apply, val_main_cst_1_apply, bot_const]
  have h8 : ∀ t : Fin 8448, ∃ r : ℝ, val_main_v8 (F := Ideal) Q K KC (ix5 b (Attn.grp h) (sub h) s t) = r := by
    intro t
    rw [v8_at]
    obtain ⟨r, hr, _⟩ := Attn.score_real Q K KC hQ hK hKC b s h t
    exact ⟨r, hr⟩
  revert h8
  unfold val_main_v9
  generalize val_main_v8 (F := Ideal) Q K KC = y
  intro h8
  pointwise [val_main_cst_0]
  rw [show Ideal.ofBits .f32 0xFF800000#32 = (⊥ : EReal) from bot_const, max_eq_right bot_le]
  exact Attn.fold_max_real _ ⟨0, Finset.mem_univ _⟩ _ h8

end Cert.ReferenceIdeal.At

end
-- ==== Proof.Attn.Finite.lean ====
module

public import proofs.«01_k».proof.Pre_finite
public import proofs.«01_k».proof.Proof.Gen.Pre_finite
public import Idealize.ShloMosaic.Lib.Claim
public import Idealize.ShloMosaic.Lib.Pointwise

@[expose] public section

set_option maxRecDepth 16384

noncomputable section

/-! What the finiteness of the inputs gives: every entry of the five arrays is a real number. -/

namespace Cert.Attn

open Idealize.ShloMosaic Cert.Pre_finite

/-- The words of the precondition's comparisons. -/
theorem top_const : (FloatOps.ofBits .f32 0x7F800000#32 : Ideal .f32) = (⊤ : EReal) := by
  simp [Ideal.ofBits, Ideal.ieee]

/-- A value whose absolute value is below infinity is a real number. -/
theorem real_of_abs {x : EReal} (h : max x (-x) < ⊤) : ∃ r : ℝ, x = r := by
  induction x with
  | bot => simp at h
  | top => simp at h
  | coe r => exact ⟨r, rfl⟩

theorem real_of_test {S : Shape} (x : FVec Ideal S .f32) (hb : S_.BroadcastsInDim S (![] : Fin 0 → Fin S.rank))
    (h : (cmpf .olt (Host.absf x) (broadcastInDim S ![] hb (constant S_ .f32 0x7F800000#32)) : IVec S 1) = fun _ => 1#1) (i : S.Idx) :
    ∃ r : ℝ, (x i : EReal) = r := by
  have h1 := congrFun h i
  have h2 : Ideal.cmp .olt (max (x i : EReal) (-(x i : EReal))) (FloatOps.ofBits .f32 0x7F800000#32 : Ideal .f32) = 1 := h1
  rw [Ideal.cmp_olt_eq_one, top_const] at h2
  exact real_of_abs h2

variable [Facts] (q : FVec Ideal S8x8192x8x128 .f32) (k v : FVec Ideal S8x8192x2x128 .f32) (kc vc : FVec Ideal S8x256x2x128 .f32)
  (gq gk : FVec Ideal S1x128 .f32)

theorem q_real (h : (fn (F := Ideal) q k v kc vc gq gk).1 = fun _ => 1#1) (i) : ∃ r : ℝ, (q i : EReal) = r := real_of_test q _ h i
theorem k_real (h : (fn (F := Ideal) q k v kc vc gq gk).2.1 = fun _ => 1#1) (i) : ∃ r : ℝ, (k i : EReal) = r := real_of_test k _ h i
theorem kc_real (h : (fn (F := Ideal) q k v kc vc gq gk).2.2.1 = fun _ => 1#1) (i) : ∃ r : ℝ, (kc i : EReal) = r := real_of_test kc _ h i
theorem gq_real (h : (fn (F := Ideal) q k v kc vc gq gk).2.2.2.1 = fun _ => 1#1) (i) : ∃ r : ℝ, (gq i : EReal) = r := real_of_test gq _ h i
theorem gk_real (h : (fn (F := Ideal) q k v kc vc gq gk).2.2.2.2 = fun _ => 1#1) (i) : ∃ r : ℝ, (gk i : EReal) = r := real_of_test gk _ h i

end Cert.Attn

end
-- ==== Proof.Attn.Equal.lean ====
module

public import proofs.«01_k».proof.Defs
public import proofs.«01_k».proof.Proof.Attn.Bound
public import proofs.«01_k».proof.Proof.Attn.RefAt
public import proofs.«01_k».proof.Proof.Attn.Finite
public import proofs.«01_k».proof.Proof.Gen.ReferenceIdeal.Run
public import proofs.«01_k».proof.Proof.Gen.ReferenceIdeal.Read

@[expose] public section

set_option maxRecDepth 16384

noncomputable section

/-! The bounded attention kernel computes the reference attention on finite inputs. -/

namespace Cert.Attn

open Idealize.ShloMosaic Idealize.SL.Sem

/-- The reference result at every index, as attention weighted against any real bound. -/
theorem ref_at (Q : Qs) (K V : Ks) (KC VC : Cs) (hQ : ∀ i, ∃ r : ℝ, Q i = r) (hK : ∀ i, ∃ r : ℝ, K i = r) (hKC : ∀ i, ∃ r : ℝ, KC i = r)
    (β : EReal) (hβ : ∃ r : ℝ, β = r) (b : Fin 8) (s : Fin 8192) (x : Fin 1024) :
    Cert.ReferenceIdeal.Read.val_main_v23 (F := Ideal) Q K V KC VC (ix3 b s x)
      = attn Q K V KC VC β b s ⟨x / 128, by omega⟩ ⟨x % 128, by omega⟩ := by
  rw [Cert.ReferenceIdeal.At.out_at]
  obtain ⟨M, hM⟩ := Cert.ReferenceIdeal.At.maxAt_real Q K KC hQ hK hKC b ⟨x / 128, by omega⟩ s
  obtain ⟨r, rfl⟩ := hβ
  rw [hM]
  exact (attn_eq_ref Q K V KC VC hQ hK hKC r M b s _ _).symm

/-- The bounded attention kernel's program and the reference end with the same array and leave their arguments as they were. -/
theorem bounded : Cert.algebraic_KernelIdeal_ReferenceIdeal_pre_finite := by
  intro m g m' g' hpre hag
  refine ⟨fun c => Cert.KernelIdeal.Arr.G m c, Cert.KernelIdeal.Arr.run m g, ?_⟩
  refine (θ_run _ _ _).mono (fun r h c => ⟨(h c).1.trans ?_, (h c).2⟩) (Cert.ReferenceIdeal.Value.run m' g')
  obtain ⟨p0, p1, p2, p3, p4⟩ := hpre c
  obtain ⟨a0, a1, a2, a3, a4, -⟩ := hag c
  rw [Cert.ReferenceIdeal.Read.val_main_v23_eq, a0, a1, a2, a3, a4]
  funext y
  rw [eq_ix3 y]
  exact ref_at _ _ _ _ _ (q_real _ _ _ _ _ _ _ p0) (k_real _ _ _ _ _ _ _ p1) (kc_real _ _ _ _ _ _ _ p2) _
    (Cert.KernelIdeal.Arr.bound_real m c (gq_real _ _ _ _ _ _ _ p3) (gk_real _ _ _ _ _ _ _ p4)) _ _ _

end Cert.Attn

end
-- ==== Proof.Tail.Spec.lean ====
module

public import Idealize.ShloMosaic.Lib.Pointwise

@[expose] public section

set_option maxRecDepth 16384

noncomputable section

/-! The layer's output stage on one row: norm of the mixer's heads, merge with the attention, two residuals, feed-forward part, final norm. -/

namespace Cert.Tail

open Idealize.ShloMosaic

/-- A row of the model's width. -/
abbrev Row := Fin 1024 → EReal

/-- The norms' small constant and the two widths. -/
def eps : EReal := Ideal.ofBits .f32 897988541#32
def w256 : EReal := Ideal.ofBits .f32 1132462080#32
def w1024 : EReal := Ideal.ofBits .f32 1149239296#32

/-- A row over the root of its mean square. -/
def rms {n : ℕ} (w : EReal) (x : Fin n → EReal) (j : Fin n) : EReal := x j * Ideal.rsqrt (Ideal.div (∑ i, x i * x i) w + eps)

/-- Column `e` of the head in which column `d` lies. -/
def headAt (d : Fin 1024) (e : Fin 256) : Fin 1024 := ⟨d.val / 256 * 256 + e.val, by omega⟩

/-- The mixer's output: both directions added, normed by head, scaled and gated. -/
def mixed (hf hb og gm : Row) (d : Fin 1024) : EReal :=
  og d * (rms w256 (fun e => hf (headAt d e) + hb (headAt d e)) ⟨d.val % 256, by omega⟩ * gm d)

/-- The first residual: the gated merge of the mixer and the attention, projected. -/
def first (x g1 ya ym : Row) (mg : Fin 2048 → EReal) (wa wb wo : Fin 1024 → Row) (d : Fin 1024) : EReal :=
  x d + g1 d * ∑ k : Fin 1024, (mg ⟨k.val, by omega⟩ * (∑ i, ym i * wa i k) + mg ⟨1024 + k.val, by omega⟩ * ∑ i, ya i * wb i k) * wo k d

/-- The modulated input of the feed-forward part. -/
def modulated (x n2 sc sh : Row) (d : Fin 1024) : EReal := rms w1024 x d * n2 d * (1 + sc d) + sh d

/-- The second residual: the gated feed-forward part. -/
def second (x g2 h : Row) (wg wu : Fin 1024 → Fin 2816 → EReal) (wd : Fin 2816 → Row) (d : Fin 1024) : EReal :=
  x d + g2 d * ∑ f : Fin 2816, ((∑ i, h i * wg i f) * Ideal.div 1 (1 + Ideal.exp (-∑ i, h i * wg i f)) * ∑ i, h i * wu i f) * wd f d

/-- The whole stage. -/
def stage (x hf hb og ya : Row) (mg : Fin 2048 → EReal) (g1 sc sh g2 gm n2 fg : Row) (wa wb wo : Fin 1024 → Row)
    (wg wu : Fin 1024 → Fin 2816 → EReal) (wd : Fin 2816 → Row) (d : Fin 1024) : EReal :=
  rms w1024 (second (first x g1 ya (mixed hf hb og gm) mg wa wb wo) g2 (modulated (first x g1 ya (mixed hf hb og gm) mg wa wb wo) n2 sc sh) wg wu wd) d * fg d

theorem w256_eq : w256 = ((256 : ℝ) : EReal) := by
  unfold w256; simp [Ideal.ofBits, Ideal.ieee, -EReal.coe_mul]; norm_num
theorem w1024_eq : w1024 = ((1024 : ℝ) : EReal) := by
  unfold w1024; simp [Ideal.ofBits, Ideal.ieee, -EReal.coe_mul]; norm_num
theorem inv256_eq : Ideal.ofBits .f32 998244352#32 = ((1 / 256 : ℝ) : EReal) := by
  simp [Ideal.ofBits, Ideal.ieee, -EReal.coe_mul]; norm_num
theorem inv1024_eq : Ideal.ofBits .f32 981467136#32 = ((1 / 1024 : ℝ) : EReal) := by
  simp [Ideal.ofBits, Ideal.ieee, -EReal.coe_mul]; norm_num

/-- The product with the reciprocal of a width is the quotient by it. -/
theorem mul_inv256 (s : EReal) : s * Ideal.ofBits .f32 998244352#32 = Ideal.div s w256 := by
  rw [w256_eq, inv256_eq, Ideal.div_coe (by norm_num)]
theorem mul_inv1024 (s : EReal) : s * Ideal.ofBits .f32 981467136#32 = Ideal.div s w1024 := by
  rw [w1024_eq, inv1024_eq, Ideal.div_coe (by norm_num)]

end Cert.Tail

end
-- ==== Proof.Tail.Block.lean ====
module

public import Idealize.ShloMosaic.Lib.Pointwise
public import Idealize.ShloMosaic.Lib.Pipeline.ValueKit
public import proofs.«01_k».proof.Proof.Gen.TailIdeal.Frame
public import proofs.«01_k».proof.Proof.Tail.Spec

@[expose] public section

set_option maxRecDepth 16384

noncomputable section

/-! The output stage's block: every row the stage of the block's rows. -/

namespace Cert.TailIdeal.Block

open Cert.TailIdeal Cert.TailIdeal.Gen Idealize.ShloMosaic

section Pays
variable (v7 v10 v59 : Vec Ideal S1x512x1024 .bf16) (v62 : Vec Ideal S1x1024 .f32) (v68 : Vec Ideal S1x512x2048 .bf16) (v74 : Vec Ideal S1024x1024 .bf16)
  (v1 v6 : FVec Ideal S512x1024 .f32) (r : Fin 512) (d : Fin 1024)

/-- The gated merge of the mixer's and the attention's parts. -/
theorem merged_apply : k0_pay8 v6 (k0_pay4 v7 v10) (k0_pay5 v7 v10) (k0_pay6 v7 v10) (k0_pay7 v7 v10) v59 v62 v68 v74 (ix2 r d)
    = v68 (ix3 0 r ⟨d.val, by omega⟩) * (∑ x, Tail.mixed (fun j => v7 (ix3 0 r j)) (fun j => v10 (ix3 0 r j)) (fun j => v59 (ix3 0 r j)) (fun j => v62 (ix2 0 j)) x * v74 (ix2 x d))
      + v68 (ix3 0 r ⟨1024 + d.val, by omega⟩) * v6 (ix2 r d) := by
  pointwise [k0_pay8, k0_pay4, k0_pay5, k0_pay6, k0_pay7]
  rw [add_comm]
  refine congrArg₂ (· + ·) (congrArg (_ * ·) (Finset.sum_congr rfl fun x _ => congrArg (· * _) ?_)) rfl
  unfold Tail.mixed Tail.rms Tail.headAt Tail.eps
  rw [← Tail.mul_inv256]
  have hx := x.isLt
  by_cases h0 : x.val < 256
  · rw [dif_pos h0]
    have e1 : x.val / 256 = 0 := by omega
    have e2 : x.val % 256 = x.val := by omega
    simp only [e1, e2, Nat.zero_mul, Nat.zero_add]
  by_cases h1 : x.val - 256 < 256
  · rw [dif_neg h0, dif_pos h1]
    have e1 : x.val / 256 = 1 := by omega
    have e2 : x.val % 256 = x.val - 256 := by omega
    simp only [e1, e2, Nat.one_mul]
  by_cases h2 : x.val - 256 - 256 < 256
  · rw [dif_neg h0, dif_neg h1, dif_pos h2]
    have e1 : x.val / 256 = 2 := by omega
    have e2 : x.val % 256 = x.val - 256 - 256 := by omega
    simp only [e1, e2, Nat.reduceMul]
  · rw [dif_neg h0, dif_neg h1, dif_neg h2]
    have e1 : x.val / 256 = 3 := by omega
    have e2 : x.val % 256 = x.val - 256 - 256 - 256 := by omega
    simp only [e1, e2, Nat.reduceMul]

theorem attn_apply (v2 : Vec Ideal S1x512x1024 .bf16) (v4 : Vec Ideal S1024x1024 .bf16) : k0_pay3 v2 v4 (ix2 r d) = ∑ x, v2 (ix3 0 r x) * v4 (ix2 x d) := by
  pointwise [k0_pay3]

theorem input_apply (v0 : Vec Ideal S1x512x1024 .f32) : k0_pay2 v0 (ix2 r d) = v0 (ix3 0 r d) := by
  pointwise [k0_pay2]

variable (v78 : FVec Ideal S512x1024 .f32) (v79 : Vec Ideal S1x1x1024 .f32) (v82 : Vec Ideal S1024x1024 .bf16)
  (v98 : Vec Ideal S1x1024 .f32) (v102 v108 : Vec Ideal S1x1x1024 .f32) (v113 : Vec Ideal S1024x2816 .bf16)

theorem residual_apply : k0_pay9 v1 v78 v79 v82 (ix2 r d) = v1 (ix2 r d) + v79 (ix3 0 0 d) * ∑ x, v78 (ix2 r x) * v82 (ix2 x d) := by
  pointwise [k0_pay9]

/-- The modulated input of the feed-forward part, from the first residual. -/
theorem modulated_apply : k0_pay10 v1 v78 v79 v82 v98 v102 v108 (ix2 r d)
    = Tail.modulated (fun j => k0_pay9 v1 v78 v79 v82 (ix2 r j)) (fun j => v98 (ix2 0 j)) (fun j => v102 (ix3 0 0 j)) (fun j => v108 (ix3 0 0 j)) d := by
  unfold Tail.modulated Tail.rms Tail.eps
  rw [← Tail.mul_inv1024]
  pointwise [k0_pay10, k0_pay9]

theorem gate_apply (f : Fin 2816) : k0_pay11 v1 v78 v79 v82 v98 v102 v108 v113 (ix2 r f)
    = ∑ x, k0_pay10 v1 v78 v79 v82 v98 v102 v108 (ix2 r x) * v113 (ix2 x f) := by
  pointwise [k0_pay11, k0_pay10]

theorem neg_apply (f : Fin 2816) : k0_pay12 v1 v78 v79 v82 v98 v102 v108 v113 (ix2 r f) = -k0_pay11 v1 v78 v79 v82 v98 v102 v108 v113 (ix2 r f) := by
  rw [← zero_sub]
  pointwise [k0_pay12, k0_pay11]

/-- The second residual, normed: from the first residual, the modulated input and the gate. -/
theorem stored_apply (v87 : FVec Ideal S512x1024 .f32) (v112 : FVec Ideal S512x1024 .bf16) (v115 v117 : FVec Ideal S512x2816 .f32) (v124 : Vec Ideal S1024x2816 .bf16)
    (v129 : Vec Ideal S2816x1024 .bf16) (v132 : Vec Ideal S1x1x1024 .f32) (v147 : Vec Ideal S1x1024 .f32)
    (x h : Tail.Row) (hx : ∀ j, v87 (ix2 r j) = x j) (hh : ∀ j, v112 (ix2 r j) = h j)
    (hg : ∀ f, v115 (ix2 r f) = ∑ i, h i * v113 (ix2 i f)) (hn : ∀ f, v117 (ix2 r f) = -∑ i, h i * v113 (ix2 i f)) :
    k0_pay1 v87 v112 v115 v117 v124 v129 v132 v147 (ix3 0 r d)
      = Tail.rms Tail.w1024 (Tail.second x (fun j => v132 (ix3 0 0 j)) h (fun i f => v113 (ix2 i f)) (fun i f => v124 (ix2 i f)) (fun f j => v129 (ix2 f j))) d * v147 (ix2 0 d) := by
  unfold Tail.rms Tail.second Tail.eps
  rw [← Tail.mul_inv1024]
  pointwise [k0_pay1]
  simp only [hx, hh, hg, hn]

end Pays

variable (x0 : Vec Ideal S1x512x1024 .f32) (x1 : Vec Ideal S1x512x1024 .bf16) (x2 : Vec Ideal S1x512x1024 .bf16) (x3 : Vec Ideal S1x512x1024 .bf16) (x4 : Vec Ideal S1x512x1024 .bf16) (x5 : Vec Ideal S1x512x2048 .bf16) (x6 : Vec Ideal S1x1x1024 .f32) (x7 : Vec Ideal S1x1x1024 .f32) (x8 : Vec Ideal S1x1x1024 .f32) (x9 : Vec Ideal S1x1x1024 .f32) (x10 : Vec Ideal S1x1024 .f32) (x11 : Vec Ideal S1x1024 .f32) (x12 : Vec Ideal S1x1024 .f32) (x13 : Vec Ideal S1024x1024 .bf16) (x14 : Vec Ideal S1024x1024 .bf16) (x15 : Vec Ideal S1024x1024 .bf16) (x16 : Vec Ideal S1024x2816 .bf16) (x17 : Vec Ideal S1024x2816 .bf16) (x18 : Vec Ideal S2816x1024 .bf16) (r : Fin 512) (d : Fin 1024)

/-- The whole body from its blocks: every load reads a whole block. -/
theorem out_eq : out0_19 x0 x1 x2 x3 x4 x5 x6 x7 x8 x9 x10 x11 x12 x13 x14 x15 x16 x17 x18
    = k0_pay1 (k0_pay9 (k0_pay2 x0) (k0_pay8 (k0_pay3 x4 x14) (k0_pay4 x1 x2) (k0_pay5 x1 x2) (k0_pay6 x1 x2) (k0_pay7 x1 x2) x3 x10 x5 x13) x6 x15)
        (k0_pay10 (k0_pay2 x0) (k0_pay8 (k0_pay3 x4 x14) (k0_pay4 x1 x2) (k0_pay5 x1 x2) (k0_pay6 x1 x2) (k0_pay7 x1 x2) x3 x10 x5 x13) x6 x15 x11 x7 x8)
        (k0_pay11 (k0_pay2 x0) (k0_pay8 (k0_pay3 x4 x14) (k0_pay4 x1 x2) (k0_pay5 x1 x2) (k0_pay6 x1 x2) (k0_pay7 x1 x2) x3 x10 x5 x13) x6 x15 x11 x7 x8 x16)
        (k0_pay12 (k0_pay2 x0) (k0_pay8 (k0_pay3 x4 x14) (k0_pay4 x1 x2) (k0_pay5 x1 x2) (k0_pay6 x1 x2) (k0_pay7 x1 x2) x3 x10 x5 x13) x6 x15 x11 x7 x8 x16)
        x17 x18 x9 x12 := by
  have hA : ∀ X : Vec Ideal S1x512x1024 .f32, View.ld X r0_0 = X := fun X => View.ld_unit_lit _ X (by decide)
  have hB : ∀ X : Vec Ideal S1x512x1024 .bf16, View.ld X r0_0 = X := fun X => View.ld_unit_lit _ X (by decide)
  have hC : ∀ X : Vec Ideal S1024x1024 .bf16, View.ld X r0_1 = X := fun X => View.ld_unit_lit _ X (by decide)
  have hD : ∀ X : Vec Ideal S1x1024 .f32, View.ld X r0_2 = X := fun X => View.ld_unit_lit _ X (by decide)
  have hE : ∀ X : Vec Ideal S1x512x2048 .bf16, View.ld X r0_3 = X := fun X => View.ld_unit_lit _ X (by decide)
  have hF : ∀ X : Vec Ideal S1x1x1024 .f32, View.ld X r0_4 = X := fun X => View.ld_unit_lit _ X (by decide)
  have hG : ∀ X : Vec Ideal S1024x2816 .bf16, View.ld X r0_5 = X := fun X => View.ld_unit_lit _ X (by decide)
  have hH : ∀ X : Vec Ideal S2816x1024 .bf16, View.ld X r0_6 = X := fun X => View.ld_unit_lit _ X (by decide)
  unfold out0_19 k0_pay13 k0_pay14
  simp only [hA, hB, hC, hD, hE, hF, hG, hH]
  exact View.canon_cons_unit_lit _ _ _ (by decide)

/-- The first residual's row. -/
theorem first_apply (d : Fin 1024) : k0_pay9 (k0_pay2 x0) (k0_pay8 (k0_pay3 x4 x14) (k0_pay4 x1 x2) (k0_pay5 x1 x2) (k0_pay6 x1 x2) (k0_pay7 x1 x2) x3 x10 x5 x13) x6 x15 (ix2 r d)
    = Tail.first (fun j => x0 (ix3 0 r j)) (fun j => x6 (ix3 0 0 j)) (fun j => x4 (ix3 0 r j)) (Tail.mixed (fun j => x1 (ix3 0 r j)) (fun j => x2 (ix3 0 r j)) (fun j => x3 (ix3 0 r j)) (fun j => x10 (ix2 0 j))) (fun j => x5 (ix3 0 r j)) (fun i j => x13 (ix2 i j)) (fun i j => x14 (ix2 i j)) (fun i j => x15 (ix2 i j)) d := by
  unfold Tail.first
  rw [residual_apply, input_apply]
  simp only [merged_apply, attn_apply]

/-- A row of the block the body stores. -/
theorem out_apply : out0_19 x0 x1 x2 x3 x4 x5 x6 x7 x8 x9 x10 x11 x12 x13 x14 x15 x16 x17 x18 (ix3 0 r d)
    = Tail.stage (fun j => x0 (ix3 0 r j)) (fun j => x1 (ix3 0 r j)) (fun j => x2 (ix3 0 r j)) (fun j => x3 (ix3 0 r j)) (fun j => x4 (ix3 0 r j)) (fun j => x5 (ix3 0 r j)) (fun j => x6 (ix3 0 0 j)) (fun j => x7 (ix3 0 0 j)) (fun j => x8 (ix3 0 0 j)) (fun j => x9 (ix3 0 0 j)) (fun j => x10 (ix2 0 j)) (fun j => x11 (ix2 0 j)) (fun j => x12 (ix2 0 j)) (fun i j => x13 (ix2 i j)) (fun i j => x14 (ix2 i j)) (fun i j => x15 (ix2 i j)) (fun i j => x16 (ix2 i j)) (fun i j => x17 (ix2 i j)) (fun i j => x18 (ix2 i j)) d := by
  rw [out_eq]
  unfold Tail.stage
  have hm : ∀ j, k0_pay10 (k0_pay2 x0) (k0_pay8 (k0_pay3 x4 x14) (k0_pay4 x1 x2) (k0_pay5 x1 x2) (k0_pay6 x1 x2) (k0_pay7 x1 x2) x3 x10 x5 x13) x6 x15 x11 x7 x8 (ix2 r j)
      = Tail.modulated (Tail.first (fun j => x0 (ix3 0 r j)) (fun j => x6 (ix3 0 0 j)) (fun j => x4 (ix3 0 r j)) (Tail.mixed (fun j => x1 (ix3 0 r j)) (fun j => x2 (ix3 0 r j)) (fun j => x3 (ix3 0 r j)) (fun j => x10 (ix2 0 j))) (fun j => x5 (ix3 0 r j)) (fun i j => x13 (ix2 i j)) (fun i j => x14 (ix2 i j)) (fun i j => x15 (ix2 i j))) (fun j => x11 (ix2 0 j)) (fun j => x7 (ix3 0 0 j)) (fun j => x8 (ix3 0 0 j)) j := fun j => by
    rw [modulated_apply]
    simp only [first_apply]
  refine stored_apply r d x16 _ _ _ _ x17 x18 x9 x12 _ _ (fun j => first_apply _ _ _ _ _ _ _ _ _ _ _ r j) hm (fun f => ?_) (fun f => ?_)
  · rw [gate_apply]
    simp only [hm]
  · rw [neg_apply, gate_apply]
    simp only [hm]

end Cert.TailIdeal.Block

end
-- ==== Proof.Tail.Arr.lean ====
module

public import proofs.«01_k».proof.Proof.Tail.Block
public import proofs.«01_k».proof.Proof.Gen.TailIdeal.Value
public import Idealize.ShloMosaic.Lib.Claim
public import Idealize.ShloMosaic.Lib.Pipeline.ValueKit

@[expose] public section

set_option maxRecDepth 16384

noncomputable section

/-! The output stage's result array, as one function of its arguments. -/

namespace Cert.TailIdeal.Arr

open Cert.TailIdeal Cert.TailIdeal.Gen Cert.TailIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The stage over the whole arrays. -/
def G (c : Dev nD) (y : S8x8192x1024.Idx) : EReal :=
  Tail.stage (fun j => (m ((c : Thread nD τ).loc main_arg0) : S8x8192x1024.Idx → EReal) (ix3 (y 0) (y 1) j))
    (fun j => (m ((c : Thread nD τ).loc main_arg1) : S8x8192x1024.Idx → EReal) (ix3 (y 0) (y 1) j))
    (fun j => (m ((c : Thread nD τ).loc main_arg2) : S8x8192x1024.Idx → EReal) (ix3 (y 0) (y 1) j))
    (fun j => (m ((c : Thread nD τ).loc main_arg3) : S8x8192x1024.Idx → EReal) (ix3 (y 0) (y 1) j))
    (fun j => (m ((c : Thread nD τ).loc main_arg4) : S8x8192x1024.Idx → EReal) (ix3 (y 0) (y 1) j))
    (fun j => (m ((c : Thread nD τ).loc main_arg5) : S8x8192x2048.Idx → EReal) (ix3 (y 0) (y 1) j))
    (fun j => (m ((c : Thread nD τ).loc main_arg6) : S8x1x1024.Idx → EReal) (ix3 (y 0) 0 j))
    (fun j => (m ((c : Thread nD τ).loc main_arg7) : S8x1x1024.Idx → EReal) (ix3 (y 0) 0 j))
    (fun j => (m ((c : Thread nD τ).loc main_arg8) : S8x1x1024.Idx → EReal) (ix3 (y 0) 0 j))
    (fun j => (m ((c : Thread nD τ).loc main_arg9) : S8x1x1024.Idx → EReal) (ix3 (y 0) 0 j))
    (fun j => (m ((c : Thread nD τ).loc main_arg10) : S1x1024.Idx → EReal) (ix2 0 j))
    (fun j => (m ((c : Thread nD τ).loc main_arg11) : S1x1024.Idx → EReal) (ix2 0 j))
    (fun j => (m ((c : Thread nD τ).loc main_arg12) : S1024.Idx → EReal) (ix1 j))
    (fun i j => (m ((c : Thread nD τ).loc main_arg13) : S1x1024x1024.Idx → EReal) (ix3 0 i j))
    (fun i j => (m ((c : Thread nD τ).loc main_arg14) : S1x1024x1024.Idx → EReal) (ix3 0 i j))
    (fun i j => (m ((c : Thread nD τ).loc main_arg15) : S1x1024x1024.Idx → EReal) (ix3 0 i j))
    (fun i j => (m ((c : Thread nD τ).loc main_arg16) : S1x1024x2816.Idx → EReal) (ix3 0 i j))
    (fun i j => (m ((c : Thread nD τ).loc main_arg17) : S1x1024x2816.Idx → EReal) (ix3 0 i j))
    (fun i j => (m ((c : Thread nD τ).loc main_arg18) : S1x2816x1024.Idx → EReal) (ix3 0 i j)) (y 2)

/-! The weights and gains the host prepares, at an index. -/

theorem gm_at (c : Dev nD) (j : Fin 1024) : (V m c main_v13 : S1x1024.Idx → EReal) (ix2 0 j) = (m ((c : Thread nD τ).loc main_arg10) : S1x1024.Idx → EReal) (ix2 0 j) := by
  entry_read
  pointwise []
theorem n2_at (c : Dev nD) (j : Fin 1024) : (V m c main_v15 : S1x1024.Idx → EReal) (ix2 0 j) = (m ((c : Thread nD τ).loc main_arg11) : S1x1024.Idx → EReal) (ix2 0 j) := by
  entry_read
  pointwise []
theorem fg_at (c : Dev nD) (j : Fin 1024) : (V m c main_v16 : S1x1024.Idx → EReal) (ix2 0 j) = (m ((c : Thread nD τ).loc main_arg12) : S1024.Idx → EReal) (ix1 j) := by
  entry_read
  pointwise []
theorem wa_at (c : Dev nD) (i : Fin 1024) (j : Fin 1024) : (V m c main_v6 : S1024x1024.Idx → EReal) (ix2 i j) = (m ((c : Thread nD τ).loc main_arg13) : S1x1024x1024.Idx → EReal) (ix3 0 i j) := by
  entry_read
  pointwise []
theorem wb_at (c : Dev nD) (i : Fin 1024) (j : Fin 1024) : (V m c main_v7 : S1024x1024.Idx → EReal) (ix2 i j) = (m ((c : Thread nD τ).loc main_arg14) : S1x1024x1024.Idx → EReal) (ix3 0 i j) := by
  entry_read
  pointwise []
theorem wo_at (c : Dev nD) (i : Fin 1024) (j : Fin 1024) : (V m c main_v8 : S1024x1024.Idx → EReal) (ix2 i j) = (m ((c : Thread nD τ).loc main_arg15) : S1x1024x1024.Idx → EReal) (ix3 0 i j) := by
  entry_read
  pointwise []
theorem wg_at (c : Dev nD) (i : Fin 1024) (j : Fin 2816) : (V m c main_v9 : S1024x2816.Idx → EReal) (ix2 i j) = (m ((c : Thread nD τ).loc main_arg16) : S1x1024x2816.Idx → EReal) (ix3 0 i j) := by
  entry_read
  pointwise []
theorem wu_at (c : Dev nD) (i : Fin 1024) (j : Fin 2816) : (V m c main_v10 : S1024x2816.Idx → EReal) (ix2 i j) = (m ((c : Thread nD τ).loc main_arg17) : S1x1024x2816.Idx → EReal) (ix3 0 i j) := by
  entry_read
  pointwise []
theorem wd_at (c : Dev nD) (i : Fin 2816) (j : Fin 1024) : (V m c main_v11 : S2816x1024.Idx → EReal) (ix2 i j) = (m ((c : Thread nD τ).loc main_arg18) : S1x2816x1024.Idx → EReal) (ix3 0 i j) := by
  entry_read
  pointwise []

/-- A grid point's batch and row block. -/
abbrev tb (t : Fin cfg0.N) : Fin 8 := grid0.coords t 0
abbrev tq (t : Fin cfg0.N) : Fin 16 := grid0.coords t 1
/-- The array row of a block row. -/
abbrev sOf (t : Fin cfg0.N) (r : Fin 512) : Fin 8192 := ⟨(tq t).val * 512 + r, by have := (tq t).isLt; omega⟩

/-! Where each window's block lies at a grid point. -/

theorem i0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem i1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem i2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem i3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem i4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem i5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])
theorem i6 : ∀ t : Fin cfg0.N, win0_6.index t = ![(grid0.coords t 0).val, 0, 0] :=
  (by decide +kernel : ∀ t : Fin grid0.N, win0_6.index t = ![(grid0.coords t 0).val, 0, 0])
theorem i7 : ∀ t : Fin cfg0.N, win0_7.index t = ![(grid0.coords t 0).val, 0, 0] :=
  (by decide +kernel : ∀ t : Fin grid0.N, win0_7.index t = ![(grid0.coords t 0).val, 0, 0])
theorem i8 : ∀ t : Fin cfg0.N, win0_8.index t = ![(grid0.coords t 0).val, 0, 0] :=
  (by decide +kernel : ∀ t : Fin grid0.N, win0_8.index t = ![(grid0.coords t 0).val, 0, 0])
theorem i9 : ∀ t : Fin cfg0.N, win0_9.index t = ![(grid0.coords t 0).val, 0, 0] :=
  (by decide +kernel : ∀ t : Fin grid0.N, win0_9.index t = ![(grid0.coords t 0).val, 0, 0])
theorem i10 : ∀ t : Fin cfg0.N, win0_10.index t = ![0, 0] :=
  (by decide +kernel : ∀ t : Fin grid0.N, win0_10.index t = ![0, 0])
theorem i11 : ∀ t : Fin cfg0.N, win0_11.index t = ![0, 0] :=
  (by decide +kernel : ∀ t : Fin grid0.N, win0_11.index t = ![0, 0])
theorem i12 : ∀ t : Fin cfg0.N, win0_12.index t = ![0, 0] :=
  (by decide +kernel : ∀ t : Fin grid0.N, win0_12.index t = ![0, 0])
theorem i13 : ∀ t : Fin cfg0.N, win0_13.index t = ![0, 0] :=
  (by decide +kernel : ∀ t : Fin grid0.N, win0_13.index t = ![0, 0])
theorem i14 : ∀ t : Fin cfg0.N, win0_14.index t = ![0, 0] :=
  (by decide +kernel : ∀ t : Fin grid0.N, win0_14.index t = ![0, 0])
theorem i15 : ∀ t : Fin cfg0.N, win0_15.index t = ![0, 0] :=
  (by decide +kernel : ∀ t : Fin grid0.N, win0_15.index t = ![0, 0])
theorem i16 : ∀ t : Fin cfg0.N, win0_16.index t = ![0, 0] :=
  (by decide +kernel : ∀ t : Fin grid0.N, win0_16.index t = ![0, 0])
theorem i17 : ∀ t : Fin cfg0.N, win0_17.index t = ![0, 0] :=
  (by decide +kernel : ∀ t : Fin grid0.N, win0_17.index t = ![0, 0])
theorem i18 : ∀ t : Fin cfg0.N, win0_18.index t = ![0, 0] :=
  (by decide +kernel : ∀ t : Fin grid0.N, win0_18.index t = ![0, 0])
theorem i19 : ∀ t : Fin cfg0.N, win0_19.index t = ![(grid0.coords t 0).val, (grid0.coords t 1).val, 0] :=
  (by decide +kernel : ∀ t : Fin grid0.N, win0_19.index t = ![(grid0.coords t 0).val, (grid0.coords t 1).val, 0])

/-! Each window's block at an index. -/

theorem blk0 (c : Dev nD) (t : Fin cfg0.N) (r : Fin 512) (j : Fin 1024) :
    (iblk m c 0 t : S1x512x1024.Idx → EReal) (ix3 0 r j) = (m ((c : Thread nD τ).loc main_arg0) : S8x8192x1024.Idx → EReal) (ix3 (tb t) (sOf t r) j) := by
  blk_simp [iblk]
  have e : (V m c main_arg0 : S8x8192x1024.Idx → EReal) = m ((c : Thread nD τ).loc main_arg0) := by
    entry_read
    rfl
  refine (congrFun e _).trans ?_
  congr 1
  blk_ext [i0]
  exact Nat.add_zero _
theorem blk1 (c : Dev nD) (t : Fin cfg0.N) (r : Fin 512) (j : Fin 1024) :
    (iblk m c 1 t : S1x512x1024.Idx → EReal) (ix3 0 r j) = (m ((c : Thread nD τ).loc main_arg1) : S8x8192x1024.Idx → EReal) (ix3 (tb t) (sOf t r) j) := by
  blk_simp [iblk]
  have e : (V m c main_arg1 : S8x8192x1024.Idx → EReal) = m ((c : Thread nD τ).loc main_arg1) := by
    entry_read
    rfl
  refine (congrFun e _).trans ?_
  congr 1
  blk_ext [i1]
  exact Nat.add_zero _
theorem blk2 (c : Dev nD) (t : Fin cfg0.N) (r : Fin 512) (j : Fin 1024) :
    (iblk m c 2 t : S1x512x1024.Idx → EReal) (ix3 0 r j) = (m ((c : Thread nD τ).loc main_arg2) : S8x8192x1024.Idx → EReal) (ix3 (tb t) (sOf t r) j) := by
  blk_simp [iblk]
  have e : (V m c main_arg2 : S8x8192x1024.Idx → EReal) = m ((c : Thread nD τ).loc main_arg2) := by
    entry_read
    rfl
  refine (congrFun e _).trans ?_
  congr 1
  blk_ext [i2]
  exact Nat.add_zero _
theorem blk3 (c : Dev nD) (t : Fin cfg0.N) (r : Fin 512) (j : Fin 1024) :
    (iblk m c 3 t : S1x512x1024.Idx → EReal) (ix3 0 r j) = (m ((c : Thread nD τ).loc main_arg3) : S8x8192x1024.Idx → EReal) (ix3 (tb t) (sOf t r) j) := by
  blk_simp [iblk]
  have e : (V m c main_arg3 : S8x8192x1024.Idx → EReal) = m ((c : Thread nD τ).loc main_arg3) := by
    entry_read
    rfl
  refine (congrFun e _).trans ?_
  congr 1
  blk_ext [i3]
  exact Nat.add_zero _
theorem blk4 (c : Dev nD) (t : Fin cfg0.N) (r : Fin 512) (j : Fin 1024) :
    (iblk m c 4 t : S1x512x1024.Idx → EReal) (ix3 0 r j) = (m ((c : Thread nD τ).loc main_arg4) : S8x8192x1024.Idx → EReal) (ix3 (tb t) (sOf t r) j) := by
  blk_simp [iblk]
  have e : (V m c main_arg4 : S8x8192x1024.Idx → EReal) = m ((c : Thread nD τ).loc main_arg4) := by
    entry_read
    rfl
  refine (congrFun e _).trans ?_
  congr 1
  blk_ext [i4]
  exact Nat.add_zero _
theorem blk5 (c : Dev nD) (t : Fin cfg0.N) (r : Fin 512) (j : Fin 2048) :
    (iblk m c 5 t : S1x512x2048.Idx → EReal) (ix3 0 r j) = (m ((c : Thread nD τ).loc main_arg5) : S8x8192x2048.Idx → EReal) (ix3 (tb t) (sOf t r) j) := by
  blk_simp [iblk]
  have e : (V m c main_arg5 : S8x8192x2048.Idx → EReal) = m ((c : Thread nD τ).loc main_arg5) := by
    entry_read
    rfl
  refine (congrFun e _).trans ?_
  congr 1
  blk_ext [i5]
  exact Nat.add_zero _
theorem blk6 (c : Dev nD) (t : Fin cfg0.N) (j : Fin 1024) :
    (iblk m c 6 t : S1x1x1024.Idx → EReal) (ix3 0 0 j) = (m ((c : Thread nD τ).loc main_arg6) : S8x1x1024.Idx → EReal) (ix3 (tb t) 0 j) := by
  blk_simp [iblk]
  have e : (V m c main_arg6 : S8x1x1024.Idx → EReal) = m ((c : Thread nD τ).loc main_arg6) := by
    entry_read
    rfl
  refine (congrFun e _).trans ?_
  congr 1
  blk_ext [i6]
  exact Nat.add_zero _
theorem blk7 (c : Dev nD) (t : Fin cfg0.N) (j : Fin 1024) :
    (iblk m c 7 t : S1x1x1024.Idx → EReal) (ix3 0 0 j) = (m ((c : Thread nD τ).loc main_arg7) : S8x1x1024.Idx → EReal) (ix3 (tb t) 0 j) := by
  blk_simp [iblk]
  have e : (V m c main_arg7 : S8x1x1024.Idx → EReal) = m ((c : Thread nD τ).loc main_arg7) := by
    entry_read
    rfl
  refine (congrFun e _).trans ?_
  congr 1
  blk_ext [i7]
  exact Nat.add_zero _
theorem blk8 (c : Dev nD) (t : Fin cfg0.N) (j : Fin 1024) :
    (iblk m c 8 t : S1x1x1024.Idx → EReal) (ix3 0 0 j) = (m ((c : Thread nD τ).loc main_arg8) : S8x1x1024.Idx → EReal) (ix3 (tb t) 0 j) := by
  blk_simp [iblk]
  have e : (V m c main_arg8 : S8x1x1024.Idx → EReal) = m ((c : Thread nD τ).loc main_arg8) := by
    entry_read
    rfl
  refine (congrFun e _).trans ?_
  congr 1
  blk_ext [i8]
  exact Nat.add_zero _
theorem blk9 (c : Dev nD) (t : Fin cfg0.N) (j : Fin 1024) :
    (iblk m c 9 t : S1x1x1024.Idx → EReal) (ix3 0 0 j) = (m ((c : Thread nD τ).loc main_arg9) : S8x1x1024.Idx → EReal) (ix3 (tb t) 0 j) := by
  blk_simp [iblk]
  have e : (V m c main_arg9 : S8x1x1024.Idx → EReal) = m ((c : Thread nD τ).loc main_arg9) := by
    entry_read
    rfl
  refine (congrFun e _).trans ?_
  congr 1
  blk_ext [i9]
  exact Nat.add_zero _
theorem blk10 (c : Dev nD) (t : Fin cfg0.N) (j : Fin 1024) :
    (iblk m c 10 t : S1x1024.Idx → EReal) (ix2 0 j) = (m ((c : Thread nD τ).loc main_arg10) : S1x1024.Idx → EReal) (ix2 0 j) := by
  rw [← gm_at m c j]
  blk_simp [iblk]
  congr 1
  blk_ext [i10]
theorem blk11 (c : Dev nD) (t : Fin cfg0.N) (j : Fin 1024) :
    (iblk m c 11 t : S1x1024.Idx → EReal) (ix2 0 j) = (m ((c : Thread nD τ).loc main_arg11) : S1x1024.Idx → EReal) (ix2 0 j) := by
  rw [← n2_at m c j]
  blk_simp [iblk]
  congr 1
  blk_ext [i11]
theorem blk12 (c : Dev nD) (t : Fin cfg0.N) (j : Fin 1024) :
    (iblk m c 12 t : S1x1024.Idx → EReal) (ix2 0 j) = (m ((c : Thread nD τ).loc main_arg12) : S1024.Idx → EReal) (ix1 j) := by
  rw [← fg_at m c j]
  blk_simp [iblk]
  congr 1
  blk_ext [i12]
theorem blk13 (c : Dev nD) (t : Fin cfg0.N) (i : Fin 1024) (j : Fin 1024) :
    (iblk m c 13 t : S1024x1024.Idx → EReal) (ix2 i j) = (m ((c : Thread nD τ).loc main_arg13) : S1x1024x1024.Idx → EReal) (ix3 0 i j) := by
  rw [← wa_at m c i j]
  blk_simp [iblk]
  congr 1
  blk_ext [i13]
theorem blk14 (c : Dev nD) (t : Fin cfg0.N) (i : Fin 1024) (j : Fin 1024) :
    (iblk m c 14 t : S1024x1024.Idx → EReal) (ix2 i j) = (m ((c : Thread nD τ).loc main_arg14) : S1x1024x1024.Idx → EReal) (ix3 0 i j) := by
  rw [← wb_at m c i j]
  blk_simp [iblk]
  congr 1
  blk_ext [i14]
theorem blk15 (c : Dev nD) (t : Fin cfg0.N) (i : Fin 1024) (j : Fin 1024) :
    (iblk m c 15 t : S1024x1024.Idx → EReal) (ix2 i j) = (m ((c : Thread nD τ).loc main_arg15) : S1x1024x1024.Idx → EReal) (ix3 0 i j) := by
  rw [← wo_at m c i j]
  blk_simp [iblk]
  congr 1
  blk_ext [i15]
theorem blk16 (c : Dev nD) (t : Fin cfg0.N) (i : Fin 1024) (j : Fin 2816) :
    (iblk m c 16 t : S1024x2816.Idx → EReal) (ix2 i j) = (m ((c : Thread nD τ).loc main_arg16) : S1x1024x2816.Idx → EReal) (ix3 0 i j) := by
  rw [← wg_at m c i j]
  blk_simp [iblk]
  congr 1
  blk_ext [i16]
theorem blk17 (c : Dev nD) (t : Fin cfg0.N) (i : Fin 1024) (j : Fin 2816) :
    (iblk m c 17 t : S1024x2816.Idx → EReal) (ix2 i j) = (m ((c : Thread nD τ).loc main_arg17) : S1x1024x2816.Idx → EReal) (ix3 0 i j) := by
  rw [← wu_at m c i j]
  blk_simp [iblk]
  congr 1
  blk_ext [i17]
theorem blk18 (c : Dev nD) (t : Fin cfg0.N) (i : Fin 2816) (j : Fin 1024) :
    (iblk m c 18 t : S2816x1024.Idx → EReal) (ix2 i j) = (m ((c : Thread nD τ).loc main_arg18) : S1x2816x1024.Idx → EReal) (ix3 0 i j) := by
  rw [← wd_at m c i j]
  blk_simp [iblk]
  congr 1
  blk_ext [i18]

/-- The block a grid point writes back. -/
theorem out_entry (c : Dev nD) (t : Fin cfg0.N) (r : Fin 512) (d : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 0 r d) = G m c (ix3 (tb t) (sOf t r) d) := by
  rw [out_apply]
  simp only [blk0, blk1, blk2, blk3, blk4, blk5, blk6, blk7, blk8, blk9, blk10, blk11, blk12, blk13, blk14, blk15, blk16, blk17, blk18]
  rfl

/-- Where a block's index lies in the result array. -/
theorem emb19 (t : Fin cfg0.N) (r : Fin 512) (d : Fin 1024) : (win0_19.blk t).view.emb (ix3 0 r d) = ix3 (tb t) (sOf t r) d := by
  blk_ext [i19]
  exact Nat.add_zero _

/-- The result array after the run. -/
theorem final (c : Dev nD) : (dats m 0 c).arrAt 19 cfg0.N = G m c := by
  refine (dats m 0 c).arrAt_eq_of_covers 19 (G m c) (by decide +kernel) fun t hf y => ?_
  blk_simp
  rw [after0_19]
  obtain ⟨z, r, d, rfl⟩ : ∃ (z : Fin 1) (r : Fin 512) (d : Fin 1024), y = ix3 z r d := ⟨y 0, y 1, y 2, eq_ix3 y⟩
  obtain rfl : z = 0 := Subsingleton.elim _ _
  exact (out_entry m c t r d).trans (congrArg (G m c) (emb19 t r d).symm)

/-- The run: the result array, and the arguments as launched. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Value.run_blocks m ρ)

end Cert.TailIdeal.Arr

end
-- ==== Proof.Tail.Line.lean ====
module

public import proofs.«01_k».proof.Proof.Gen.TailReferenceIdeal
public import Idealize.ShloMosaic.Lib.StableHlo.Run
public import Idealize.ShloMosaic.Lib.StableHlo.RunRead

@[expose] public section

set_option maxRecDepth 16384

noncomputable section

/-! The tail reference's host operations, in five stretches: the mixer's normalised output, the first residual, the modulated input of the feed-forward part, the second residual, the final norm. -/

namespace Cert.TailReferenceIdeal.Line

open Cert.TailReferenceIdeal Cert.TailReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg1 main_v0 ((extf .f32 · bitsLt_bf16_f32) : (⟨S8x8192x1024, .bf16⟩ : BufTy).Contents (Elt F) → (⟨S8x8192x1024, .f32⟩ : BufTy).Contents (Elt F)),
    unary main_arg2 main_v1 ((extf .f32 · bitsLt_bf16_f32) : (⟨S8x8192x1024, .bf16⟩ : BufTy).Contents (Elt F) → (⟨S8x8192x1024, .f32⟩ : BufTy).Contents (Elt F)),
    binary main_v0 main_v1 main_v2 (addf : (⟨S8x8192x1024, .f32⟩ : BufTy).Contents (Elt F) → (⟨S8x8192x1024, .f32⟩ : BufTy).Contents (Elt F) → (⟨S8x8192x1024, .f32⟩ : BufTy).Contents (Elt F)),
    reshape main_v2 main_v3 (rfl : (.f32 : EltTy) = .f32) shapeCasts_S8x8192x1024_S8x8192x4x256,
    reshape main_arg10 main_v4 (rfl : (.f32 : EltTy) = .f32) shapeCasts_S1x1024_S1024,
    reshape main_v4 main_v5 (rfl : (.f32 : EltTy) = .f32) shapeCasts_S1024_S4x256,
    binary main_v3 main_v3 main_v6 (mulf : (⟨S8x8192x4x256, .f32⟩ : BufTy).Contents (Elt F) → (⟨S8x8192x4x256, .f32⟩ : BufTy).Contents (Elt F) → (⟨S8x8192x4x256, .f32⟩ : BufTy).Contents (Elt F)),
    nullary main_cst (constant S_ .f32 0x00000000#32),
    binary main_v6 main_cst main_v7 ((fun x v => Host.reduceAdd x v reducesTo_S8x8192x4x256_S8x8192x4_d3 h_S_) : (⟨S8x8192x4x256, .f32⟩ : BufTy).Contents (Elt F) → (⟨S_, .f32⟩ : BufTy).Contents (Elt F) → (⟨S8x8192x4, .f32⟩ : BufTy).Contents (Elt F)),
    unary main_v7 main_v8 (broadcastInDim S8x8192x4x1 ![0, 1, 2] bcast_S8x8192x4_S8x8192x4x1_0_1_2 : (⟨S8x8192x4, .f32⟩ : BufTy).Contents (Elt F) → (⟨S8x8192x4x1, .f32⟩ : BufTy).Contents (Elt F)),
    nullary main_cst_0 (constant S_ .f32 0x43800000#32),
    unary main_cst_0 main_v9 (broadcastInDim S8x8192x4x1 ![] bcast_S_S8x8192x4x1 : (⟨S_, .f32⟩ : BufTy).Contents (Elt F) → (⟨S8x8192x4x1, .f32⟩ : BufTy).Contents (Elt F)),
    binary main_v8 main_v9 main_v10 (Host.divf : (⟨S8x8192x4x1, .f32⟩ : BufTy).Contents (Elt F) → (⟨S8x8192x4x1, .f32⟩ : BufTy).Contents (Elt F) → (⟨S8x8192x4x1, .f32⟩ : BufTy).Contents (Elt F)),
    nullary main_cst_1 (constant S_ .f32 0x358637BD#32),
    unary main_cst_1 main_v11 (broadcastInDim S8x8192x4x1 ![] bcast_S_S8x8192x4x1 : (⟨S_, .f32⟩ : BufTy).Contents (Elt F) → (⟨S8x8192x4x1, .f32⟩ : BufTy).Contents (Elt F)),
    binary main_v10 main_v11 main_v12 (addf : (⟨S8x8192x4x1, .f32⟩ : BufTy).Contents (Elt F) → (⟨S8x8192x4x1, .f32⟩ : BufTy).Contents (Elt F) → (⟨S8x8192x4x1, .f32⟩ : BufTy).Contents (Elt F)),
    unary main_v12 main_v13 (Host.rsqrt : (⟨S8x8192x4x1, .f32⟩ : BufTy).Contents (Elt F) → (⟨S8x8192x4x1, .f32⟩ : BufTy).Contents (Elt F)),
    unary main_v13 main_v14 (broadcastInDim S8x8192x4x256 ![0, 1, 2, 3] bcast_S8x8192x4x1_S8x8192x4x256_0_1_2_3 : (⟨S8x8192x4x1, .f32⟩ : BufTy).Contents (Elt F) → (⟨S8x8192x4x256, .f32⟩ : BufTy).Contents (Elt F)),
    binary main_v3 main_v14 main_v15 (mulf : (⟨S8x8192x4x256, .f32⟩ : BufTy).Contents (Elt F) → (⟨S8x8192x4x256, .f32⟩ : BufTy).Contents (Elt F) → (⟨S8x8192x4x256, .f32⟩ : BufTy).Contents (Elt F)),
    unary main_v5 main_v16 (broadcastInDim S1x1x4x256 ![2, 3] bcast_S4x256_S1x1x4x256_2_3 : (⟨S4x256, .f32⟩ : BufTy).Contents (Elt F) → (⟨S1x1x4x256, .f32⟩ : BufTy).Contents (Elt F)),
    unary main_v16 main_v17 (broadcastInDim S8x8192x4x256 ![0, 1, 2, 3] bcast_S1x1x4x256_S8x8192x4x256_0_1_2_3 : (⟨S1x1x4x256, .f32⟩ : BufTy).Contents (Elt F) → (⟨S8x8192x4x256, .f32⟩ : BufTy).Contents (Elt F)),
    binary main_v15 main_v17 main_v18 (mulf : (⟨S8x8192x4x256, .f32⟩ : BufTy).Contents (Elt F) → (⟨S8x8192x4x256, .f32⟩ : BufTy).Contents (Elt F) → (⟨S8x8192x4x256, .f32⟩ : BufTy).Contents (Elt F)),
    reshape main_v18 main_v19 (rfl : (.f32 : EltTy) = .f32) shapeCasts_S8x8192x4x256_S8x8192x1024,
    unary main_arg3 main_v20 ((extf .f32 · bitsLt_bf16_f32) : (⟨S8x8192x1024, .bf16⟩ : BufTy).Contents (Elt F) → (⟨S8x8192x1024, .f32⟩ : BufTy).Contents (Elt F)),
    binary main_v20 main_v19 main_v21 (mulf : (⟨S8x8192x1024, .f32⟩ : BufTy).Contents (Elt F) → (⟨S8x8192x1024, .f32⟩ : BufTy).Contents (Elt F) → (⟨S8x8192x1024, .f32⟩ : BufTy).Contents (Elt F)) ]
abbrev writtenA : List (Ref sig .tc) := [main_v0, main_v1, main_v2, main_v3, main_v4, main_v5, main_v6, main_cst, main_v7, main_v8, main_cst_0, main_v9, main_v10, main_cst_1, main_v11, main_v12, main_v13, main_v14, main_v15, main_v16, main_v17, main_v18, main_v19, main_v20, main_v21]

abbrev opsB : List (HloOp τ sig (Elt F)) :=
  [ unary main_arg5 main_v22 ((extf .f32 · bitsLt_bf16_f32) : (⟨S8x8192x2048, .bf16⟩ : BufTy).Contents (Elt F) → (⟨S8x8192x2048, .f32⟩ : BufTy).Contents (Elt F)),
    unary main_v22 main_v23 ((extractStridedSlice S8x8192x1024 ![0, 0, 0] · slices_S8x8192x2048_S8x8192x1024_0_0_0) : (⟨S8x8192x2048, .f32⟩ : BufTy).Contents (Elt F) → (⟨S8x8192x1024, .f32⟩ : BufTy).Contents (Elt F)),
    unary main_v22 main_v24 ((extractStridedSlice S8x8192x1024 ![0, 0, 1024] · slices_S8x8192x2048_S8x8192x1024_0_0_1024) : (⟨S8x8192x2048, .f32⟩ : BufTy).Contents (Elt F) → (⟨S8x8192x1024, .f32⟩ : BufTy).Contents (Elt F)),
    reshape main_arg13 main_v25 (rfl : (.f32 : EltTy) = .f32) shapeCasts_S1x1024x1024_S1024x1024,
    binary main_v21 main_v25 main_v26 ((fun l r => Host.dotGeneral dot_S8x8192x1024_S1024x1024_S8x8192x1024_2_0_01_1_n_n none l r) : (⟨S8x8192x1024, .f32⟩ : BufTy).Contents (Elt F) → (⟨S1024x1024, .f32⟩ : BufTy).Contents (Elt F) → (⟨S8x8192x1024, .f32⟩ : BufTy).Contents (Elt F)),
    binary main_v23 main_v26 main_v27 (mulf : (⟨S8x8192x1024, .f32⟩ : BufTy).Contents (Elt F) → (⟨S8x8192x1024, .f32⟩ : BufTy).Contents (Elt F) → (⟨S8x8192x1024, .f32⟩ : BufTy).Contents (Elt F)),
    unary main_arg4 main_v28 ((extf .f32 · bitsLt_bf16_f32) : (⟨S8x8192x1024, .bf16⟩ : BufTy).Contents (Elt F) → (⟨S8x8192x1024, .f32⟩ : BufTy).Contents (Elt F)),
    reshape main_arg14 main_v29 (rfl : (.f32 : EltTy) = .f32) shapeCasts_S1x1024x1024_S1024x1024,
    binary main_v28 main_v29 main_v30 ((fun l r => Host.dotGeneral dot_S8x8192x1024_S1024x1024_S8x8192x1024_2_0_01_1_n_n none l r) : (⟨S8x8192x1024, .f32⟩ : BufTy).Contents (Elt F) → (⟨S1024x1024, .f32⟩ : BufTy).Contents (Elt F) → (⟨S8x8192x1024, .f32⟩ : BufTy).Contents (Elt F)),
    binary main_v24 main_v30 main_v31 (mulf : (⟨S8x8192x1024, .f32⟩ : BufTy).Contents (Elt F) → (⟨S8x8192x1024, .f32⟩ : BufTy).Contents (Elt F) → (⟨S8x8192x1024, .f32⟩ : BufTy).Contents (Elt F)),
    binary main_v27 main_v31 main_v32 (addf : (⟨S8x8192x1024, .f32⟩ : BufTy).Contents (Elt F) → (⟨S8x8192x1024, .f32⟩ : BufTy).Contents (Elt F) → (⟨S8x8192x1024, .f32⟩ : BufTy).Contents (Elt F)),
    reshape main_arg15 main_v33 (rfl : (.f32 : EltTy) = .f32) shapeCasts_S1x1024x1024_S1024x1024,
    binary main_v32 main_v33 main_v34 ((fun l r => Host.dotGeneral dot_S8x8192x1024_S1024x1024_S8x8192x1024_2_0_01_1_n_n none l r) : (⟨S8x8192x1024, .f32⟩ : BufTy).Contents (Elt F) → (⟨S1024x1024, .f32⟩ : BufTy).Contents (Elt F) → (⟨S8x8192x1024, .f32⟩ : BufTy).Contents (Elt F)),
    unary main_arg6 main_v35 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v35 main_v34 main_v36 (mulf : (⟨S8x8192x1024, .f32⟩ : BufTy).Contents (Elt F) → (⟨S8x8192x1024, .f32⟩ : BufTy).Contents (Elt F) → (⟨S8x8192x1024, .f32⟩ : BufTy).Contents (Elt F)),
    binary main_arg0 main_v36 main_v37 (addf : (⟨S8x8192x1024, .f32⟩ : BufTy).Contents (Elt F) → (⟨S8x8192x1024, .f32⟩ : BufTy).Contents (Elt F) → (⟨S8x8192x1024, .f32⟩ : BufTy).Contents (Elt F)) ]
abbrev writtenB : List (Ref sig .tc) := [main_v22, main_v23, main_v24, main_v25, main_v26, main_v27, main_v28, main_v29, main_v30, main_v31, main_v32, main_v33, main_v34, main_v35, main_v36, main_v37]

abbrev opsC : List (HloOp τ sig (Elt F)) :=
  [ reshape main_arg11 main_v38 (rfl : (.f32 : EltTy) = .f32) shapeCasts_S1x1024_S1024,
    binary main_v37 main_v37 main_v39 (mulf : (⟨S8x8192x1024, .f32⟩ : BufTy).Contents (Elt F) → (⟨S8x8192x1024, .f32⟩ : BufTy).Contents (Elt F) → (⟨S8x8192x1024, .f32⟩ : BufTy).Contents (Elt F)),
    nullary main_cst_2 (constant S_ .f32 0x00000000#32),
    binary main_v39 main_cst_2 main_v40 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v40 main_v41 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_3 (constant S_ .f32 0x44800000#32),
    unary main_cst_3 main_v42 (broadcastInDim S8x8192x1 ![] bcast_S_S8x8192x1 : (⟨S_, .f32⟩ : BufTy).Contents (Elt F) → (⟨S8x8192x1, .f32⟩ : BufTy).Contents (Elt F)),
    binary main_v41 main_v42 main_v43 (Host.divf : (⟨S8x8192x1, .f32⟩ : BufTy).Contents (Elt F) → (⟨S8x8192x1, .f32⟩ : BufTy).Contents (Elt F) → (⟨S8x8192x1, .f32⟩ : BufTy).Contents (Elt F)),
    nullary main_cst_4 (constant S_ .f32 0x358637BD#32),
    unary main_cst_4 main_v44 (broadcastInDim S8x8192x1 ![] bcast_S_S8x8192x1 : (⟨S_, .f32⟩ : BufTy).Contents (Elt F) → (⟨S8x8192x1, .f32⟩ : BufTy).Contents (Elt F)),
    binary main_v43 main_v44 main_v45 (addf : (⟨S8x8192x1, .f32⟩ : BufTy).Contents (Elt F) → (⟨S8x8192x1, .f32⟩ : BufTy).Contents (Elt F) → (⟨S8x8192x1, .f32⟩ : BufTy).Contents (Elt F)),
    unary main_v45 main_v46 (Host.rsqrt : (⟨S8x8192x1, .f32⟩ : BufTy).Contents (Elt F) → (⟨S8x8192x1, .f32⟩ : BufTy).Contents (Elt F)),
    unary main_v46 main_v47 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_v37 main_v47 main_v48 (mulf : (⟨S8x8192x1024, .f32⟩ : BufTy).Contents (Elt F) → (⟨S8x8192x1024, .f32⟩ : BufTy).Contents (Elt F) → (⟨S8x8192x1024, .f32⟩ : BufTy).Contents (Elt F)),
    unary main_v38 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v48 main_v50 main_v51 (mulf : (⟨S8x8192x1024, .f32⟩ : BufTy).Contents (Elt F) → (⟨S8x8192x1024, .f32⟩ : BufTy).Contents (Elt F) → (⟨S8x8192x1024, .f32⟩ : BufTy).Contents (Elt F)),
    nullary main_cst_5 (constant S_ .f32 0x3F800000#32),
    unary main_cst_5 main_v52 (broadcastInDim S8x1x1024 ![] bcast_S_S8x1x1024 : (⟨S_, .f32⟩ : BufTy).Contents (Elt F) → (⟨S8x1x1024, .f32⟩ : BufTy).Contents (Elt F)),
    binary main_v52 main_arg7 main_v53 (addf : (⟨S8x1x1024, .f32⟩ : BufTy).Contents (Elt F) → (⟨S8x1x1024, .f32⟩ : BufTy).Contents (Elt F) → (⟨S8x1x1024, .f32⟩ : BufTy).Contents (Elt F)),
    unary main_v53 main_v54 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v51 main_v54 main_v55 (mulf : (⟨S8x8192x1024, .f32⟩ : BufTy).Contents (Elt F) → (⟨S8x8192x1024, .f32⟩ : BufTy).Contents (Elt F) → (⟨S8x8192x1024, .f32⟩ : BufTy).Contents (Elt F)),
    unary main_arg8 main_v56 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v55 main_v56 main_v57 (addf : (⟨S8x8192x1024, .f32⟩ : BufTy).Contents (Elt F) → (⟨S8x8192x1024, .f32⟩ : BufTy).Contents (Elt F) → (⟨S8x8192x1024, .f32⟩ : BufTy).Contents (Elt F)) ]
abbrev writtenC : List (Ref sig .tc) := [main_v38, main_v39, main_cst_2, main_v40, main_v41, main_cst_3, main_v42, main_v43, main_cst_4, main_v44, main_v45, main_v46, main_v47, main_v48, main_v49, main_v50, main_v51, main_cst_5, main_v52, main_v53, main_v54, main_v55, main_v56, main_v57]

abbrev opsD : List (HloOp τ sig (Elt F)) :=
  [ reshape main_arg16 main_v58 (rfl : (.f32 : EltTy) = .f32) shapeCasts_S1x1024x2816_S1024x2816,
    binary main_v57 main_v58 main_v59 ((fun l r => Host.dotGeneral dot_S8x8192x1024_S1024x2816_S8x8192x2816_2_0_01_1_n_n none l r) : (⟨S8x8192x1024, .f32⟩ : BufTy).Contents (Elt F) → (⟨S1024x2816, .f32⟩ : BufTy).Contents (Elt F) → (⟨S8x8192x2816, .f32⟩ : BufTy).Contents (Elt F)),
    TRef.unary (TRef.of (T := ⟨S8x8192x2816, .f32⟩) main_v59) (TRef.of (T := ⟨S8x8192x2816, .f32⟩) main_call0_v0) Host.negf,
    TRef.unary (TRef.of (T := ⟨S8x8192x2816, .f32⟩) main_call0_v0) (TRef.of (T := ⟨S8x8192x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8x8192x2816, .f32⟩) main_call0_v2) (broadcastInDim S8x8192x2816 ![] bcast_S_S8x8192x2816),
    TRef.binary (TRef.of (T := ⟨S8x8192x2816, .f32⟩) main_call0_v2) (TRef.of (T := ⟨S8x8192x2816, .f32⟩) main_call0_v1) (TRef.of (T := ⟨S8x8192x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8x8192x2816, .f32⟩) main_call0_v4) (broadcastInDim S8x8192x2816 ![] bcast_S_S8x8192x2816),
    TRef.binary (TRef.of (T := ⟨S8x8192x2816, .f32⟩) main_call0_v4) (TRef.of (T := ⟨S8x8192x2816, .f32⟩) main_call0_v3) (TRef.of (T := ⟨S8x8192x2816, .f32⟩) main_call0_v5) Host.divf,
    TRef.binary (TRef.of (T := ⟨S8x8192x2816, .f32⟩) main_v59) (TRef.of (T := ⟨S8x8192x2816, .f32⟩) main_call0_v5) (TRef.of (T := ⟨S8x8192x2816, .f32⟩) main_v60) mulf,
    reshape main_arg17 main_v61 (rfl : (.f32 : EltTy) = .f32) shapeCasts_S1x1024x2816_S1024x2816,
    binary main_v57 main_v61 main_v62 ((fun l r => Host.dotGeneral dot_S8x8192x1024_S1024x2816_S8x8192x2816_2_0_01_1_n_n none l r) : (⟨S8x8192x1024, .f32⟩ : BufTy).Contents (Elt F) → (⟨S1024x2816, .f32⟩ : BufTy).Contents (Elt F) → (⟨S8x8192x2816, .f32⟩ : BufTy).Contents (Elt F)),
    binary main_v60 main_v62 main_v63 (mulf : (⟨S8x8192x2816, .f32⟩ : BufTy).Contents (Elt F) → (⟨S8x8192x2816, .f32⟩ : BufTy).Contents (Elt F) → (⟨S8x8192x2816, .f32⟩ : BufTy).Contents (Elt F)),
    reshape main_arg18 main_v64 (rfl : (.f32 : EltTy) = .f32) shapeCasts_S1x2816x1024_S2816x1024,
    binary main_v63 main_v64 main_v65 ((fun l r => Host.dotGeneral dot_S8x8192x2816_S2816x1024_S8x8192x1024_2_0_01_1_n_n none l r) : (⟨S8x8192x2816, .f32⟩ : BufTy).Contents (Elt F) → (⟨S2816x1024, .f32⟩ : BufTy).Contents (Elt F) → (⟨S8x8192x1024, .f32⟩ : BufTy).Contents (Elt F)),
    unary main_arg9 main_v66 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v66 main_v65 main_v67 (mulf : (⟨S8x8192x1024, .f32⟩ : BufTy).Contents (Elt F) → (⟨S8x8192x1024, .f32⟩ : BufTy).Contents (Elt F) → (⟨S8x8192x1024, .f32⟩ : BufTy).Contents (Elt F)),
    binary main_v37 main_v67 main_v68 (addf : (⟨S8x8192x1024, .f32⟩ : BufTy).Contents (Elt F) → (⟨S8x8192x1024, .f32⟩ : BufTy).Contents (Elt F) → (⟨S8x8192x1024, .f32⟩ : BufTy).Contents (Elt F)) ]
abbrev writtenD : List (Ref sig .tc) := [main_v58, main_v59, main_call0_v0, main_call0_v1, main_call0_cst, main_call0_v2, main_call0_v3, main_call0_cst_0, main_call0_v4, main_call0_v5, main_v60, main_v61, main_v62, main_v63, main_v64, main_v65, main_v66, main_v67, main_v68]

abbrev opsE : List (HloOp τ sig (Elt F)) :=
  [ binary main_v68 main_v68 main_v69 (mulf : (⟨S8x8192x1024, .f32⟩ : BufTy).Contents (Elt F) → (⟨S8x8192x1024, .f32⟩ : BufTy).Contents (Elt F) → (⟨S8x8192x1024, .f32⟩ : BufTy).Contents (Elt F)),
    nullary main_cst_6 (constant S_ .f32 0x00000000#32),
    binary main_v69 main_cst_6 main_v70 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v70 main_v71 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_7 (constant S_ .f32 0x44800000#32),
    unary main_cst_7 main_v72 (broadcastInDim S8x8192x1 ![] bcast_S_S8x8192x1 : (⟨S_, .f32⟩ : BufTy).Contents (Elt F) → (⟨S8x8192x1, .f32⟩ : BufTy).Contents (Elt F)),
    binary main_v71 main_v72 main_v73 (Host.divf : (⟨S8x8192x1, .f32⟩ : BufTy).Contents (Elt F) → (⟨S8x8192x1, .f32⟩ : BufTy).Contents (Elt F) → (⟨S8x8192x1, .f32⟩ : BufTy).Contents (Elt F)),
    nullary main_cst_8 (constant S_ .f32 0x358637BD#32),
    unary main_cst_8 main_v74 (broadcastInDim S8x8192x1 ![] bcast_S_S8x8192x1 : (⟨S_, .f32⟩ : BufTy).Contents (Elt F) → (⟨S8x8192x1, .f32⟩ : BufTy).Contents (Elt F)),
    binary main_v73 main_v74 main_v75 (addf : (⟨S8x8192x1, .f32⟩ : BufTy).Contents (Elt F) → (⟨S8x8192x1, .f32⟩ : BufTy).Contents (Elt F) → (⟨S8x8192x1, .f32⟩ : BufTy).Contents (Elt F)),
    unary main_v75 main_v76 (Host.rsqrt : (⟨S8x8192x1, .f32⟩ : BufTy).Contents (Elt F) → (⟨S8x8192x1, .f32⟩ : BufTy).Contents (Elt F)),
    unary main_v76 main_v77 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_v68 main_v77 main_v78 (mulf : (⟨S8x8192x1024, .f32⟩ : BufTy).Contents (Elt F) → (⟨S8x8192x1024, .f32⟩ : BufTy).Contents (Elt F) → (⟨S8x8192x1024, .f32⟩ : BufTy).Contents (Elt F)),
    unary main_arg12 main_v79 (broadcastInDim S1x1x1024 ![2] bcast_S1024_S1x1x1024_2 : (⟨S1024, .f32⟩ : BufTy).Contents (Elt F) → (⟨S1x1x1024, .f32⟩ : BufTy).Contents (Elt F)),
    unary main_v79 main_v80 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v78 main_v80 main_v81 (mulf : (⟨S8x8192x1024, .f32⟩ : BufTy).Contents (Elt F) → (⟨S8x8192x1024, .f32⟩ : BufTy).Contents (Elt F) → (⟨S8x8192x1024, .f32⟩ : BufTy).Contents (Elt F)) ]
abbrev writtenE : List (Ref sig .tc) := [main_v69, main_cst_6, main_v70, main_v71, main_cst_7, main_v72, main_v73, main_cst_8, main_v74, main_v75, main_v76, main_v77, main_v78, main_v79, main_v80, main_v81]

/-- The whole line. -/
abbrev ops : List (HloOp τ sig (Elt F)) := opsA ++ (opsB ++ (opsC ++ (opsD ++ opsE)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., reshape_bufs_sub .., reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., unary_bufs_sub .., reshape_bufs_sub .., binary_bufs_sub .., binary_bufs_sub .., unary_bufs_sub .., reshape_bufs_sub .., binary_bufs_sub .., binary_bufs_sub .., binary_bufs_sub .., reshape_bufs_sub .., binary_bufs_sub .., unary_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., binary_bufs_sub .., binary_bufs_sub .., reshape_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

end Cert.TailReferenceIdeal.Line

end
-- ==== Proof.Tail.At.lean ====
module

public import proofs.«01_k».proof.Proof.Tail.Line
public import proofs.«01_k».proof.Proof.Tail.Spec
public import Idealize.ShloMosaic.Lib.StableHlo.ReadAt
public import Idealize.ShloMosaic.Lib.Pointwise

@[expose] public section

set_option maxRecDepth 16384

noncomputable section

/-! What each stretch of the reference leaves in its last buffer, at an index. -/

namespace Cert.TailReferenceIdeal.Line

open Cert.TailReferenceIdeal Cert.TailReferenceIdeal.Gen Idealize.ShloMosaic Idealize.ShloMosaic.TcCoe Idealize.SL.Sem Idealize.ShloMosaic.StableHlo

variable (V : Valuation τ sig (Elt Ideal)) (b : Fin 8) (t : Fin 8192) (d : Fin 1024)

theorem atA : (after (opsA (F := Ideal)) V (Proc.devRef .tc main_v21) : S8x8192x1024.Idx → EReal) (ix3 b t d)
    = Tail.mixed (fun j => (V (Proc.devRef .tc main_arg1) : S8x8192x1024.Idx → EReal) (ix3 b t j)) (fun j => (V (Proc.devRef .tc main_arg2) : S8x8192x1024.Idx → EReal) (ix3 b t j)) (fun j => (V (Proc.devRef .tc main_arg3) : S8x8192x1024.Idx → EReal) (ix3 b t j)) (fun j => (V (Proc.devRef .tc main_arg10) : S1x1024.Idx → EReal) (ix2 0 j)) d := by
  unfold Tail.mixed Tail.rms Tail.headAt Tail.w256 Tail.eps
  after_reads_at
  have hd : (⟨d.val / 256 * 256 + d.val % 256, by omega⟩ : Fin 1024) = d := Fin.ext (by dsimp only; omega)
  simp only [hd]

theorem atB : (after (opsB (F := Ideal)) V (Proc.devRef .tc main_v37) : S8x8192x1024.Idx → EReal) (ix3 b t d)
    = Tail.first (fun j => (V (Proc.devRef .tc main_arg0) : S8x8192x1024.Idx → EReal) (ix3 b t j)) (fun j => (V (Proc.devRef .tc main_arg6) : S8x1x1024.Idx → EReal) (ix3 b 0 j)) (fun j => (V (Proc.devRef .tc main_arg4) : S8x8192x1024.Idx → EReal) (ix3 b t j)) (fun j => (V (Proc.devRef .tc main_v21) : S8x8192x1024.Idx → EReal) (ix3 b t j)) (fun j => (V (Proc.devRef .tc main_arg5) : S8x8192x2048.Idx → EReal) (ix3 b t j)) (fun i j => (V (Proc.devRef .tc main_arg13) : S1x1024x1024.Idx → EReal) (ix3 0 i j)) (fun i j => (V (Proc.devRef .tc main_arg14) : S1x1024x1024.Idx → EReal) (ix3 0 i j)) (fun i j => (V (Proc.devRef .tc main_arg15) : S1x1024x1024.Idx → EReal) (ix3 0 i j)) d := by
  unfold Tail.first
  after_reads_at

theorem atC : (after (opsC (F := Ideal)) V (Proc.devRef .tc main_v57) : S8x8192x1024.Idx → EReal) (ix3 b t d)
    = Tail.modulated (fun j => (V (Proc.devRef .tc main_v37) : S8x8192x1024.Idx → EReal) (ix3 b t j)) (fun j => (V (Proc.devRef .tc main_arg11) : S1x1024.Idx → EReal) (ix2 0 j)) (fun j => (V (Proc.devRef .tc main_arg7) : S8x1x1024.Idx → EReal) (ix3 b 0 j)) (fun j => (V (Proc.devRef .tc main_arg8) : S8x1x1024.Idx → EReal) (ix3 b 0 j)) d := by
  unfold Tail.modulated Tail.rms Tail.w1024 Tail.eps
  after_reads_at

theorem atD : (after (opsD (F := Ideal)) V (Proc.devRef .tc main_v68) : S8x8192x1024.Idx → EReal) (ix3 b t d)
    = Tail.second (fun j => (V (Proc.devRef .tc main_v37) : S8x8192x1024.Idx → EReal) (ix3 b t j)) (fun j => (V (Proc.devRef .tc main_arg9) : S8x1x1024.Idx → EReal) (ix3 b 0 j)) (fun j => (V (Proc.devRef .tc main_v57) : S8x8192x1024.Idx → EReal) (ix3 b t j)) (fun i j => (V (Proc.devRef .tc main_arg16) : S1x1024x2816.Idx → EReal) (ix3 0 i j)) (fun i j => (V (Proc.devRef .tc main_arg17) : S1x1024x2816.Idx → EReal) (ix3 0 i j)) (fun i j => (V (Proc.devRef .tc main_arg18) : S1x2816x1024.Idx → EReal) (ix3 0 i j)) d := by
  unfold Tail.second
  after_reads_at

theorem atE : (after (opsE (F := Ideal)) V (Proc.devRef .tc main_v81) : S8x8192x1024.Idx → EReal) (ix3 b t d)
    = Tail.rms Tail.w1024 (fun j => (V (Proc.devRef .tc main_v68) : S8x8192x1024.Idx → EReal) (ix3 b t j)) d * (V (Proc.devRef .tc main_arg12) : S1024.Idx → EReal) (ix1 d) := by
  unfold Tail.rms Tail.w1024 Tail.eps
  after_reads_at

theorem keepA (r : Ref sig .tc) (h : r ∉ writtenA) : after (opsA (F := Ideal)) V (Proc.devRef .tc r) = V (Proc.devRef .tc r) :=
  after_unwritten writtenA rfl h V
theorem keepB (r : Ref sig .tc) (h : r ∉ writtenB) : after (opsB (F := Ideal)) V (Proc.devRef .tc r) = V (Proc.devRef .tc r) :=
  after_unwritten writtenB rfl h V
theorem keepC (r : Ref sig .tc) (h : r ∉ writtenC) : after (opsC (F := Ideal)) V (Proc.devRef .tc r) = V (Proc.devRef .tc r) :=
  after_unwritten writtenC rfl h V
theorem keepD (r : Ref sig .tc) (h : r ∉ writtenD) : after (opsD (F := Ideal)) V (Proc.devRef .tc r) = V (Proc.devRef .tc r) :=
  after_unwritten writtenD rfl h V
theorem keepE (r : Ref sig .tc) (h : r ∉ writtenE) : after (opsE (F := Ideal)) V (Proc.devRef .tc r) = V (Proc.devRef .tc r) :=
  after_unwritten writtenE rfl h V

end Cert.TailReferenceIdeal.Line

end
-- ==== Proof.Tail.Run.lean ====
module

public import proofs.«01_k».proof.Proof.Tail.At

@[expose] public section

set_option maxRecDepth 16384

noncomputable section

/-! The reference's run: its result array, and the arguments as launched. -/

namespace Cert.TailReferenceIdeal.Line

open Cert.TailReferenceIdeal Cert.TailReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The stage over the whole arrays. -/
def G (c : Dev nD) (y : S8x8192x1024.Idx) : EReal :=
  Tail.stage (fun j => (m ((c : Thread nD τ).loc main_arg0) : S8x8192x1024.Idx → EReal) (ix3 (y 0) (y 1) j))
    (fun j => (m ((c : Thread nD τ).loc main_arg1) : S8x8192x1024.Idx → EReal) (ix3 (y 0) (y 1) j))
    (fun j => (m ((c : Thread nD τ).loc main_arg2) : S8x8192x1024.Idx → EReal) (ix3 (y 0) (y 1) j))
    (fun j => (m ((c : Thread nD τ).loc main_arg3) : S8x8192x1024.Idx → EReal) (ix3 (y 0) (y 1) j))
    (fun j => (m ((c : Thread nD τ).loc main_arg4) : S8x8192x1024.Idx → EReal) (ix3 (y 0) (y 1) j))
    (fun j => (m ((c : Thread nD τ).loc main_arg5) : S8x8192x2048.Idx → EReal) (ix3 (y 0) (y 1) j))
    (fun j => (m ((c : Thread nD τ).loc main_arg6) : S8x1x1024.Idx → EReal) (ix3 (y 0) 0 j))
    (fun j => (m ((c : Thread nD τ).loc main_arg7) : S8x1x1024.Idx → EReal) (ix3 (y 0) 0 j))
    (fun j => (m ((c : Thread nD τ).loc main_arg8) : S8x1x1024.Idx → EReal) (ix3 (y 0) 0 j))
    (fun j => (m ((c : Thread nD τ).loc main_arg9) : S8x1x1024.Idx → EReal) (ix3 (y 0) 0 j))
    (fun j => (m ((c : Thread nD τ).loc main_arg10) : S1x1024.Idx → EReal) (ix2 0 j))
    (fun j => (m ((c : Thread nD τ).loc main_arg11) : S1x1024.Idx → EReal) (ix2 0 j))
    (fun j => (m ((c : Thread nD τ).loc main_arg12) : S1024.Idx → EReal) (ix1 j))
    (fun i j => (m ((c : Thread nD τ).loc main_arg13) : S1x1024x1024.Idx → EReal) (ix3 0 i j))
    (fun i j => (m ((c : Thread nD τ).loc main_arg14) : S1x1024x1024.Idx → EReal) (ix3 0 i j))
    (fun i j => (m ((c : Thread nD τ).loc main_arg15) : S1x1024x1024.Idx → EReal) (ix3 0 i j))
    (fun i j => (m ((c : Thread nD τ).loc main_arg16) : S1x1024x2816.Idx → EReal) (ix3 0 i j))
    (fun i j => (m ((c : Thread nD τ).loc main_arg17) : S1x1024x2816.Idx → EReal) (ix3 0 i j))
    (fun i j => (m ((c : Thread nD τ).loc main_arg18) : S1x2816x1024.Idx → EReal) (ix3 0 i j)) (y 2)

theorem after_app (l₁ l₂ : List (HloOp τ sig (Elt Ideal))) (V : Valuation τ sig (Elt Ideal)) : after (l₁ ++ l₂) V = after l₂ (after l₁ V) := by
  induction l₁ generalizing V with
  | nil => rfl
  | cons op l ih => exact ih _

/-- The line, stretch by stretch. -/
theorem after_ops (V : Valuation τ sig (Elt Ideal)) : after (ops (F := Ideal)) V = after opsE (after opsD (after opsC (after opsB (after opsA V)))) := by
  unfold ops
  rw [after_app, after_app, after_app, after_app]

/-- A buffer that no operation writes keeps its contents. -/
theorem keep (V : Valuation τ sig (Elt Ideal)) (r : Ref sig .tc) (hA : r ∉ writtenA) (hB : r ∉ writtenB) (hC : r ∉ writtenC) (hD : r ∉ writtenD) (hE : r ∉ writtenE) :
    after (ops (F := Ideal)) V (Proc.devRef .tc r) = V (Proc.devRef .tc r) := by
  rw [after_ops, keepE _ r hE, keepD _ r hD, keepC _ r hC, keepB _ r hB, keepA _ r hA]

/-! The row each stretch leaves. -/
theorem rowA (V : Valuation τ sig (Elt Ideal)) (b : Fin 8) (t : Fin 8192) : (fun j => (after (opsA (F := Ideal)) V (Proc.devRef .tc main_v21) : S8x8192x1024.Idx → EReal) (ix3 b t j))
    = Tail.mixed (fun j => (V (Proc.devRef .tc main_arg1) : S8x8192x1024.Idx → EReal) (ix3 b t j)) (fun j => (V (Proc.devRef .tc main_arg2) : S8x8192x1024.Idx → EReal) (ix3 b t j)) (fun j => (V (Proc.devRef .tc main_arg3) : S8x8192x1024.Idx → EReal) (ix3 b t j)) (fun j => (V (Proc.devRef .tc main_arg10) : S1x1024.Idx → EReal) (ix2 0 j)) :=
  funext fun j => atA V b t j

theorem rowB (V : Valuation τ sig (Elt Ideal)) (b : Fin 8) (t : Fin 8192) : (fun j => (after (opsB (F := Ideal)) V (Proc.devRef .tc main_v37) : S8x8192x1024.Idx → EReal) (ix3 b t j))
    = Tail.first (fun j => (V (Proc.devRef .tc main_arg0) : S8x8192x1024.Idx → EReal) (ix3 b t j)) (fun j => (V (Proc.devRef .tc main_arg6) : S8x1x1024.Idx → EReal) (ix3 b 0 j)) (fun j => (V (Proc.devRef .tc main_arg4) : S8x8192x1024.Idx → EReal) (ix3 b t j)) (fun j => (V (Proc.devRef .tc main_v21) : S8x8192x1024.Idx → EReal) (ix3 b t j)) (fun j => (V (Proc.devRef .tc main_arg5) : S8x8192x2048.Idx → EReal) (ix3 b t j)) (fun i j => (V (Proc.devRef .tc main_arg13) : S1x1024x1024.Idx → EReal) (ix3 0 i j)) (fun i j => (V (Proc.devRef .tc main_arg14) : S1x1024x1024.Idx → EReal) (ix3 0 i j)) (fun i j => (V (Proc.devRef .tc main_arg15) : S1x1024x1024.Idx → EReal) (ix3 0 i j)) :=
  funext fun j => atB V b t j

theorem rowC (V : Valuation τ sig (Elt Ideal)) (b : Fin 8) (t : Fin 8192) : (fun j => (after (opsC (F := Ideal)) V (Proc.devRef .tc main_v57) : S8x8192x1024.Idx → EReal) (ix3 b t j))
    = Tail.modulated (fun j => (V (Proc.devRef .tc main_v37) : S8x8192x1024.Idx → EReal) (ix3 b t j)) (fun j => (V (Proc.devRef .tc main_arg11) : S1x1024.Idx → EReal) (ix2 0 j)) (fun j => (V (Proc.devRef .tc main_arg7) : S8x1x1024.Idx → EReal) (ix3 b 0 j)) (fun j => (V (Proc.devRef .tc main_arg8) : S8x1x1024.Idx → EReal) (ix3 b 0 j)) :=
  funext fun j => atC V b t j

theorem rowD (V : Valuation τ sig (Elt Ideal)) (b : Fin 8) (t : Fin 8192) : (fun j => (after (opsD (F := Ideal)) V (Proc.devRef .tc main_v68) : S8x8192x1024.Idx → EReal) (ix3 b t j))
    = Tail.second (fun j => (V (Proc.devRef .tc main_v37) : S8x8192x1024.Idx → EReal) (ix3 b t j)) (fun j => (V (Proc.devRef .tc main_arg9) : S8x1x1024.Idx → EReal) (ix3 b 0 j)) (fun j => (V (Proc.devRef .tc main_v57) : S8x8192x1024.Idx → EReal) (ix3 b t j)) (fun i j => (V (Proc.devRef .tc main_arg16) : S1x1024x2816.Idx → EReal) (ix3 0 i j)) (fun i j => (V (Proc.devRef .tc main_arg17) : S1x1024x2816.Idx → EReal) (ix3 0 i j)) (fun i j => (V (Proc.devRef .tc main_arg18) : S1x2816x1024.Idx → EReal) (ix3 0 i j)) :=
  funext fun j => atD V b t j

/-- The result at an index, from the contents before the line. -/
theorem out_at (c : Dev nD) (b : Fin 8) (t : Fin 8192) (d : Fin 1024) :
    (after (ops (F := Ideal)) (fun b => m (c, b)) (Proc.devRef .tc main_v81) : S8x8192x1024.Idx → EReal) (ix3 b t d) = G m c (ix3 b t d) := by
  rw [after_ops, atE, rowD, rowC]
  rw [keepD _ main_arg12 (by decide), keepC _ main_v37 (by decide), keepC _ main_arg9 (by decide), keepC _ main_arg12 (by decide), keepC _ main_arg16 (by decide), keepC _ main_arg17 (by decide), keepC _ main_arg18 (by decide)]
  rw [rowB]
  rw [keepB _ main_arg7 (by decide), keepB _ main_arg8 (by decide), keepB _ main_arg9 (by decide), keepB _ main_arg11 (by decide), keepB _ main_arg12 (by decide), keepB _ main_arg16 (by decide), keepB _ main_arg17 (by decide), keepB _ main_arg18 (by decide)]
  rw [rowA]
  rw [keepA _ main_arg0 (by decide), keepA _ main_arg4 (by decide), keepA _ main_arg5 (by decide), keepA _ main_arg6 (by decide), keepA _ main_arg7 (by decide), keepA _ main_arg8 (by decide), keepA _ main_arg9 (by decide), keepA _ main_arg11 (by decide), keepA _ main_arg12 (by decide), keepA _ main_arg13 (by decide), keepA _ main_arg14 (by decide), keepA _ main_arg15 (by decide), keepA _ main_arg16 (by decide), keepA _ main_arg17 (by decide), keepA _ main_arg18 (by decide)]
  rfl

theorem run : θ_run defs (onTc (τ := τ) (main (F := Ideal))) ⟨m, fun _ => 0, ρ⟩ fun r => ∀ c : Dev nD,
      r.2.mem ((c : Thread nD τ).loc main_v81) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun _ h c => ⟨(h c main_v81).trans (funext fun y => by rw [eq_ix3 y]; exact out_at m c _ _ _),
      (h c main_arg0).trans (keep _ _ (by decide) (by decide) (by decide) (by decide) (by decide)),
      (h c main_arg1).trans (keep _ _ (by decide) (by decide) (by decide) (by decide) (by decide)),
      (h c main_arg2).trans (keep _ _ (by decide) (by decide) (by decide) (by decide) (by decide)),
      (h c main_arg3).trans (keep _ _ (by decide) (by decide) (by decide) (by decide) (by decide)),
      (h c main_arg4).trans (keep _ _ (by decide) (by decide) (by decide) (by decide) (by decide)),
      (h c main_arg5).trans (keep _ _ (by decide) (by decide) (by decide) (by decide) (by decide)),
      (h c main_arg6).trans (keep _ _ (by decide) (by decide) (by decide) (by decide) (by decide)),
      (h c main_arg7).trans (keep _ _ (by decide) (by decide) (by decide) (by decide) (by decide)),
      (h c main_arg8).trans (keep _ _ (by decide) (by decide) (by decide) (by decide) (by decide)),
      (h c main_arg9).trans (keep _ _ (by decide) (by decide) (by decide) (by decide) (by decide)),
      (h c main_arg10).trans (keep _ _ (by decide) (by decide) (by decide) (by decide) (by decide)),
      (h c main_arg11).trans (keep _ _ (by decide) (by decide) (by decide) (by decide) (by decide)),
      (h c main_arg12).trans (keep _ _ (by decide) (by decide) (by decide) (by decide) (by decide)),
      (h c main_arg13).trans (keep _ _ (by decide) (by decide) (by decide) (by decide) (by decide)),
      (h c main_arg14).trans (keep _ _ (by decide) (by decide) (by decide) (by decide) (by decide)),
      (h c main_arg15).trans (keep _ _ (by decide) (by decide) (by decide) (by decide) (by decide)),
      (h c main_arg16).trans (keep _ _ (by decide) (by decide) (by decide) (by decide) (by decide)),
      (h c main_arg17).trans (keep _ _ (by decide) (by decide) (by decide) (by decide) (by decide)),
      (h c main_arg18).trans (keep _ _ (by decide) (by decide) (by decide) (by decide) (by decide))⟩)
    (run_seq scopedRefs_eq scopedSems_eq defs main (fun _ => ops) main_eq (fun _ => ops_sub) m ρ)

end Cert.TailReferenceIdeal.Line

end
-- ==== Proof.Tail.Equal.lean ====
module

public import proofs.«01_k».proof.Defs
public import proofs.«01_k».proof.Proof.Tail.Arr
public import proofs.«01_k».proof.Proof.Tail.Run
public import proofs.«01_k».proof.Proof.Gen.KernelIdeal
public import proofs.«01_k».proof.Proof.Gen.ReferenceIdeal
public import proofs.«01_k».proof.Proof.Gen.Pre_finite

@[expose] public section

set_option maxRecDepth 16384

noncomputable section

/-! The output stage's kernel and its reference leave equal results. -/

namespace Cert.Tail

open Idealize.ShloMosaic Idealize.ShloMosaic.TcCoe Idealize.SL.Sem

theorem stage_equal : Cert.algebraic_TailIdeal_TailReferenceIdeal := by
  intro m g m' g' _ hag
  refine ⟨fun c => Cert.TailIdeal.Arr.G m c, Cert.TailIdeal.Arr.run m g, ?_⟩
  refine (θ_run _ _ _).mono (fun r h c => ⟨(h c).1.trans ?_, (h c).2⟩) (Cert.TailReferenceIdeal.Line.run m' g')
  obtain ⟨a0, a1, a2, a3, a4, a5, a6, a7, a8, a9, a10, a11, a12, a13, a14, a15, a16, a17, a18⟩ := hag c
  funext y
  unfold Cert.TailReferenceIdeal.Line.G Cert.TailIdeal.Arr.G
  rw [a0, a1, a2, a3, a4, a5, a6, a7, a8, a9, a10, a11, a12, a13, a14, a15, a16, a17, a18]

/-- The reference's frame. -/
theorem reference_frame : Cert.quiescent_TailReferenceIdeal := fun m g _ =>
  (θ_run _ _ _).mono (fun r h => ⟨fun c => (h c).2, sem_eq_zero_of_no_sems (by decide) r.2⟩) (Cert.TailReferenceIdeal.Line.run m g)

end Cert.Tail

end
-- ==== Proof.Proj.Spec.lean ====
module

public import proofs.«01_k».proof.Proof.Tail.Spec

@[expose] public section

set_option maxRecDepth 16384

noncomputable section

/-! What the projections compute, by row, column and head. -/

namespace Cert.Proj

open Idealize.ShloMosaic

/-- A column of the projected row. -/
def col (h w : Fin 1024 → EReal) : EReal := ∑ x, h x * w x

/-- The logistic function as the programs spell it, and the product with its argument. -/
def gate (y : EReal) : EReal := Ideal.div 1 (1 + Ideal.exp (-y))
def silu (y : EReal) : EReal := y * gate y

/-- The keys' scale, one sixteenth. -/
def scaled (y : EReal) : EReal := y * Ideal.ofBits .f32 1031798784#32

/-- The entry `k - 2` rows after row `t`, zero outside the sequence. -/
def shifted (z : Fin 8192 → EReal) (k : ℕ) (t : Fin 8192) : EReal :=
  if h : 2 ≤ k + t.val ∧ k + t.val - 2 < 8192 then z ⟨k + t.val - 2, h.2⟩ else 0

/-- The convolution of five taps along the sequence. -/
def conv (z : Fin 8192 → EReal) (w : Fin 5 → EReal) (b : EReal) (t : Fin 8192) : EReal :=
  shifted z 0 t * w 0 + shifted z 1 t * w 1 + z t * w 2 + shifted z 3 t * w 3 + shifted z 4 t * w 4 + b

/-- The width of an attention head. -/
def w128 : EReal := Ideal.ofBits .f32 1124073472#32

theorem w128_eq : w128 = ((128 : ℝ) : EReal) := by
  unfold w128; simp [Ideal.ofBits, Ideal.ieee, -EReal.coe_mul]; norm_num
theorem inv128_eq : Ideal.ofBits .f32 1006632960#32 = ((1 / 128 : ℝ) : EReal) := by
  simp [Ideal.ofBits, Ideal.ieee, -EReal.coe_mul]; norm_num
theorem mul_inv128 (s : EReal) : s * Ideal.ofBits .f32 1006632960#32 = Ideal.div s w128 := by
  rw [w128_eq, inv128_eq, Ideal.div_coe (by norm_num)]

/-- A head's columns, normed and scaled. -/
def normed (z g : Fin 128 → EReal) (e : Fin 128) : EReal := Tail.rms w128 z e * g e

/-- The rotation: pairs of neighbouring columns in, all first parts and then all second parts out. -/
def rope (n : Fin 128 → EReal) (c s : Fin 64 → EReal) (e : Fin 128) : EReal :=
  if h : e.val < 64 then n ⟨2 * e.val, by omega⟩ * c ⟨e.val, h⟩ - n ⟨1 + 2 * e.val, by omega⟩ * s ⟨e.val, h⟩
  else n ⟨2 * (e.val - 64), by omega⟩ * s ⟨e.val - 64, by omega⟩ + n ⟨1 + 2 * (e.val - 64), by omega⟩ * c ⟨e.val - 64, by omega⟩

/-- The column from which the rotated column `e` of a head comes. -/
def pair (e : Fin 128) : Fin 128 := ⟨if e.val < 64 then 2 * e.val else 2 * (e.val - 64) + 1, by split <;> omega⟩

/-- The rotation's frequencies. -/
def freq (k : Fin 32) : EReal :=
  Ideal.pow (Ideal.ofBits .f32 1176256512#32) (Ideal.div (-(FloatOps.sitofp (F := Ideal) .f32 (BitVec.ofNat 32 k.val))) (Ideal.ofBits .f32 1107296256#32))

/-- The rotation's angle at sequence row `t`: by the grid's row, then by its column. -/
def angle (t : Fin 8192) (k : Fin 64) : EReal :=
  if h : k.val < 32 then (FloatOps.sitofp (F := Ideal) .f32 (BitVec.ofNat 32 (t.val / 64)) : EReal) * freq ⟨k.val, h⟩
  else (FloatOps.sitofp (F := Ideal) .f32 (BitVec.ofNat 32 (t.val % 64)) : EReal) * freq ⟨k.val - 32, by omega⟩

/-- The arrays the projections take: the input, the modulation's two rows by batch, the norm's gain, the weight's columns, the convolution's taps and bias, the queries' and keys' gains. -/
structure Args where
  x : Fin 8 → Fin 8192 → Fin 1024 → EReal
  sc : Fin 8 → Fin 1024 → EReal
  sh : Fin 8 → Fin 1024 → EReal
  n1 : Fin 1024 → EReal
  w : Fin 1024 → Fin 7696 → EReal
  cw : Fin 5 → Fin 2048 → EReal
  cb : Fin 2048 → EReal
  gq : Fin 128 → EReal
  gk : Fin 128 → EReal

namespace Args

variable (a : Args) (b : Fin 8) (t : Fin 8192)

/-- The modulated row and its projection. -/
def row : Fin 1024 → EReal := Tail.modulated (a.x b t) a.n1 (a.sc b) (a.sh b)
def z (n : Fin 7696) : EReal := col (a.row b t) (fun i => a.w i n)

/-- The convolved columns. -/
def qk (d : Fin 2048) : EReal := silu (conv (fun s => a.z b s ⟨d.val, by omega⟩) (fun k => a.cw k d) (a.cb d) t)

/-! The results, at a row and a column. -/
def query (d : Fin 1024) : EReal := a.qk b t ⟨d.val, by omega⟩
def key (d : Fin 1024) : EReal := scaled (a.qk b t ⟨1024 + d.val, by omega⟩)
def value (d : Fin 1024) : EReal := a.z b t ⟨2048 + d.val, by omega⟩
def outGate (d : Fin 1024) : EReal := gate (a.z b t ⟨3072 + d.val, by omega⟩)
def attnQuery (d : Fin 1024) : EReal :=
  rope (normed (fun e => a.z b t ⟨4112 + (d.val / 128 * 128 + e.val), by omega⟩) a.gq) (fun k => Ideal.cos (angle t k)) (fun k => Ideal.sin (angle t k)) ⟨d.val % 128, by omega⟩
def attnKey (d : Fin 256) : EReal :=
  rope (normed (fun e => a.z b t ⟨5136 + (d.val / 128 * 128 + e.val), by omega⟩) a.gk) (fun k => Ideal.cos (angle t k)) (fun k => Ideal.sin (angle t k)) ⟨d.val % 128, by omega⟩
def attnValue (d : Fin 256) : EReal := a.z b t ⟨5392 + d.val, by omega⟩
def mergeGate (d : Fin 2048) : EReal := gate (a.z b t ⟨5648 + d.val, by omega⟩)

end Args

end Cert.Proj

end
-- ==== Proof.Proj.Pays.lean ====
module

public import Idealize.ShloMosaic.Lib.Pointwise
public import Idealize.ShloMosaic.Lib.Pipeline.ValueKit
public import proofs.«01_k».proof.Proof.Gen.ProjIdeal.Frame
public import proofs.«01_k».proof.Proof.Proj.Spec

@[expose] public section

set_option maxRecDepth 16384

noncomputable section

/-! The projections' body: what each of its parts computes, at an index. -/

namespace Cert.ProjIdeal.Pays

open Cert.ProjIdeal Cert.ProjIdeal.Gen Idealize.ShloMosaic

/-- The block's rows with their eight neighbours on each side. -/
def ext (v0 : Vec Ideal S1x8x1024 .f32) (v2 : Vec Ideal S1x256x1024 .f32) (v4 : Vec Ideal S1x8x1024 .f32) (r : Fin 272) (x : Fin 1024) : EReal :=
  if h : r.val < 8 then v0 (ix3 0 ⟨r.val, h⟩ x) else if h : r.val - 8 < 256 then v2 (ix3 0 ⟨r.val - 8, h⟩ x) else v4 (ix3 0 ⟨r.val - 8 - 256, by omega⟩ x)

section Rows
variable (v0 : Vec Ideal S1x8x1024 .f32) (v2 : Vec Ideal S1x256x1024 .f32) (v4 : Vec Ideal S1x8x1024 .f32) (v17 : Vec Ideal S1x1024 .f32) (v21 v27 : Vec Ideal S1x1x1024 .f32) (x : Fin 1024)

theorem extended_apply (r : Fin 272) : k0_pay5 v0 v2 v4 v17 v21 v27 (ix2 r x)
    = Tail.modulated (ext v0 v2 v4 r) (fun j => v17 (ix2 0 j)) (fun j => v21 (ix3 0 0 j)) (fun j => v27 (ix3 0 0 j)) x := by
  unfold Tail.modulated Tail.rms Tail.eps
  rw [← Tail.mul_inv1024]
  unfold ext
  pointwise [k0_pay5, k0_pay3]

theorem rows_apply (r : Fin 256) : k0_pay4 v0 v2 v4 v17 v21 v27 (ix2 r x)
    = Tail.modulated (ext v0 v2 v4 ⟨8 + r.val, by omega⟩) (fun j => v17 (ix2 0 j)) (fun j => v21 (ix3 0 0 j)) (fun j => v27 (ix3 0 0 j)) x := by
  unfold Tail.modulated Tail.rms Tail.eps
  rw [← Tail.mul_inv1024]
  unfold ext
  pointwise [k0_pay4, k0_pay3]
end Rows

section Convolution
variable (arg1 : BitVec 32) (v33 : FVec Ideal S272x1024 .bf16) (v34 : Vec Ideal S1024x2048 .bf16) (d : Fin 2048)

/-- Whether an extended row lies in the sequence, as the body decides it. -/
def inside (r : Fin 272) : BitVec 1 :=
  IntOp.andi (IntOp.ori (IntOp.cmpi .sge (BitVec.ofNat 32 r.val) 8#32) (Scalar.cmpi .sgt arg1 0#32)) (IntOp.ori (IntOp.cmpi .slt (BitVec.ofNat 32 r.val) 264#32) (Scalar.cmpi .slt arg1 31#32))

theorem padded_apply (r : Fin 272) : k0_pay6 arg1 v33 v34 (ix2 r d) = Scalar.select (inside arg1 r) (Proj.col (fun x => v33 (ix2 r x)) (fun x => v34 (ix2 x d))) 0 := by
  unfold inside Proj.col
  pointwise [k0_pay6]

theorem first_taps_apply (v53 v55 v63 v70 : Vec Ideal S1x2048 .f32) (r : Fin 256) : k0_pay7 arg1 v33 v34 v53 v55 v63 v70 (ix2 r d)
    = v53 (ix2 0 d) + v55 (ix2 0 d) * k0_pay6 arg1 v33 v34 (ix2 ⟨8 + r.val, by omega⟩ d) + v63 (ix2 0 d) * k0_pay6 arg1 v33 v34 (ix2 ⟨6 + r.val, by omega⟩ d) + v70 (ix2 0 d) * k0_pay6 arg1 v33 v34 (ix2 ⟨7 + r.val, by omega⟩ d) := by
  have e6 : (⟨6 + r.val, by omega⟩ : Fin 272) = ⟨(8 + r.val + 272 - 2) % 272, by omega⟩ := Fin.ext (by dsimp only; omega)
  have e7 : (⟨7 + r.val, by omega⟩ : Fin 272) = ⟨(8 + r.val + 272 - 1) % 272, by omega⟩ := Fin.ext (by dsimp only; omega)
  rw [e6, e7]
  pointwise [k0_pay7, k0_pay6]

theorem turned_apply (r : Fin 256) : k0_pay8 arg1 v33 v34 (ix2 ⟨8 + r.val, by omega⟩ d) = k0_pay6 arg1 v33 v34 (ix2 ⟨9 + r.val, by omega⟩ d) := by
  have e9 : (⟨9 + r.val, by omega⟩ : Fin 272) = ⟨(8 + r.val + 272 - 271) % 272, by omega⟩ := Fin.ext (by dsimp only; omega)
  rw [e9]
  pointwise [k0_pay8, k0_pay6]

theorem silu_apply (v52 : FVec Ideal S272x2048 .f32) (v75 : FVec Ideal S256x2048 .f32) (v76 : FVec Ideal S272x2048 .f32) (v77 v84 : Vec Ideal S1x2048 .f32) (r : Fin 256) :
    k0_pay9 v52 v75 v76 v77 v84 (ix2 r d) = Proj.silu (v75 (ix2 r d) + v77 (ix2 0 d) * v76 (ix2 ⟨8 + r.val, by omega⟩ d) + v84 (ix2 0 d) * v52 (ix2 ⟨10 + r.val, by omega⟩ d)) := by
  have e10 : (⟨10 + r.val, by omega⟩ : Fin 272) = ⟨(8 + r.val + 272 - 270) % 272, by omega⟩ := Fin.ext (by dsimp only; omega)
  unfold Proj.silu Proj.gate
  rw [e10, ← zero_sub]
  pointwise [k0_pay9]

theorem query_apply (v52 : FVec Ideal S272x2048 .f32) (v75 : FVec Ideal S256x2048 .f32) (v76 : FVec Ideal S272x2048 .f32) (v77 v84 : Vec Ideal S1x2048 .f32) (r : Fin 256) (d : Fin 1024) :
    k0_pay10 v52 v75 v76 v77 v84 (ix3 0 r d) = k0_pay9 v52 v75 v76 v77 v84 (ix2 r ⟨d.val, by omega⟩) := by
  pointwise [k0_pay10, k0_pay9]
theorem key_apply (v52 : FVec Ideal S272x2048 .f32) (v75 : FVec Ideal S256x2048 .f32) (v76 : FVec Ideal S272x2048 .f32) (v77 v84 : Vec Ideal S1x2048 .f32) (r : Fin 256) (d : Fin 1024) :
    k0_pay11 v52 v75 v76 v77 v84 (ix4 0 0 d r) = Proj.scaled (k0_pay9 v52 v75 v76 v77 v84 (ix2 r ⟨1024 + d.val, by omega⟩)) := by
  unfold Proj.scaled
  pointwise [k0_pay11, k0_pay9]
end Convolution

section Columns
variable (v32 : FVec Ideal S256x1024 .bf16) (v281 : Vec Ideal S1024x5632 .bf16) (r : Fin 256)

/-- A column of the block's projected rows. -/
abbrev colAt (n : Fin 5632) : EReal := Proj.col (fun x => v32 (ix2 r x)) (fun x => v281 (ix2 x n))

theorem value_apply (d : Fin 1024) : k0_pay52 (k0_pay27 v32 v281) (ix3 0 r d) = colAt v32 v281 r ⟨1280 + d.val, by omega⟩ := by
  unfold colAt Proj.col
  pointwise [k0_pay52, k0_pay27, k0_pay24]
theorem outGate_apply (d : Fin 1024) : k0_pay53 (k0_pay28 v32 v281) (ix3 0 r d) = Proj.gate (colAt v32 v281 r ⟨2304 + d.val, by omega⟩) := by
  unfold colAt Proj.col Proj.gate
  rw [← zero_sub]
  pointwise [k0_pay53, k0_pay28, k0_pay24]
theorem mergeGate_apply (d : Fin 2048) : k0_pay1 (k0_pay54 (k0_pay29 v32 v281)) (Scalar.ofBits .f32 0x3F800000#32) (ix3 0 r d) = Proj.gate (colAt v32 v281 r ⟨3328 + d.val, by omega⟩) := by
  unfold colAt Proj.col Proj.gate
  rw [← zero_sub]
  pointwise [k0_pay1, k0_pay54, k0_pay29, k0_pay24]
theorem attnValue_apply (d : Fin 256) : k0_pay2 (k0_pay24 v32 v281) (ix4 0 0 d r) = colAt v32 v281 r ⟨5376 + d.val, by omega⟩ := by
  unfold colAt Proj.col
  pointwise [k0_pay2, k0_pay24]

theorem qcols_apply (d : Fin 1024) : k0_pay25 v32 v281 (ix2 r d) = colAt v32 v281 r ⟨d.val, by omega⟩ := by
  unfold colAt Proj.col
  pointwise [k0_pay25, k0_pay24]
theorem kcols_apply (d : Fin 256) : k0_pay26 v32 v281 (ix2 r d) = colAt v32 v281 r ⟨1024 + d.val, by omega⟩ := by
  unfold colAt Proj.col
  pointwise [k0_pay26, k0_pay24]
end Columns

/-- A head's columns, normed, scaled and rotated by halves, as the body does it. -/
def turned (v g c s : Fin 128 → EReal) (e : Fin 128) : EReal :=
  v e * Ideal.rsqrt ((∑ x, v x * v x) * Ideal.ofBits .f32 1006632960#32 + Tail.eps) * g e * c e
    + v ⟨(e.val + 128 - 64) % 128, by omega⟩ * Ideal.rsqrt ((∑ x, v x * v x) * Ideal.ofBits .f32 1006632960#32 + Tail.eps) * g ⟨(e.val + 128 - 64) % 128, by omega⟩ * s e

section Heads
variable (v32 : FVec Ideal S256x1024 .bf16) (v281 : Vec Ideal S1024x5632 .bf16) (v284 : FVec Ideal S256x1024 .f32) (v285 : FVec Ideal S256x256 .f32) (g : Vec Ideal S1x128 .f32) (c s : Vec Ideal S256x128 .f32) (r : Fin 256) (e : Fin 128)

theorem query_head0 : k0_pay31 v32 v281 g c s (ix3 0 r e) = turned (fun x => k0_pay25 v32 v281 (ix2 r ⟨x.val, by omega⟩)) (fun x => g (ix2 0 x)) (fun x => c (ix2 r x)) (fun x => s (ix2 r x)) e := by
  unfold turned Tail.eps
  pointwise [k0_pay31, k0_pay30]
theorem query_head1 : k0_pay34 (k0_pay30 g) (k0_pay32 v32 v281) (k0_pay33 v32 v281) c s (ix3 0 r e) = turned (fun x => k0_pay25 v32 v281 (ix2 r ⟨128 + x.val, by omega⟩)) (fun x => g (ix2 0 x)) (fun x => c (ix2 r x)) (fun x => s (ix2 r x)) e := by
  unfold turned Tail.eps
  pointwise [k0_pay34, k0_pay30, k0_pay32, k0_pay33]
theorem query_head2 : k0_pay36 (k0_pay35 v284 (k0_pay30 g) c s) (ix3 0 r e) = turned (fun x => v284 (ix2 r ⟨256 + x.val, by omega⟩)) (fun x => g (ix2 0 x)) (fun x => c (ix2 r x)) (fun x => s (ix2 r x)) e := by
  unfold turned Tail.eps
  pointwise [k0_pay36, k0_pay35, k0_pay30]
theorem query_head3 : k0_pay37 v284 (k0_pay30 g) c s (ix3 0 r e) = turned (fun x => v284 (ix2 r ⟨384 + x.val, by omega⟩)) (fun x => g (ix2 0 x)) (fun x => c (ix2 r x)) (fun x => s (ix2 r x)) e := by
  unfold turned Tail.eps
  pointwise [k0_pay37, k0_pay30]
theorem query_head4 : k0_pay40 (k0_pay38 v284 (k0_pay30 g)) (k0_pay39 c) s (ix3 0 r e) = turned (fun x => v284 (ix2 r ⟨512 + x.val, by omega⟩)) (fun x => g (ix2 0 x)) (fun x => c (ix2 r x)) (fun x => s (ix2 r x)) e := by
  unfold turned Tail.eps
  pointwise [k0_pay40, k0_pay38, k0_pay39, k0_pay30]
theorem query_head5 : k0_pay41 v284 (k0_pay30 g) c s (ix3 0 r e) = turned (fun x => v284 (ix2 r ⟨640 + x.val, by omega⟩)) (fun x => g (ix2 0 x)) (fun x => c (ix2 r x)) (fun x => s (ix2 r x)) e := by
  unfold turned Tail.eps
  pointwise [k0_pay41, k0_pay30]
theorem query_head6 : k0_pay44 (k0_pay30 g) (k0_pay42 v284) (k0_pay43 v284) (Scalar.ofBits .f32 0x3C000000#32) c s (ix3 0 r e) = turned (fun x => v284 (ix2 r ⟨768 + x.val, by omega⟩)) (fun x => g (ix2 0 x)) (fun x => c (ix2 r x)) (fun x => s (ix2 r x)) e := by
  unfold turned Tail.eps
  pointwise [k0_pay44, k0_pay42, k0_pay43, k0_pay30]
theorem query_head7 : k0_pay46 (k0_pay45 v284 (k0_pay30 g) c s) (ix3 0 r e) = turned (fun x => v284 (ix2 r ⟨896 + x.val, by omega⟩)) (fun x => g (ix2 0 x)) (fun x => c (ix2 r x)) (fun x => s (ix2 r x)) e := by
  unfold turned Tail.eps
  pointwise [k0_pay46, k0_pay45, k0_pay30]
theorem key_head0 : k0_pay48 v285 g c s (ix3 0 r e) = turned (fun x => v285 (ix2 r ⟨x.val, by omega⟩)) (fun x => g (ix2 0 x)) (fun x => c (ix2 r x)) (fun x => s (ix2 r x)) e := by
  unfold turned Tail.eps
  pointwise [k0_pay48, k0_pay47]
theorem key_head1 : k0_pay51 (k0_pay47 g) (k0_pay49 v285) (k0_pay50 v285) c s (ix3 0 r e) = turned (fun x => v285 (ix2 r ⟨128 + x.val, by omega⟩)) (fun x => g (ix2 0 x)) (fun x => c (ix2 r x)) (fun x => s (ix2 r x)) e := by
  unfold turned Tail.eps
  pointwise [k0_pay51, k0_pay47, k0_pay49, k0_pay50]
end Heads

end Cert.ProjIdeal.Pays

end
-- ==== Proof.Proj.Block.lean ====
module

public import proofs.«01_k».proof.Proof.Proj.Pays

@[expose] public section

set_option maxRecDepth 16384

noncomputable section

/-! The projections' block: every stored row is the specification's, from blocks that hold its arrays. -/

namespace Cert.ProjIdeal.Block

open Cert.ProjIdeal Cert.ProjIdeal.Gen Cert.ProjIdeal.Pays Idealize.ShloMosaic

/-! The rotation by halves of permuted columns is the rotation by pairs. -/

/-- The permutation's inverse. -/
def unpair (e : Fin 128) : Fin 128 := ⟨if e.val % 2 = 0 then e.val / 2 else 64 + e.val / 2, by split <;> omega⟩

def pairs : Fin 128 ≃ Fin 128 where
  toFun := Proj.pair
  invFun := unpair
  left_inv := by
    intro e
    apply Fin.ext
    unfold unpair Proj.pair
    dsimp only
    split <;> split <;> omega
  right_inv := by
    intro e
    apply Fin.ext
    unfold unpair Proj.pair
    dsimp only
    split <;> split <;> omega

theorem sum_pair (f : Fin 128 → EReal) : ∑ e, f (Proj.pair e) = ∑ e, f e := Equiv.sum_comp pairs f

theorem rope_eq (Z g : Fin 128 → EReal) (c s : Fin 64 → EReal) (v vg cs sn : Fin 128 → EReal) (hv : ∀ e, v e = Z (Proj.pair e)) (hg : ∀ e, vg e = g (Proj.pair e))
    (hc : ∀ e : Fin 128, cs e = c ⟨e.val % 64, by omega⟩) (hs : ∀ e : Fin 128, sn e = if h : e.val < 64 then -(s ⟨e.val, h⟩) else s ⟨e.val - 64, by omega⟩) (e : Fin 128) :
    turned v vg cs sn e = Proj.rope (Proj.normed Z g) c s e := by
  have hsum : (∑ x, v x * v x) = ∑ x, Z x * Z x := by
    rw [← sum_pair (fun x => Z x * Z x)]
    exact Finset.sum_congr rfl fun x _ => by rw [hv]
  have hn (x : Fin 128) : v x * Ideal.rsqrt ((∑ x, v x * v x) * Ideal.ofBits .f32 1006632960#32 + Tail.eps) * vg x = Proj.normed Z g (Proj.pair x) := by
    rw [hsum, hv, hg, Proj.mul_inv128]
    rfl
  unfold turned Proj.rope
  rw [hn, hn, hc, hs]
  by_cases h : e.val < 64
  · rw [dif_pos h, dif_pos h]
    have e1 : Proj.pair e = ⟨2 * e.val, by omega⟩ := Fin.ext (if_pos h)
    have e2 : Proj.pair ⟨(e.val + 128 - 64) % 128, by omega⟩ = ⟨1 + 2 * e.val, by omega⟩ := Fin.ext (by
      unfold Proj.pair
      dsimp only
      rw [if_neg (by omega)]
      omega)
    have e3 : (⟨e.val % 64, by omega⟩ : Fin 64) = ⟨e.val, h⟩ := Fin.ext (by dsimp only; omega)
    rw [e1, e2, e3, mul_neg, sub_eq_add_neg]
  · rw [dif_neg h, dif_neg h]
    have e1 : Proj.pair e = ⟨1 + 2 * (e.val - 64), by omega⟩ := Fin.ext (by
      unfold Proj.pair
      dsimp only
      rw [if_neg h]
      omega)
    have e2 : Proj.pair ⟨(e.val + 128 - 64) % 128, by omega⟩ = ⟨2 * (e.val - 64), by omega⟩ := Fin.ext (by
      unfold Proj.pair
      dsimp only
      rw [if_pos (by omega)]
      omega)
    have e3 : (⟨e.val % 64, by omega⟩ : Fin 64) = ⟨e.val - 64, by omega⟩ := Fin.ext (by dsimp only; omega)
    rw [e1, e2, e3, add_comm]

/-! Which extended rows lie in the sequence. -/
theorem ge8 : ∀ r : Fin 272, IntOp.cmpi .sge (BitVec.ofNat 32 r.val) 8#32 = if 8 ≤ r.val then 1#1 else 0#1 := by decide +kernel
theorem lt264 : ∀ r : Fin 272, IntOp.cmpi .slt (BitVec.ofNat 32 r.val) 264#32 = if r.val < 264 then 1#1 else 0#1 := by decide +kernel
theorem gt0 : ∀ j : Fin 32, Scalar.cmpi .sgt (BitVec.ofNat 32 j.val) 0#32 = if 0 < j.val then 1#1 else 0#1 := by decide +kernel
theorem lt31 : ∀ j : Fin 32, Scalar.cmpi .slt (BitVec.ofNat 32 j.val) 31#32 = if j.val < 31 then 1#1 else 0#1 := by decide +kernel

theorem select_inside (j : Fin 32) (r : Fin 272) (A : EReal) :
    Scalar.select (inside (BitVec.ofNat 32 j.val) r) A 0 = if 8 ≤ j.val * 256 + r.val ∧ j.val * 256 + r.val - 8 < 8192 then A else 0 := by
  unfold inside
  rw [ge8, lt264, gt0, lt31]
  by_cases h1 : 8 ≤ r.val <;> by_cases h2 : r.val < 264 <;> by_cases h3 : 0 < j.val <;> by_cases h4 : j.val < 31 <;>
    first
    | (rw [if_pos h1, if_pos h2, if_pos h3, if_pos h4, if_pos (by omega)]; rfl)
    | (rw [if_pos h1, if_pos h2, if_pos h3, if_neg h4, if_pos (by omega)]; rfl)
    | (rw [if_pos h1, if_pos h2, if_neg h3, if_pos h4, if_pos (by omega)]; rfl)
    | (rw [if_pos h1, if_pos h2, if_neg h3, if_neg h4, if_pos (by omega)]; rfl)
    | (rw [if_pos h1, if_neg h2, if_pos h3, if_pos h4, if_pos (by omega)]; rfl)
    | (rw [if_pos h1, if_neg h2, if_pos h3, if_neg h4, if_neg (by omega)]; rfl)
    | (rw [if_pos h1, if_neg h2, if_neg h3, if_pos h4, if_pos (by omega)]; rfl)
    | (rw [if_neg h1, if_pos h2, if_pos h3, if_pos h4, if_pos (by omega)]; rfl)
    | (rw [if_neg h1, if_pos h2, if_pos h3, if_neg h4, if_pos (by omega)]; rfl)
    | (rw [if_neg h1, if_pos h2, if_neg h3, if_pos h4, if_neg (by omega)]; rfl)
    | (exfalso; omega)

/-- A grid point's row block, and the sequence row of a block row. -/
abbrev tile (i : grid0.Coords) : Fin 32 := i 1
abbrev rowOf (i : grid0.Coords) (r : Fin 256) : Fin 8192 := ⟨(tile i).val * 256 + r.val, by have := (tile i).isLt; omega⟩

/-- The blocks hold the arrays' parts for batch `b` and the grid point's rows. -/
structure Reads (a : Proj.Args) (b : Fin 8) (i : grid0.Coords) (x0 : Vec Ideal S1x8x1024 .f32) (x1 : Vec Ideal S1x256x1024 .f32) (x2 : Vec Ideal S1x8x1024 .f32) (x3 : Vec Ideal S1x1x1024 .f32) (x4 : Vec Ideal S1x1x1024 .f32) (x5 : Vec Ideal S1x1024 .f32) (x6 : Vec Ideal S256x128 .f32) (x7 : Vec Ideal S256x128 .f32) (x8 : Vec Ideal S1x128 .f32) (x9 : Vec Ideal S1x128 .f32) (x10 : Vec Ideal S16x1 .f32) (x11 : Vec Ideal S5x2048 .f32) (x12 : Vec Ideal S1x2048 .f32) (x13 : Vec Ideal S1024x2048 .bf16) (x14 : Vec Ideal S16x1024 .bf16) (x15 : Vec Ideal S1024x5632 .bf16) : Prop where
  prev : ∀ (r : Fin 8) (x : Fin 1024) (h : 8 ≤ (tile i).val * 256 + r.val ∧ (tile i).val * 256 + r.val - 8 < 8192), x0 (ix3 0 r x) = a.x b ⟨(tile i).val * 256 + r.val - 8, h.2⟩ x
  rows : ∀ (r : Fin 256) (x : Fin 1024), x1 (ix3 0 r x) = a.x b (rowOf i r) x
  next : ∀ (r : Fin 8) (x : Fin 1024) (h : (tile i).val * 256 + 256 + r.val < 8192), x2 (ix3 0 r x) = a.x b ⟨(tile i).val * 256 + 256 + r.val, h⟩ x
  scale : ∀ x : Fin 1024, x3 (ix3 0 0 x) = a.sc b x
  shift : ∀ x : Fin 1024, x4 (ix3 0 0 x) = a.sh b x
  gain : ∀ x : Fin 1024, x5 (ix2 0 x) = a.n1 x
  cos : ∀ (r : Fin 256) (e : Fin 128), x6 (ix2 r e) = Ideal.cos (Proj.angle (rowOf i r) ⟨e.val % 64, by omega⟩)
  sin : ∀ (r : Fin 256) (e : Fin 128), x7 (ix2 r e) = if h : e.val < 64 then -(Ideal.sin (Proj.angle (rowOf i r) ⟨e.val, h⟩)) else Ideal.sin (Proj.angle (rowOf i r) ⟨e.val - 64, by omega⟩)
  queryGain : ∀ e : Fin 128, x8 (ix2 0 e) = a.gq (Proj.pair e)
  keyGain : ∀ e : Fin 128, x9 (ix2 0 e) = a.gk (Proj.pair e)
  tap : ∀ (k : Fin 5) (d : Fin 2048), x11 (ix2 k d) = a.cw k d
  bias : ∀ d : Fin 2048, x12 (ix2 0 d) = a.cb d
  mixer : ∀ (y : Fin 1024) (d : Fin 2048), x13 (ix2 y d) = a.w y ⟨d.val, by omega⟩
  queries : ∀ (y : Fin 1024) (h : Fin 8) (e : Fin 128), x15 (ix2 y ⟨h.val * 128 + e.val, by omega⟩) = a.w y ⟨4112 + (h.val * 128 + (Proj.pair e).val), by omega⟩
  keys : ∀ (y : Fin 1024) (h : Fin 2) (e : Fin 128), x15 (ix2 y ⟨1024 + (h.val * 128 + e.val), by omega⟩) = a.w y ⟨5136 + (h.val * 128 + (Proj.pair e).val), by omega⟩
  values : ∀ (y d : Fin 1024), x15 (ix2 y ⟨1280 + d.val, by omega⟩) = a.w y ⟨2048 + d.val, by omega⟩
  gates : ∀ (y d : Fin 1024), x15 (ix2 y ⟨2304 + d.val, by omega⟩) = a.w y ⟨3072 + d.val, by omega⟩
  merges : ∀ (y : Fin 1024) (d : Fin 2048), x15 (ix2 y ⟨3328 + d.val, by omega⟩) = a.w y ⟨5648 + d.val, by omega⟩
  attnValues : ∀ (y : Fin 1024) (d : Fin 256), x15 (ix2 y ⟨5376 + d.val, by omega⟩) = a.w y ⟨5392 + d.val, by omega⟩

variable (a : Proj.Args) (b : Fin 8) (i : grid0.Coords) (x0 : Vec Ideal S1x8x1024 .f32) (x1 : Vec Ideal S1x256x1024 .f32) (x2 : Vec Ideal S1x8x1024 .f32) (x3 : Vec Ideal S1x1x1024 .f32) (x4 : Vec Ideal S1x1x1024 .f32) (x5 : Vec Ideal S1x1024 .f32) (x6 : Vec Ideal S256x128 .f32) (x7 : Vec Ideal S256x128 .f32) (x8 : Vec Ideal S1x128 .f32) (x9 : Vec Ideal S1x128 .f32) (x10 : Vec Ideal S16x1 .f32) (x11 : Vec Ideal S5x2048 .f32) (x12 : Vec Ideal S1x2048 .f32) (x13 : Vec Ideal S1024x2048 .bf16) (x14 : Vec Ideal S16x1024 .bf16) (x15 : Vec Ideal S1024x5632 .bf16)

/-! Loads of whole blocks, and of the taps' rows. -/
theorem ld0 : View.ld x0 r0_0 = x0 := View.ld_unit_lit _ x0 (by decide)
theorem ld1 : View.ld x1 r0_1 = x1 := View.ld_unit_lit _ x1 (by decide)
theorem ld2 : View.ld x2 r0_0 = x2 := View.ld_unit_lit _ x2 (by decide)
theorem ld3 : View.ld x3 r0_3 = x3 := View.ld_unit_lit _ x3 (by decide)
theorem ld4 : View.ld x4 r0_3 = x4 := View.ld_unit_lit _ x4 (by decide)
theorem ld5 : View.ld x5 r0_2 = x5 := View.ld_unit_lit _ x5 (by decide)
theorem ld6 : View.ld x6 r0_17 = x6 := View.ld_unit_lit _ x6 (by decide)
theorem ld7 : View.ld x7 r0_17 = x7 := View.ld_unit_lit _ x7 (by decide)
theorem ld8 : View.ld x8 r0_16 = x8 := View.ld_unit_lit _ x8 (by decide)
theorem ld9 : View.ld x9 r0_16 = x9 := View.ld_unit_lit _ x9 (by decide)
theorem ld12 : View.ld x12 r0_5 = x12 := View.ld_unit_lit _ x12 (by decide)
theorem ld13 : View.ld x13 r0_4 = x13 := View.ld_unit_lit _ x13 (by decide)
theorem ld15 : View.ld x15 r0_15 = x15 := View.ld_unit_lit _ x15 (by decide)
theorem tap2 (d : Fin 2048) : (View.ld x11 r0_6 : Vec Ideal S1x2048 .f32) (ix2 0 d) = x11 (ix2 2 d) := by
  refine congrArg x11 (funext fun c => Fin.ext ?_)
  fin_cases c
  · rfl
  · exact (show 0 + 1 * d.val = d.val by omega)
theorem tap0 (d : Fin 2048) : (View.ld x11 r0_7 : Vec Ideal S1x2048 .f32) (ix2 0 d) = x11 (ix2 0 d) := by
  refine congrArg x11 (funext fun c => Fin.ext ?_)
  fin_cases c
  · rfl
  · exact (show 0 + 1 * d.val = d.val by omega)
theorem tap1 (d : Fin 2048) : (View.ld x11 r0_8 : Vec Ideal S1x2048 .f32) (ix2 0 d) = x11 (ix2 1 d) := by
  refine congrArg x11 (funext fun c => Fin.ext ?_)
  fin_cases c
  · rfl
  · exact (show 0 + 1 * d.val = d.val by omega)
theorem tap3 (d : Fin 2048) : (View.ld x11 r0_9 : Vec Ideal S1x2048 .f32) (ix2 0 d) = x11 (ix2 3 d) := by
  refine congrArg x11 (funext fun c => Fin.ext ?_)
  fin_cases c
  · rfl
  · exact (show 0 + 1 * d.val = d.val by omega)
theorem tap4 (d : Fin 2048) : (View.ld x11 r0_10 : Vec Ideal S1x2048 .f32) (ix2 0 d) = x11 (ix2 4 d) := by
  refine congrArg x11 (funext fun c => Fin.ext ?_)
  fin_cases c
  · rfl
  · exact (show 0 + 1 * d.val = d.val by omega)

theorem rows_eq : k0_pay55 i x0 x1 x2 x3 x4 x5 x6 x7 x8 x9 x10 x11 x12 x13 x14 x15 = k0_pay4 x0 x1 x2 x5 x3 x4 := by
  unfold k0_pay55
  rw [ld0, ld1, ld2, ld5, ld3, ld4]
theorem extended_eq : k0_pay56 i x0 x1 x2 x3 x4 x5 x6 x7 x8 x9 x10 x11 x12 x13 x14 x15 = k0_pay5 x0 x1 x2 x5 x3 x4 := by
  unfold k0_pay56
  rw [ld0, ld1, ld2, ld5, ld3, ld4]
theorem qcols_eq : k0_pay63 i x0 x1 x2 x3 x4 x5 x6 x7 x8 x9 x10 x11 x12 x13 x14 x15 = k0_pay25 (k0_pay55 i x0 x1 x2 x3 x4 x5 x6 x7 x8 x9 x10 x11 x12 x13 x14 x15) x15 := by
  unfold k0_pay63
  rw [ld15]
theorem kcols_eq : k0_pay64 i x0 x1 x2 x3 x4 x5 x6 x7 x8 x9 x10 x11 x12 x13 x14 x15 = k0_pay26 (k0_pay55 i x0 x1 x2 x3 x4 x5 x6 x7 x8 x9 x10 x11 x12 x13 x14 x15) x15 := by
  unfold k0_pay64
  rw [ld15]

variable {a b i x0 x1 x2 x3 x4 x5 x6 x7 x8 x9 x10 x11 x12 x13 x14 x15}

section
variable (H : Reads a b i x0 x1 x2 x3 x4 x5 x6 x7 x8 x9 x10 x11 x12 x13 x14 x15)
include H

theorem ext_eq (r : Fin 272) (h : 8 ≤ (tile i).val * 256 + r.val ∧ (tile i).val * 256 + r.val - 8 < 8192) :
    ext x0 x1 x2 r = a.x b ⟨(tile i).val * 256 + r.val - 8, h.2⟩ := by
  funext x
  unfold ext
  by_cases h1 : r.val < 8
  · rw [dif_pos h1]
    exact H.prev ⟨r.val, h1⟩ x h
  by_cases h2 : r.val - 8 < 256
  · rw [dif_neg h1, dif_pos h2, H.rows]
    exact congrArg (fun s => a.x b s x) (Fin.ext (by dsimp only; omega))
  · rw [dif_neg h1, dif_neg h2, H.next _ _ (by dsimp only; omega)]
    exact congrArg (fun s => a.x b s x) (Fin.ext (by dsimp only; omega))

theorem extended_row (r : Fin 272) (h : 8 ≤ (tile i).val * 256 + r.val ∧ (tile i).val * 256 + r.val - 8 < 8192) :
    (fun x : Fin 1024 => k0_pay56 i x0 x1 x2 x3 x4 x5 x6 x7 x8 x9 x10 x11 x12 x13 x14 x15 (ix2 r x)) = a.row b ⟨(tile i).val * 256 + r.val - 8, h.2⟩ := by
  funext x
  rw [extended_eq, extended_apply, ext_eq H r h]
  simp only [H.gain, H.scale, H.shift]
  rfl

theorem block_row (r : Fin 256) : (fun x : Fin 1024 => k0_pay55 i x0 x1 x2 x3 x4 x5 x6 x7 x8 x9 x10 x11 x12 x13 x14 x15 (ix2 r x)) = a.row b (rowOf i r) := by
  funext x
  rw [rows_eq, rows_apply, ext_eq H ⟨8 + r.val, by omega⟩ (by have := (tile i).isLt; dsimp only; omega)]
  simp only [H.gain, H.scale, H.shift]
  exact congrArg (fun s => a.row b s x) (Fin.ext (by dsimp only; omega))

/-- The projected mixer columns, zero outside the sequence. -/
theorem padded_eq (r : Fin 272) (d : Fin 2048) : k0_pay57 i x0 x1 x2 x3 x4 x5 x6 x7 x8 x9 x10 x11 x12 x13 x14 x15 (ix2 r d)
    = if h : 8 ≤ (tile i).val * 256 + r.val ∧ (tile i).val * 256 + r.val - 8 < 8192 then a.z b ⟨(tile i).val * 256 + r.val - 8, h.2⟩ ⟨d.val, by omega⟩ else 0 := by
  unfold k0_pay57
  rw [ld13, padded_apply]
  refine (select_inside (tile i) r _).trans ?_
  by_cases h : 8 ≤ (tile i).val * 256 + r.val ∧ (tile i).val * 256 + r.val - 8 < 8192
  · rw [if_pos h, dif_pos h, extended_row H r h]
    simp only [H.mixer]
    rfl
  · rw [if_neg h, dif_neg h]

theorem padded_shifted (r : Fin 256) (d : Fin 2048) (k : ℕ) (hk : k < 5) : k0_pay57 i x0 x1 x2 x3 x4 x5 x6 x7 x8 x9 x10 x11 x12 x13 x14 x15 (ix2 ⟨6 + k + r.val, by omega⟩ d)
    = Proj.shifted (fun s => a.z b s ⟨d.val, by omega⟩) k (rowOf i r) := by
  have hj := (tile i).isLt
  rw [padded_eq H]
  unfold Proj.shifted
  by_cases h : 2 ≤ k + (rowOf i r).val ∧ k + (rowOf i r).val - 2 < 8192
  · rw [dif_pos h, dif_pos (by dsimp only at h ⊢; omega)]
    exact congrArg (fun s => a.z b s _) (Fin.ext (by dsimp only; omega))
  · rw [dif_neg h, dif_neg (by dsimp only at h ⊢; omega)]

theorem padded_row (r : Fin 256) (d : Fin 2048) : k0_pay57 i x0 x1 x2 x3 x4 x5 x6 x7 x8 x9 x10 x11 x12 x13 x14 x15 (ix2 ⟨8 + r.val, by omega⟩ d) = a.z b (rowOf i r) ⟨d.val, by omega⟩ := by
  have hj := (tile i).isLt
  rw [padded_eq H, dif_pos (by dsimp only; omega)]
  exact congrArg (fun s => a.z b s _) (Fin.ext (by dsimp only; omega))

theorem conv_eq (r : Fin 256) (d : Fin 2048) :
    k0_pay9 (k0_pay57 i x0 x1 x2 x3 x4 x5 x6 x7 x8 x9 x10 x11 x12 x13 x14 x15) (k0_pay58 i x0 x1 x2 x3 x4 x5 x6 x7 x8 x9 x10 x11 x12 x13 x14 x15) (k0_pay59 i x0 x1 x2 x3 x4 x5 x6 x7 x8 x9 x10 x11 x12 x13 x14 x15) (View.ld x11 r0_9) (View.ld x11 r0_10) (ix2 r d) = a.qk b (rowOf i r) d := by
  have p (q : Fin 272) : k0_pay6 (BitVec.ofNat 32 (i 1).val) (k0_pay56 i x0 x1 x2 x3 x4 x5 x6 x7 x8 x9 x10 x11 x12 x13 x14 x15) x13 (ix2 q d) = k0_pay57 i x0 x1 x2 x3 x4 x5 x6 x7 x8 x9 x10 x11 x12 x13 x14 x15 (ix2 q d) := by
    unfold k0_pay57
    rw [ld13]
  rw [silu_apply]
  unfold k0_pay58 k0_pay59
  rw [ld12, ld13, first_taps_apply, turned_apply, tap0, tap1, tap2, tap3, tap4, p, p, p, p, padded_row H]
  have s0 := padded_shifted H r d 0 (by omega)
  have s1 := padded_shifted H r d 1 (by omega)
  have s3 := padded_shifted H r d 3 (by omega)
  have s4 := padded_shifted H r d 4 (by omega)
  rw [show k0_pay57 i x0 x1 x2 x3 x4 x5 x6 x7 x8 x9 x10 x11 x12 x13 x14 x15 (ix2 ⟨6 + r.val, by omega⟩ d) = _ from s0, show k0_pay57 i x0 x1 x2 x3 x4 x5 x6 x7 x8 x9 x10 x11 x12 x13 x14 x15 (ix2 ⟨7 + r.val, by omega⟩ d) = _ from s1,
    show k0_pay57 i x0 x1 x2 x3 x4 x5 x6 x7 x8 x9 x10 x11 x12 x13 x14 x15 (ix2 ⟨9 + r.val, by omega⟩ d) = _ from s3, show k0_pay57 i x0 x1 x2 x3 x4 x5 x6 x7 x8 x9 x10 x11 x12 x13 x14 x15 (ix2 ⟨10 + r.val, by omega⟩ d) = _ from s4]
  rw [H.bias, H.tap, H.tap, H.tap, H.tap, H.tap]
  unfold Proj.Args.qk Proj.conv
  refine congrArg Proj.silu ?_
  rw [mul_comm (a.cw 0 d), mul_comm (a.cw 1 d), mul_comm (a.cw 2 d), mul_comm (a.cw 3 d), mul_comm (a.cw 4 d)]
  dsimp only
  ac_rfl

/-! The stored blocks. -/
theorem query_out (r : Fin 256) (d : Fin 1024) : out0_16 i x0 x1 x2 x3 x4 x5 x6 x7 x8 x9 x10 x11 x12 x13 x14 x15 (ix3 0 r d) = a.query b (rowOf i r) d := by
  have e : out0_16 i x0 x1 x2 x3 x4 x5 x6 x7 x8 x9 x10 x11 x12 x13 x14 x15 = k0_pay10 (k0_pay57 i x0 x1 x2 x3 x4 x5 x6 x7 x8 x9 x10 x11 x12 x13 x14 x15) (k0_pay58 i x0 x1 x2 x3 x4 x5 x6 x7 x8 x9 x10 x11 x12 x13 x14 x15) (k0_pay59 i x0 x1 x2 x3 x4 x5 x6 x7 x8 x9 x10 x11 x12 x13 x14 x15) (View.ld x11 r0_9) (View.ld x11 r0_10) := by
    unfold out0_16
    exact View.canon_cons_unit_lit _ _ _ (by decide)
  rw [e, query_apply, conv_eq H]
  rfl
theorem key_out (r : Fin 256) (d : Fin 1024) : out0_17 i x0 x1 x2 x3 x4 x5 x6 x7 x8 x9 x10 x11 x12 x13 x14 x15 (ix4 0 0 d r) = a.key b (rowOf i r) d := by
  have e : out0_17 i x0 x1 x2 x3 x4 x5 x6 x7 x8 x9 x10 x11 x12 x13 x14 x15 = k0_pay11 (k0_pay57 i x0 x1 x2 x3 x4 x5 x6 x7 x8 x9 x10 x11 x12 x13 x14 x15) (k0_pay58 i x0 x1 x2 x3 x4 x5 x6 x7 x8 x9 x10 x11 x12 x13 x14 x15) (k0_pay59 i x0 x1 x2 x3 x4 x5 x6 x7 x8 x9 x10 x11 x12 x13 x14 x15) (View.ld x11 r0_9) (View.ld x11 r0_10) := by
    unfold out0_17
    exact View.canon_cons_unit_lit _ _ _ (by decide)
  rw [e, key_apply, conv_eq H]
  rfl
theorem value_out (r : Fin 256) (d : Fin 1024) : out0_18 i x0 x1 x2 x3 x4 x5 x6 x7 x8 x9 x10 x11 x12 x13 x14 x15 (ix3 0 r d) = a.value b (rowOf i r) d := by
  have e : out0_18 i x0 x1 x2 x3 x4 x5 x6 x7 x8 x9 x10 x11 x12 x13 x14 x15 = k0_pay52 (k0_pay27 (k0_pay55 i x0 x1 x2 x3 x4 x5 x6 x7 x8 x9 x10 x11 x12 x13 x14 x15) x15) := by
    unfold out0_18
    rw [ld15]
    exact View.canon_cons_unit_lit _ _ _ (by decide)
  rw [e, value_apply]
  unfold colAt
  rw [block_row H]
  simp only [H.values]
  rfl
theorem outGate_out (r : Fin 256) (d : Fin 1024) : out0_19 i x0 x1 x2 x3 x4 x5 x6 x7 x8 x9 x10 x11 x12 x13 x14 x15 (ix3 0 r d) = a.outGate b (rowOf i r) d := by
  have e : out0_19 i x0 x1 x2 x3 x4 x5 x6 x7 x8 x9 x10 x11 x12 x13 x14 x15 = k0_pay53 (k0_pay28 (k0_pay55 i x0 x1 x2 x3 x4 x5 x6 x7 x8 x9 x10 x11 x12 x13 x14 x15) x15) := by
    unfold out0_19
    rw [ld15]
    exact View.canon_cons_unit_lit _ _ _ (by decide)
  rw [e, outGate_apply]
  unfold colAt
  rw [block_row H]
  simp only [H.gates]
  rfl
theorem attnValue_out (r : Fin 256) (d : Fin 256) : out0_23 i x0 x1 x2 x3 x4 x5 x6 x7 x8 x9 x10 x11 x12 x13 x14 x15 (ix4 0 0 d r) = a.attnValue b (rowOf i r) d := by
  have e : out0_23 i x0 x1 x2 x3 x4 x5 x6 x7 x8 x9 x10 x11 x12 x13 x14 x15 = k0_pay2 (k0_pay24 (k0_pay55 i x0 x1 x2 x3 x4 x5 x6 x7 x8 x9 x10 x11 x12 x13 x14 x15) x15) := by
    unfold out0_23
    rw [ld15]
    exact View.canon_cons_unit_lit _ _ _ (by decide)
  rw [e, attnValue_apply]
  unfold colAt
  rw [block_row H]
  simp only [H.attnValues]
  rfl
theorem mergeGate_out (r : Fin 256) (d : Fin 2048) : out0_24 i x0 x1 x2 x3 x4 x5 x6 x7 x8 x9 x10 x11 x12 x13 x14 x15 (ix3 0 r d) = a.mergeGate b (rowOf i r) d := by
  have e : out0_24 i x0 x1 x2 x3 x4 x5 x6 x7 x8 x9 x10 x11 x12 x13 x14 x15 = k0_pay1 (k0_pay54 (k0_pay29 (k0_pay55 i x0 x1 x2 x3 x4 x5 x6 x7 x8 x9 x10 x11 x12 x13 x14 x15) x15)) (Scalar.ofBits .f32 0x3F800000#32) := by
    unfold out0_24
    rw [ld15]
    exact View.canon_cons_unit_lit _ _ _ (by decide)
  rw [e, mergeGate_apply]
  unfold colAt
  rw [block_row H]
  simp only [H.merges]
  rfl

/-! The rotated heads. -/
theorem turned_query (r : Fin 256) (h : ℕ) (hh : h < 8) (v : Fin 128 → EReal) (hv : ∀ x : Fin 128, v x = k0_pay25 (k0_pay55 i x0 x1 x2 x3 x4 x5 x6 x7 x8 x9 x10 x11 x12 x13 x14 x15) x15 (ix2 r ⟨h * 128 + x.val, by omega⟩)) (e : Fin 128) :
    turned v (fun x => x8 (ix2 0 x)) (fun x => x6 (ix2 r x)) (fun x => x7 (ix2 r x)) e = a.attnQuery b (rowOf i r) ⟨h * 128 + e.val, by omega⟩ := by
  rw [rope_eq (fun x => a.z b (rowOf i r) ⟨4112 + (h * 128 + x.val), by omega⟩) a.gq (fun k => Ideal.cos (Proj.angle (rowOf i r) k)) (fun k => Ideal.sin (Proj.angle (rowOf i r) k)) v _ _ _ ?_ H.queryGain (H.cos r) (H.sin r)]
  · unfold Proj.Args.attnQuery
    have e1 : (h * 128 + e.val) / 128 = h := by omega
    have e2 : (⟨(h * 128 + e.val) % 128, by omega⟩ : Fin 128) = e := Fin.ext (by dsimp only; omega)
    simp only [e1, e2]
  · intro x
    rw [hv, qcols_apply]
    unfold colAt
    rw [block_row H]
    have hw (y : Fin 1024) := H.queries y ⟨h, hh⟩ x
    simp only at hw
    simp only [hw]
    rfl
theorem turned_key (r : Fin 256) (h : ℕ) (hh : h < 2) (v : Fin 128 → EReal) (hv : ∀ x : Fin 128, v x = k0_pay26 (k0_pay55 i x0 x1 x2 x3 x4 x5 x6 x7 x8 x9 x10 x11 x12 x13 x14 x15) x15 (ix2 r ⟨h * 128 + x.val, by omega⟩)) (e : Fin 128) :
    turned v (fun x => x9 (ix2 0 x)) (fun x => x6 (ix2 r x)) (fun x => x7 (ix2 r x)) e = a.attnKey b (rowOf i r) ⟨h * 128 + e.val, by omega⟩ := by
  rw [rope_eq (fun x => a.z b (rowOf i r) ⟨5136 + (h * 128 + x.val), by omega⟩) a.gk (fun k => Ideal.cos (Proj.angle (rowOf i r) k)) (fun k => Ideal.sin (Proj.angle (rowOf i r) k)) v _ _ _ ?_ H.keyGain (H.cos r) (H.sin r)]
  · unfold Proj.Args.attnKey
    have e1 : (h * 128 + e.val) / 128 = h := by omega
    have e2 : (⟨(h * 128 + e.val) % 128, by omega⟩ : Fin 128) = e := Fin.ext (by dsimp only; omega)
    simp only [e1, e2]
  · intro x
    rw [hv, kcols_apply]
    unfold colAt
    rw [block_row H]
    have hw (y : Fin 1024) := H.keys y ⟨h, hh⟩ x
    simp only at hw
    simp only [hw]
    rfl
omit H

/-- A store of one head's columns, as part of the whole block. -/
theorem query_piece (o : ℕ) (h : ℕ) (hh : h < 8) (ho : o = h * 128) (inb) (p : Vec Ideal S1x256x128 .bf16)
    (hp : ∀ (r : Fin 256) (e : Fin 128), p (ix3 0 r e) = a.attnQuery b (rowOf i r) ⟨h * 128 + e.val, by omega⟩) (x : S1x256x128.Idx) :
    p x = (fun y : S1x256x1024.Idx => a.attnQuery b (rowOf i (y 1)) (y 2)) ((Rect.unit (s := S1x256x1024) ![0, 0, o] S1x256x128.size inb).emb x) := by
  subst ho
  obtain ⟨z, r, e, rfl⟩ : ∃ (z : Fin 1) (r : Fin 256) (e : Fin 128), x = ix3 z r e := ⟨x 0, x 1, x 2, eq_ix3 x⟩
  obtain rfl : z = 0 := Subsingleton.elim _ _
  rw [hp]
  refine congrArg₂ (fun s d => a.attnQuery b (rowOf i s) d) (Fin.ext ?_) (Fin.ext ?_)
  · show r.val = 0 + 1 * r.val
    omega
  · show h * 128 + e.val = h * 128 + 1 * e.val
    omega
theorem key_piece (o : ℕ) (h : ℕ) (hh : h < 2) (ho : o = h * 128) (inb) (p : Vec Ideal S1x256x128 .bf16)
    (hp : ∀ (r : Fin 256) (e : Fin 128), p (ix3 0 r e) = a.attnKey b (rowOf i r) ⟨h * 128 + e.val, by omega⟩) (x : S1x256x128.Idx) :
    p x = (fun y : S1x256x256.Idx => a.attnKey b (rowOf i (y 1)) (y 2)) ((Rect.unit (s := S1x256x256) ![0, 0, o] S1x256x128.size inb).emb x) := by
  subst ho
  obtain ⟨z, r, e, rfl⟩ : ∃ (z : Fin 1) (r : Fin 256) (e : Fin 128), x = ix3 z r e := ⟨x 0, x 1, x 2, eq_ix3 x⟩
  obtain rfl : z = 0 := Subsingleton.elim _ _
  rw [hp]
  refine congrArg₂ (fun s d => a.attnKey b (rowOf i s) d) (Fin.ext ?_) (Fin.ext ?_)
  · show r.val = 0 + 1 * r.val
    omega
  · show h * 128 + e.val = h * 128 + 1 * e.val
    omega
include H

theorem attnQuery_out (r : Fin 256) (d : Fin 1024) : out0_21 i x0 x1 x2 x3 x4 x5 x6 x7 x8 x9 x10 x11 x12 x13 x14 x15 (ix3 0 r d) = a.attnQuery b (rowOf i r) d := by
  have e65 : k0_pay65 i x0 x1 x2 x3 x4 x5 x6 x7 x8 x9 x10 x11 x12 x13 x14 x15 = k0_pay30 x8 := by
    unfold k0_pay65
    rw [ld8]
  unfold out0_21
  rw [e65, qcols_eq, ld6, ld7, ld8, ld15]
  refine View.canon_apply_of_pieces (Val := Elt Ideal) (e := .bf16) (fun y : S1x256x1024.Idx => a.attnQuery b (rowOf i (y 1)) (y 2)) _ ?_ (ix3 0 r d) (Gen.cover0_21 _ _ _ _ _ _ _ _ _)
  intro p hp
  simp only [List.mem_cons, List.not_mem_nil, or_false] at hp
  rcases hp with rfl | rfl | rfl | rfl | rfl | rfl | rfl | rfl
  · exact query_piece 896 7 (by omega) rfl (by decide) _ fun r e => (query_head7 _ _ _ _ _ _).trans (turned_query H r 7 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 768 6 (by omega) rfl (by decide) _ fun r e => (query_head6 _ _ _ _ _ _).trans (turned_query H r 6 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 640 5 (by omega) rfl (by decide) _ fun r e => (query_head5 _ _ _ _ _ _).trans (turned_query H r 5 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 512 4 (by omega) rfl (by decide) _ fun r e => (query_head4 _ _ _ _ _ _).trans (turned_query H r 4 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 384 3 (by omega) rfl (by decide) _ fun r e => (query_head3 _ _ _ _ _ _).trans (turned_query H r 3 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 256 2 (by omega) rfl (by decide) _ fun r e => (query_head2 _ _ _ _ _ _).trans (turned_query H r 2 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 128 1 (by omega) rfl (by decide) _ fun r e => (query_head1 _ _ _ _ _ _ _).trans (turned_query H r 1 (by omega) _ (fun x => congrArg (fun n => k0_pay25 (k0_pay55 i x0 x1 x2 x3 x4 x5 x6 x7 x8 x9 x10 x11 x12 x13 x14 x15) x15 (ix2 r n)) (Fin.ext (by dsimp only <;> omega))) e)
  · exact query_piece 0 0 (by omega) rfl (by decide) _ fun r e => (query_head0 _ _ _ _ _ _ _).trans (turned_query H r 0 (by omega) _ (fun x => congrArg (fun n => k0_pay25 (k0_pay55 i x0 x1 x2 x3 x4 x5 x6 x7 x8 x9 x10 x11 x12 x13 x14 x15) x15 (ix2 r n)) (Fin.ext (by dsimp only <;> omega))) e)
theorem attnKey_out (r : Fin 256) (d : Fin 256) : out0_22 i x0 x1 x2 x3 x4 x5 x6 x7 x8 x9 x10 x11 x12 x13 x14 x15 (ix3 0 r d) = a.attnKey b (rowOf i r) d := by
  unfold out0_22
  rw [kcols_eq, ld6, ld7, ld9]
  refine View.canon_apply_of_pieces (Val := Elt Ideal) (e := .bf16) (fun y : S1x256x256.Idx => a.attnKey b (rowOf i (y 1)) (y 2)) _ ?_ (ix3 0 r d) (Gen.cover0_22 _ _ _)
  intro p hp
  simp only [List.mem_cons, List.not_mem_nil, or_false] at hp
  rcases hp with rfl | rfl
  · exact key_piece 128 1 (by omega) rfl (by decide) _ fun r e => (key_head1 _ _ _ _ _ _).trans (turned_key H r 1 (by omega) _ (fun x => congrArg (fun n => k0_pay26 (k0_pay55 i x0 x1 x2 x3 x4 x5 x6 x7 x8 x9 x10 x11 x12 x13 x14 x15) x15 (ix2 r n)) (Fin.ext (by dsimp only <;> omega))) e)
  · exact key_piece 0 0 (by omega) rfl (by decide) _ fun r e => (key_head0 _ _ _ _ _ _).trans (turned_key H r 0 (by omega) _ (fun x => congrArg (fun n => k0_pay26 (k0_pay55 i x0 x1 x2 x3 x4 x5 x6 x7 x8 x9 x10 x11 x12 x13 x14 x15) x15 (ix2 r n)) (Fin.ext (by dsimp only <;> omega))) e)
end

end Cert.ProjIdeal.Block

end
-- ==== Proof.Proj.Host.lean ====
module

public import proofs.«01_k».proof.Proof.Gen.ProjIdeal.Frame
public import proofs.«01_k».proof.Proof.Proj.Spec
public import Idealize.ShloMosaic.Lib.StableHlo.Run
public import Idealize.ShloMosaic.Lib.StableHlo.RunRead
public import Idealize.ShloMosaic.Lib.StableHlo.ReadAt
public import Idealize.ShloMosaic.Lib.Pointwise

@[expose] public section

set_option maxRecDepth 16384

noncomputable section

/-! The projections' kernel: the arrays its host operations prepare, at an index. The operations go in twelve stretches, cut before the joins and the gathers, and each stretch's results are read off on their own. -/

namespace Cert.ProjIdeal.Host

open Cert.ProjIdeal Cert.ProjIdeal.Gen Idealize.ShloMosaic Idealize.ShloMosaic.TcCoe Idealize.SL.Sem Idealize.ShloMosaic.StableHlo

section Stretches
variable {F : FTy → Type} [FloatOps F]

abbrev opsA : List (HloOp τ sig (Elt F)) :=
  [ reshape main_arg4 main_v0 (rfl : (.f32 : EltTy) = .f32) shapeCasts_S1x1024x7696_S1024x7696,
    unary main_v0 main_v1 ((extractStridedSlice S1024x1024 ![0, 0] · slices_S1024x7696_S1024x1024_0_0) : (⟨S1024x7696, .f32⟩ : BufTy).Contents (Elt F) → (⟨S1024x1024, .f32⟩ : BufTy).Contents (Elt F)),
    reshape main_arg4 main_v2 (rfl : (.f32 : EltTy) = .f32) shapeCasts_S1x1024x7696_S1024x7696,
    unary main_v2 main_v3 ((extractStridedSlice S1024x1024 ![0, 1024] · slices_S1024x7696_S1024x1024_0_1024) : (⟨S1024x7696, .f32⟩ : BufTy).Contents (Elt F) → (⟨S1024x1024, .f32⟩ : BufTy).Contents (Elt F)),
    reshape main_arg4 main_v4 (rfl : (.f32 : EltTy) = .f32) shapeCasts_S1x1024x7696_S1024x7696,
    unary main_v4 main_v5 ((extractStridedSlice S1024x1024 ![0, 2048] · slices_S1024x7696_S1024x1024_0_2048) : (⟨S1024x7696, .f32⟩ : BufTy).Contents (Elt F) → (⟨S1024x1024, .f32⟩ : BufTy).Contents (Elt F)),
    reshape main_arg4 main_v6 (rfl : (.f32 : EltTy) = .f32) shapeCasts_S1x1024x7696_S1024x7696,
    unary main_v6 main_v7 ((extractStridedSlice S1024x1024 ![0, 3072] · slices_S1024x7696_S1024x1024_0_3072) : (⟨S1024x7696, .f32⟩ : BufTy).Contents (Elt F) → (⟨S1024x1024, .f32⟩ : BufTy).Contents (Elt F)),
    reshape main_arg4 main_v8 (rfl : (.f32 : EltTy) = .f32) shapeCasts_S1x1024x7696_S1024x7696,
    unary main_v8 main_v9 ((extractStridedSlice S1024x16 ![0, 4096] · slices_S1024x7696_S1024x16_0_4096) : (⟨S1024x7696, .f32⟩ : BufTy).Contents (Elt F) → (⟨S1024x16, .f32⟩ : BufTy).Contents (Elt F)),
    reshape main_arg4 main_v10 (rfl : (.f32 : EltTy) = .f32) shapeCasts_S1x1024x7696_S1024x7696,
    unary main_v10 main_v11 ((extractStridedSlice S1024x1024 ![0, 4112] · slices_S1024x7696_S1024x1024_0_4112) : (⟨S1024x7696, .f32⟩ : BufTy).Contents (Elt F) → (⟨S1024x1024, .f32⟩ : BufTy).Contents (Elt F)),
    reshape main_arg4 main_v12 (rfl : (.f32 : EltTy) = .f32) shapeCasts_S1x1024x7696_S1024x7696,
    unary main_v12 main_v13 ((extractStridedSlice S1024x256 ![0, 5136] · slices_S1024x7696_S1024x256_0_5136) : (⟨S1024x7696, .f32⟩ : BufTy).Contents (Elt F) → (⟨S1024x256, .f32⟩ : BufTy).Contents (Elt F)),
    reshape main_arg4 main_v14 (rfl : (.f32 : EltTy) = .f32) shapeCasts_S1x1024x7696_S1024x7696,
    unary main_v14 main_v15 ((extractStridedSlice S1024x256 ![0, 5392] · slices_S1024x7696_S1024x256_0_5392) : (⟨S1024x7696, .f32⟩ : BufTy).Contents (Elt F) → (⟨S1024x256, .f32⟩ : BufTy).Contents (Elt F)),
    reshape main_arg4 main_v16 (rfl : (.f32 : EltTy) = .f32) shapeCasts_S1x1024x7696_S1024x7696,
    unary main_v16 main_v17 ((extractStridedSlice S1024x2048 ![0, 5648] · slices_S1024x7696_S1024x2048_0_5648) : (⟨S1024x7696, .f32⟩ : BufTy).Contents (Elt F) → (⟨S1024x2048, .f32⟩ : BufTy).Contents (Elt F)),
    nullary main_v18 (iotaInDim S64 32 0),
    nullary main_c (constantI S_ 32 2#32),
    unary main_c main_v19 (broadcastInDim S64 ![] bcast_S_S64 : (⟨S_, .i32⟩ : BufTy).Contents (Elt F) → (⟨S64, .i32⟩ : BufTy).Contents (Elt F)),
    binary main_v19 main_v18 main_v20 (muli : (⟨S64, .i32⟩ : BufTy).Contents (Elt F) → (⟨S64, .i32⟩ : BufTy).Contents (Elt F) → (⟨S64, .i32⟩ : BufTy).Contents (Elt F)),
    nullary main_c_0 (constantI S_ 32 0#32),
    unary main_c_0 main_v21 (broadcastInDim S64 ![] bcast_S_S64 : (⟨S_, .i32⟩ : BufTy).Contents (Elt F) → (⟨S64, .i32⟩ : BufTy).Contents (Elt F)),
    binary main_v21 main_v20 main_v22 (addi : (⟨S64, .i32⟩ : BufTy).Contents (Elt F) → (⟨S64, .i32⟩ : BufTy).Contents (Elt F) → (⟨S64, .i32⟩ : BufTy).Contents (Elt F)),
    nullary main_v23 (iotaInDim S64 32 0),
    nullary main_c_1 (constantI S_ 32 2#32),
    unary main_c_1 main_v24 (broadcastInDim S64 ![] bcast_S_S64 : (⟨S_, .i32⟩ : BufTy).Contents (Elt F) → (⟨S64, .i32⟩ : BufTy).Contents (Elt F)),
    binary main_v24 main_v23 main_v25 (muli : (⟨S64, .i32⟩ : BufTy).Contents (Elt F) → (⟨S64, .i32⟩ : BufTy).Contents (Elt F) → (⟨S64, .i32⟩ : BufTy).Contents (Elt F)),
    nullary main_c_2 (constantI S_ 32 1#32),
    unary main_c_2 main_v26 (broadcastInDim S64 ![] bcast_S_S64 : (⟨S_, .i32⟩ : BufTy).Contents (Elt F) → (⟨S64, .i32⟩ : BufTy).Contents (Elt F)),
    binary main_v26 main_v25 main_v27 (addi : (⟨S64, .i32⟩ : BufTy).Contents (Elt F) → (⟨S64, .i32⟩ : BufTy).Contents (Elt F) → (⟨S64, .i32⟩ : BufTy).Contents (Elt F)) ]
abbrev writtenA : List (Ref sig .tc) := [main_v0, main_v1, main_v2, main_v3, main_v4, main_v5, main_v6, main_v7, main_v8, main_v9, main_v10, main_v11, main_v12, main_v13, main_v14, main_v15, main_v16, main_v17, main_v18, main_c, main_v19, main_v20, main_c_0, main_v21, main_v22, main_v23, main_c_1, main_v24, main_v25, main_c_2, main_v26, main_v27]

abbrev opsP : List (HloOp τ sig (Elt F)) :=
  [ binary main_v22 main_v27 main_v28 ((fun a b => concatenate S128 0 [⟨S64, a⟩, ⟨S64, b⟩] concatenates_S64_S64_S128_d0) : (⟨S64, .i32⟩ : BufTy).Contents (Elt F) → (⟨S64, .i32⟩ : BufTy).Contents (Elt F) → (⟨S128, .i32⟩ : BufTy).Contents (Elt F)) ]
abbrev writtenP : List (Ref sig .tc) := [main_v28]

abbrev opsB : List (HloOp τ sig (Elt F)) :=
  [ nullary main_v29 (iotaInDim S8 32 0),
    unary main_v29 main_v30 (broadcastInDim S8x1 ![0] bcast_S8_S8x1_0 : (⟨S8, .i32⟩ : BufTy).Contents (Elt F) → (⟨S8x1, .i32⟩ : BufTy).Contents (Elt F)),
    nullary main_c_3 (constantI S_ 32 128#32),
    unary main_c_3 main_v31 (broadcastInDim S8x1 ![] bcast_S_S8x1 : (⟨S_, .i32⟩ : BufTy).Contents (Elt F) → (⟨S8x1, .i32⟩ : BufTy).Contents (Elt F)),
    binary main_v30 main_v31 main_v32 (muli : (⟨S8x1, .i32⟩ : BufTy).Contents (Elt F) → (⟨S8x1, .i32⟩ : BufTy).Contents (Elt F) → (⟨S8x1, .i32⟩ : BufTy).Contents (Elt F)),
    unary main_v28 main_v33 (broadcastInDim S1x128 ![1] bcast_S128_S1x128_1 : (⟨S128, .i32⟩ : BufTy).Contents (Elt F) → (⟨S1x128, .i32⟩ : BufTy).Contents (Elt F)),
    unary main_v32 main_v34 (broadcastInDim S8x128 ![0, 1] bcast_S8x1_S8x128_0_1 : (⟨S8x1, .i32⟩ : BufTy).Contents (Elt F) → (⟨S8x128, .i32⟩ : BufTy).Contents (Elt F)),
    unary main_v33 main_v35 (broadcastInDim S8x128 ![0, 1] bcast_S1x128_S8x128_0_1 : (⟨S1x128, .i32⟩ : BufTy).Contents (Elt F) → (⟨S8x128, .i32⟩ : BufTy).Contents (Elt F)),
    binary main_v34 main_v35 main_v36 (addi : (⟨S8x128, .i32⟩ : BufTy).Contents (Elt F) → (⟨S8x128, .i32⟩ : BufTy).Contents (Elt F) → (⟨S8x128, .i32⟩ : BufTy).Contents (Elt F)),
    reshape main_v36 main_v37 (rfl : (.i32 : EltTy) = .i32) shapeCasts_S8x128_S1024,
    nullary main_v38 (iotaInDim S2 32 0),
    unary main_v38 main_v39 (broadcastInDim S2x1 ![0] bcast_S2_S2x1_0 : (⟨S2, .i32⟩ : BufTy).Contents (Elt F) → (⟨S2x1, .i32⟩ : BufTy).Contents (Elt F)),
    nullary main_c_4 (constantI S_ 32 128#32),
    unary main_c_4 main_v40 (broadcastInDim S2x1 ![] bcast_S_S2x1 : (⟨S_, .i32⟩ : BufTy).Contents (Elt F) → (⟨S2x1, .i32⟩ : BufTy).Contents (Elt F)),
    binary main_v39 main_v40 main_v41 (muli : (⟨S2x1, .i32⟩ : BufTy).Contents (Elt F) → (⟨S2x1, .i32⟩ : BufTy).Contents (Elt F) → (⟨S2x1, .i32⟩ : BufTy).Contents (Elt F)),
    unary main_v28 main_v42 (broadcastInDim S1x128 ![1] bcast_S128_S1x128_1 : (⟨S128, .i32⟩ : BufTy).Contents (Elt F) → (⟨S1x128, .i32⟩ : BufTy).Contents (Elt F)),
    unary main_v41 main_v43 (broadcastInDim S2x128 ![0, 1] bcast_S2x1_S2x128_0_1 : (⟨S2x1, .i32⟩ : BufTy).Contents (Elt F) → (⟨S2x128, .i32⟩ : BufTy).Contents (Elt F)),
    unary main_v42 main_v44 (broadcastInDim S2x128 ![0, 1] bcast_S1x128_S2x128_0_1 : (⟨S1x128, .i32⟩ : BufTy).Contents (Elt F) → (⟨S2x128, .i32⟩ : BufTy).Contents (Elt F)),
    binary main_v43 main_v44 main_v45 (addi : (⟨S2x128, .i32⟩ : BufTy).Contents (Elt F) → (⟨S2x128, .i32⟩ : BufTy).Contents (Elt F) → (⟨S2x128, .i32⟩ : BufTy).Contents (Elt F)),
    reshape main_v45 main_v46 (rfl : (.i32 : EltTy) = .i32) shapeCasts_S2x128_S256,
    binary main_v1 main_v3 main_v47 ((fun a b => concatenate S1024x2048 1 [⟨S1024x1024, a⟩, ⟨S1024x1024, b⟩] concatenates_S1024x1024_S1024x1024_S1024x2048_d1) : (⟨S1024x1024, .f32⟩ : BufTy).Contents (Elt F) → (⟨S1024x1024, .f32⟩ : BufTy).Contents (Elt F) → (⟨S1024x2048, .f32⟩ : BufTy).Contents (Elt F)),
    nullary main_c_5 (constantI S_ 32 0#32),
    unary main_c_5 main_v48 (broadcastInDim S1024 ![] bcast_S_S1024 : (⟨S_, .i32⟩ : BufTy).Contents (Elt F) → (⟨S1024, .i32⟩ : BufTy).Contents (Elt F)),
    binary main_v37 main_v48 main_v49 (cmpi .slt : (⟨S1024, .i32⟩ : BufTy).Contents (Elt F) → (⟨S1024, .i32⟩ : BufTy).Contents (Elt F) → (⟨S1024, .i1⟩ : BufTy).Contents (Elt F)),
    nullary main_c_6 (constantI S_ 32 1024#32),
    unary main_c_6 main_v50 (broadcastInDim S1024 ![] bcast_S_S1024 : (⟨S_, .i32⟩ : BufTy).Contents (Elt F) → (⟨S1024, .i32⟩ : BufTy).Contents (Elt F)),
    binary main_v37 main_v50 main_v51 (addi : (⟨S1024, .i32⟩ : BufTy).Contents (Elt F) → (⟨S1024, .i32⟩ : BufTy).Contents (Elt F) → (⟨S1024, .i32⟩ : BufTy).Contents (Elt F)),
    ternary main_v49 main_v51 main_v37 main_v52 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v52 main_v53 (broadcastInDim S1024x1 ![0] bcast_S1024_S1024x1_0 : (⟨S1024, .i32⟩ : BufTy).Contents (Elt F) → (⟨S1024x1, .i32⟩ : BufTy).Contents (Elt F)) ]
abbrev writtenB : List (Ref sig .tc) := [main_v29, main_v30, main_c_3, main_v31, main_v32, main_v33, main_v34, main_v35, main_v36, main_v37, main_v38, main_v39, main_c_4, main_v40, main_v41, main_v42, main_v43, main_v44, main_v45, main_v46, main_v47, main_c_5, main_v48, main_v49, main_c_6, main_v50, main_v51, main_v52, main_v53]

abbrev opsC : List (HloOp τ sig (Elt F)) :=
  [ binary main_v11 main_v53 main_v54 ((fun x i => Host.gather gather_S1024x1024_S1024x1_S1024x1024_0_1_n_n_1_1_10241 x i) : (⟨S1024x1024, .f32⟩ : BufTy).Contents (Elt F) → (⟨S1024x1, .i32⟩ : BufTy).Contents (Elt F) → (⟨S1024x1024, .f32⟩ : BufTy).Contents (Elt F)),
    nullary main_c_7 (constantI S_ 32 0#32),
    unary main_c_7 main_v55 (broadcastInDim S256 ![] bcast_S_S256 : (⟨S_, .i32⟩ : BufTy).Contents (Elt F) → (⟨S256, .i32⟩ : BufTy).Contents (Elt F)),
    binary main_v46 main_v55 main_v56 (cmpi .slt : (⟨S256, .i32⟩ : BufTy).Contents (Elt F) → (⟨S256, .i32⟩ : BufTy).Contents (Elt F) → (⟨S256, .i1⟩ : BufTy).Contents (Elt F)),
    nullary main_c_8 (constantI S_ 32 256#32),
    unary main_c_8 main_v57 (broadcastInDim S256 ![] bcast_S_S256 : (⟨S_, .i32⟩ : BufTy).Contents (Elt F) → (⟨S256, .i32⟩ : BufTy).Contents (Elt F)),
    binary main_v46 main_v57 main_v58 (addi : (⟨S256, .i32⟩ : BufTy).Contents (Elt F) → (⟨S256, .i32⟩ : BufTy).Contents (Elt F) → (⟨S256, .i32⟩ : BufTy).Contents (Elt F)),
    ternary main_v56 main_v58 main_v46 main_v59 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v59 main_v60 (broadcastInDim S256x1 ![0] bcast_S256_S256x1_0 : (⟨S256, .i32⟩ : BufTy).Contents (Elt F) → (⟨S256x1, .i32⟩ : BufTy).Contents (Elt F)) ]
abbrev writtenC : List (Ref sig .tc) := [main_v54, main_c_7, main_v55, main_v56, main_c_8, main_v57, main_v58, main_v59, main_v60]

abbrev opsD : List (HloOp τ sig (Elt F)) :=
  [ binary main_v13 main_v60 main_v61 ((fun x i => Host.gather gather_S1024x256_S256x1_S1024x256_0_1_n_n_1_1_10241 x i) : (⟨S1024x256, .f32⟩ : BufTy).Contents (Elt F) → (⟨S256x1, .i32⟩ : BufTy).Contents (Elt F) → (⟨S1024x256, .f32⟩ : BufTy).Contents (Elt F)),
    unary main_v47 main_v62 ((truncf .bf16 · bitsLt_bf16_f32) : (⟨S1024x2048, .f32⟩ : BufTy).Contents (Elt F) → (⟨S1024x2048, .bf16⟩ : BufTy).Contents (Elt F)),
    unary main_v5 main_v63 ((truncf .bf16 · bitsLt_bf16_f32) : (⟨S1024x1024, .f32⟩ : BufTy).Contents (Elt F) → (⟨S1024x1024, .bf16⟩ : BufTy).Contents (Elt F)),
    unary main_v7 main_v64 ((truncf .bf16 · bitsLt_bf16_f32) : (⟨S1024x1024, .f32⟩ : BufTy).Contents (Elt F) → (⟨S1024x1024, .bf16⟩ : BufTy).Contents (Elt F)),
    unary main_v9 main_v65 ((truncf .bf16 · bitsLt_bf16_f32) : (⟨S1024x16, .f32⟩ : BufTy).Contents (Elt F) → (⟨S1024x16, .bf16⟩ : BufTy).Contents (Elt F)),
    unary main_v54 main_v66 ((truncf .bf16 · bitsLt_bf16_f32) : (⟨S1024x1024, .f32⟩ : BufTy).Contents (Elt F) → (⟨S1024x1024, .bf16⟩ : BufTy).Contents (Elt F)),
    unary main_v61 main_v67 ((truncf .bf16 · bitsLt_bf16_f32) : (⟨S1024x256, .f32⟩ : BufTy).Contents (Elt F) → (⟨S1024x256, .bf16⟩ : BufTy).Contents (Elt F)),
    unary main_v15 main_v68 ((truncf .bf16 · bitsLt_bf16_f32) : (⟨S1024x256, .f32⟩ : BufTy).Contents (Elt F) → (⟨S1024x256, .bf16⟩ : BufTy).Contents (Elt F)),
    unary main_v17 main_v69 ((truncf .bf16 · bitsLt_bf16_f32) : (⟨S1024x2048, .f32⟩ : BufTy).Contents (Elt F) → (⟨S1024x2048, .bf16⟩ : BufTy).Contents (Elt F)),
    reshape main_arg8 main_v70 (rfl : (.f32 : EltTy) = .f32) shapeCasts_S1x128_S128,
    nullary main_c_9 (constantI S_ 32 0#32),
    unary main_c_9 main_v71 (broadcastInDim S128 ![] bcast_S_S128 : (⟨S_, .i32⟩ : BufTy).Contents (Elt F) → (⟨S128, .i32⟩ : BufTy).Contents (Elt F)),
    binary main_v28 main_v71 main_v72 (cmpi .slt : (⟨S128, .i32⟩ : BufTy).Contents (Elt F) → (⟨S128, .i32⟩ : BufTy).Contents (Elt F) → (⟨S128, .i1⟩ : BufTy).Contents (Elt F)),
    nullary main_c_10 (constantI S_ 32 128#32),
    unary main_c_10 main_v73 (broadcastInDim S128 ![] bcast_S_S128 : (⟨S_, .i32⟩ : BufTy).Contents (Elt F) → (⟨S128, .i32⟩ : BufTy).Contents (Elt F)),
    binary main_v28 main_v73 main_v74 (addi : (⟨S128, .i32⟩ : BufTy).Contents (Elt F) → (⟨S128, .i32⟩ : BufTy).Contents (Elt F) → (⟨S128, .i32⟩ : BufTy).Contents (Elt F)),
    ternary main_v72 main_v74 main_v28 main_v75 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v75 main_v76 (broadcastInDim S128x1 ![0] bcast_S128_S128x1_0 : (⟨S128, .i32⟩ : BufTy).Contents (Elt F) → (⟨S128x1, .i32⟩ : BufTy).Contents (Elt F)) ]
abbrev writtenD : List (Ref sig .tc) := [main_v61, main_v62, main_v63, main_v64, main_v65, main_v66, main_v67, main_v68, main_v69, main_v70, main_c_9, main_v71, main_v72, main_c_10, main_v73, main_v74, main_v75, main_v76]

abbrev opsE : List (HloOp τ sig (Elt F)) :=
  [ binary main_v70 main_v76 main_v77 ((fun x i => Host.gather gather_S128_S128x1_S128_n_0_n_n_0_1_1 x i) : (⟨S128, .f32⟩ : BufTy).Contents (Elt F) → (⟨S128x1, .i32⟩ : BufTy).Contents (Elt F) → (⟨S128, .f32⟩ : BufTy).Contents (Elt F)),
    reshape main_v77 main_v78 (rfl : (.f32 : EltTy) = .f32) shapeCasts_S128_S1x128,
    reshape main_arg9 main_v79 (rfl : (.f32 : EltTy) = .f32) shapeCasts_S1x128_S128,
    nullary main_c_11 (constantI S_ 32 0#32),
    unary main_c_11 main_v80 (broadcastInDim S128 ![] bcast_S_S128 : (⟨S_, .i32⟩ : BufTy).Contents (Elt F) → (⟨S128, .i32⟩ : BufTy).Contents (Elt F)),
    binary main_v28 main_v80 main_v81 (cmpi .slt : (⟨S128, .i32⟩ : BufTy).Contents (Elt F) → (⟨S128, .i32⟩ : BufTy).Contents (Elt F) → (⟨S128, .i1⟩ : BufTy).Contents (Elt F)),
    nullary main_c_12 (constantI S_ 32 128#32),
    unary main_c_12 main_v82 (broadcastInDim S128 ![] bcast_S_S128 : (⟨S_, .i32⟩ : BufTy).Contents (Elt F) → (⟨S128, .i32⟩ : BufTy).Contents (Elt F)),
    binary main_v28 main_v82 main_v83 (addi : (⟨S128, .i32⟩ : BufTy).Contents (Elt F) → (⟨S128, .i32⟩ : BufTy).Contents (Elt F) → (⟨S128, .i32⟩ : BufTy).Contents (Elt F)),
    ternary main_v81 main_v83 main_v28 main_v84 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v84 main_v85 (broadcastInDim S128x1 ![0] bcast_S128_S128x1_0 : (⟨S128, .i32⟩ : BufTy).Contents (Elt F) → (⟨S128x1, .i32⟩ : BufTy).Contents (Elt F)) ]
abbrev writtenE : List (Ref sig .tc) := [main_v77, main_v78, main_v79, main_c_11, main_v80, main_v81, main_c_12, main_v82, main_v83, main_v84, main_v85]

abbrev opsF : List (HloOp τ sig (Elt F)) :=
  [ binary main_v79 main_v85 main_v86 ((fun x i => Host.gather gather_S128_S128x1_S128_n_0_n_n_0_1_1 x i) : (⟨S128, .f32⟩ : BufTy).Contents (Elt F) → (⟨S128x1, .i32⟩ : BufTy).Contents (Elt F) → (⟨S128, .f32⟩ : BufTy).Contents (Elt F)),
    reshape main_v86 main_v87 (rfl : (.f32 : EltTy) = .f32) shapeCasts_S128_S1x128,
    reshape main_arg5 main_v88 (rfl : (.f32 : EltTy) = .f32) shapeCasts_S1x16_S16,
    reshape main_v88 main_v89 (rfl : (.f32 : EltTy) = .f32) shapeCasts_S16_S16x1,
    nullary main_v90 (sitofp .f32 (iotaInDim S32 32 0)),
    unary main_v90 main_v91 (Host.negf : (⟨S32, .f32⟩ : BufTy).Contents (Elt F) → (⟨S32, .f32⟩ : BufTy).Contents (Elt F)),
    nullary main_cst (constant S_ .f32 0x42000000#32),
    unary main_cst main_v92 (broadcastInDim S32 ![] bcast_S_S32 : (⟨S_, .f32⟩ : BufTy).Contents (Elt F) → (⟨S32, .f32⟩ : BufTy).Contents (Elt F)),
    binary main_v91 main_v92 main_v93 (Host.divf : (⟨S32, .f32⟩ : BufTy).Contents (Elt F) → (⟨S32, .f32⟩ : BufTy).Contents (Elt F) → (⟨S32, .f32⟩ : BufTy).Contents (Elt F)),
    nullary main_cst_13 (constant S_ .f32 0x461C4000#32),
    unary main_cst_13 main_v94 (broadcastInDim S32 ![] bcast_S_S32 : (⟨S_, .f32⟩ : BufTy).Contents (Elt F) → (⟨S32, .f32⟩ : BufTy).Contents (Elt F)),
    binary main_v94 main_v93 main_v95 (Host.powf : (⟨S32, .f32⟩ : BufTy).Contents (Elt F) → (⟨S32, .f32⟩ : BufTy).Contents (Elt F) → (⟨S32, .f32⟩ : BufTy).Contents (Elt F)),
    nullary main_v96 (sitofp .f32 (iotaInDim S128 32 0)),
    unary main_v96 main_v97 (broadcastInDim S128x1 ![0] bcast_S128_S128x1_0 : (⟨S128, .f32⟩ : BufTy).Contents (Elt F) → (⟨S128x1, .f32⟩ : BufTy).Contents (Elt F)),
    unary main_v95 main_v98 (broadcastInDim S1x32 ![1] bcast_S32_S1x32_1 : (⟨S32, .f32⟩ : BufTy).Contents (Elt F) → (⟨S1x32, .f32⟩ : BufTy).Contents (Elt F)),
    unary main_v97 main_v99 (broadcastInDim S128x32 ![0, 1] bcast_S128x1_S128x32_0_1 : (⟨S128x1, .f32⟩ : BufTy).Contents (Elt F) → (⟨S128x32, .f32⟩ : BufTy).Contents (Elt F)),
    unary main_v98 main_v100 (broadcastInDim S128x32 ![0, 1] bcast_S1x32_S128x32_0_1 : (⟨S1x32, .f32⟩ : BufTy).Contents (Elt F) → (⟨S128x32, .f32⟩ : BufTy).Contents (Elt F)),
    binary main_v99 main_v100 main_v101 (mulf : (⟨S128x32, .f32⟩ : BufTy).Contents (Elt F) → (⟨S128x32, .f32⟩ : BufTy).Contents (Elt F) → (⟨S128x32, .f32⟩ : BufTy).Contents (Elt F)),
    nullary main_v102 (sitofp .f32 (iotaInDim S64 32 0)),
    unary main_v102 main_v103 (broadcastInDim S64x1 ![0] bcast_S64_S64x1_0 : (⟨S64, .f32⟩ : BufTy).Contents (Elt F) → (⟨S64x1, .f32⟩ : BufTy).Contents (Elt F)),
    unary main_v95 main_v104 (broadcastInDim S1x32 ![1] bcast_S32_S1x32_1 : (⟨S32, .f32⟩ : BufTy).Contents (Elt F) → (⟨S1x32, .f32⟩ : BufTy).Contents (Elt F)),
    unary main_v103 main_v105 (broadcastInDim S64x32 ![0, 1] bcast_S64x1_S64x32_0_1 : (⟨S64x1, .f32⟩ : BufTy).Contents (Elt F) → (⟨S64x32, .f32⟩ : BufTy).Contents (Elt F)),
    unary main_v104 main_v106 (broadcastInDim S64x32 ![0, 1] bcast_S1x32_S64x32_0_1 : (⟨S1x32, .f32⟩ : BufTy).Contents (Elt F) → (⟨S64x32, .f32⟩ : BufTy).Contents (Elt F)),
    binary main_v105 main_v106 main_v107 (mulf : (⟨S64x32, .f32⟩ : BufTy).Contents (Elt F) → (⟨S64x32, .f32⟩ : BufTy).Contents (Elt F) → (⟨S64x32, .f32⟩ : BufTy).Contents (Elt F)),
    unary main_v101 main_v108 (Host.cos : (⟨S128x32, .f32⟩ : BufTy).Contents (Elt F) → (⟨S128x32, .f32⟩ : BufTy).Contents (Elt F)),
    unary main_v108 main_v109 (broadcastInDim S128x1x32 ![0, 2] bcast_S128x32_S128x1x32_0_2 : (⟨S128x32, .f32⟩ : BufTy).Contents (Elt F) → (⟨S128x1x32, .f32⟩ : BufTy).Contents (Elt F)),
    unary main_v109 main_v110 (broadcastInDim S128x64x32 ![0, 1, 2] bcast_S128x1x32_S128x64x32_0_1_2 : (⟨S128x1x32, .f32⟩ : BufTy).Contents (Elt F) → (⟨S128x64x32, .f32⟩ : BufTy).Contents (Elt F)),
    unary main_v107 main_v111 (Host.cos : (⟨S64x32, .f32⟩ : BufTy).Contents (Elt F) → (⟨S64x32, .f32⟩ : BufTy).Contents (Elt F)),
    unary main_v111 main_v112 (broadcastInDim S1x64x32 ![1, 2] bcast_S64x32_S1x64x32_1_2 : (⟨S64x32, .f32⟩ : BufTy).Contents (Elt F) → (⟨S1x64x32, .f32⟩ : BufTy).Contents (Elt F)),
    unary main_v112 main_v113 (broadcastInDim S128x64x32 ![0, 1, 2] bcast_S1x64x32_S128x64x32_0_1_2 : (⟨S1x64x32, .f32⟩ : BufTy).Contents (Elt F) → (⟨S128x64x32, .f32⟩ : BufTy).Contents (Elt F)) ]
abbrev writtenF : List (Ref sig .tc) := [main_v86, main_v87, main_v88, main_v89, main_v90, main_v91, main_cst, main_v92, main_v93, main_cst_13, main_v94, main_v95, main_v96, main_v97, main_v98, main_v99, main_v100, main_v101, main_v102, main_v103, main_v104, main_v105, main_v106, main_v107, main_v108, main_v109, main_v110, main_v111, main_v112, main_v113]

abbrev opsG : List (HloOp τ sig (Elt F)) :=
  [ binary main_v110 main_v113 main_v114 ((fun a b => concatenate S128x64x64 2 [⟨S128x64x32, a⟩, ⟨S128x64x32, b⟩] concatenates_S128x64x32_S128x64x32_S128x64x64_d2) : (⟨S128x64x32, .f32⟩ : BufTy).Contents (Elt F) → (⟨S128x64x32, .f32⟩ : BufTy).Contents (Elt F) → (⟨S128x64x64, .f32⟩ : BufTy).Contents (Elt F)),
    reshape main_v114 main_v115 (rfl : (.f32 : EltTy) = .f32) shapeCasts_S128x64x64_S8192x64,
    unary main_v101 main_v116 (Host.sin : (⟨S128x32, .f32⟩ : BufTy).Contents (Elt F) → (⟨S128x32, .f32⟩ : BufTy).Contents (Elt F)),
    unary main_v116 main_v117 (broadcastInDim S128x1x32 ![0, 2] bcast_S128x32_S128x1x32_0_2 : (⟨S128x32, .f32⟩ : BufTy).Contents (Elt F) → (⟨S128x1x32, .f32⟩ : BufTy).Contents (Elt F)),
    unary main_v117 main_v118 (broadcastInDim S128x64x32 ![0, 1, 2] bcast_S128x1x32_S128x64x32_0_1_2 : (⟨S128x1x32, .f32⟩ : BufTy).Contents (Elt F) → (⟨S128x64x32, .f32⟩ : BufTy).Contents (Elt F)),
    unary main_v107 main_v119 (Host.sin : (⟨S64x32, .f32⟩ : BufTy).Contents (Elt F) → (⟨S64x32, .f32⟩ : BufTy).Contents (Elt F)),
    unary main_v119 main_v120 (broadcastInDim S1x64x32 ![1, 2] bcast_S64x32_S1x64x32_1_2 : (⟨S64x32, .f32⟩ : BufTy).Contents (Elt F) → (⟨S1x64x32, .f32⟩ : BufTy).Contents (Elt F)),
    unary main_v120 main_v121 (broadcastInDim S128x64x32 ![0, 1, 2] bcast_S1x64x32_S128x64x32_0_1_2 : (⟨S1x64x32, .f32⟩ : BufTy).Contents (Elt F) → (⟨S128x64x32, .f32⟩ : BufTy).Contents (Elt F)) ]
abbrev writtenG : List (Ref sig .tc) := [main_v114, main_v115, main_v116, main_v117, main_v118, main_v119, main_v120, main_v121]

abbrev opsH : List (HloOp τ sig (Elt F)) :=
  [ binary main_v118 main_v121 main_v122 ((fun a b => concatenate S128x64x64 2 [⟨S128x64x32, a⟩, ⟨S128x64x32, b⟩] concatenates_S128x64x32_S128x64x32_S128x64x64_d2) : (⟨S128x64x32, .f32⟩ : BufTy).Contents (Elt F) → (⟨S128x64x32, .f32⟩ : BufTy).Contents (Elt F) → (⟨S128x64x64, .f32⟩ : BufTy).Contents (Elt F)),
    reshape main_v122 main_v123 (rfl : (.f32 : EltTy) = .f32) shapeCasts_S128x64x64_S8192x64 ]
abbrev writtenH : List (Ref sig .tc) := [main_v122, main_v123]

abbrev opsI : List (HloOp τ sig (Elt F)) :=
  [ binary main_v115 main_v115 main_v124 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)),
    unary main_v123 main_v125 (Host.negf : (⟨S8192x64, .f32⟩ : BufTy).Contents (Elt F) → (⟨S8192x64, .f32⟩ : BufTy).Contents (Elt F)) ]
abbrev writtenI : List (Ref sig .tc) := [main_v124, main_v125]

abbrev opsJ : List (HloOp τ sig (Elt F)) :=
  [ binary main_v125 main_v123 main_v126 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)),
    reshape main_arg3 main_v127 (rfl : (.f32 : EltTy) = .f32) shapeCasts_S1x1024_S1024,
    reshape main_v127 main_v128 (rfl : (.f32 : EltTy) = .f32) shapeCasts_S1024_S1x1024,
    reshape main_arg6 main_v129 (rfl : (.f32 : EltTy) = .f32) shapeCasts_S1x5x2048_S5x2048,
    reshape main_arg7 main_v130 (rfl : (.f32 : EltTy) = .f32) shapeCasts_S1x2048_S2048,
    unary main_v65 main_v131 ((transpose S16x1024 [1, 0] · transposes_S1024x16_S16x1024_1_0) : (⟨S1024x16, .bf16⟩ : BufTy).Contents (Elt F) → (⟨S16x1024, .bf16⟩ : BufTy).Contents (Elt F)) ]
abbrev writtenJ : List (Ref sig .tc) := [main_v126, main_v127, main_v128, main_v129, main_v130, main_v131]

abbrev opsK : List (HloOp τ sig (Elt F)) :=
  [ nary ![main_v66, main_v67, main_v63, main_v64, main_v69, main_v68] main_v132 (fun u => (concatenate S1024x5632 1 [⟨S1024x1024, (u 0 : (⟨S1024x1024, .bf16⟩ : BufTy).Contents (Elt F))⟩, ⟨S1024x256, (u 1 : (⟨S1024x256, .bf16⟩ : BufTy).Contents (Elt F))⟩, ⟨S1024x1024, (u 2 : (⟨S1024x1024, .bf16⟩ : BufTy).Contents (Elt F))⟩, ⟨S1024x1024, (u 3 : (⟨S1024x1024, .bf16⟩ : BufTy).Contents (Elt F))⟩, ⟨S1024x2048, (u 4 : (⟨S1024x2048, .bf16⟩ : BufTy).Contents (Elt F))⟩, ⟨S1024x256, (u 5 : (⟨S1024x256, .bf16⟩ : BufTy).Contents (Elt F))⟩] concatenates_S1024x1024_S1024x256_S1024x1024_S1024x1024_S1024x2048_S1024x256_S1024x5632_d1 : (⟨S1024x5632, .bf16⟩ : BufTy).Contents (Elt F))),
    reshape main_v130 main_v133 (rfl : (.f32 : EltTy) = .f32) shapeCasts_S2048_S1x2048 ]
abbrev writtenK : List (Ref sig .tc) := [main_v132, main_v133]

end Stretches

theorem after_app (l₁ l₂ : List (HloOp τ sig (Elt Ideal))) (V : Valuation τ sig (Elt Ideal)) : after (l₁ ++ l₂) V = after l₂ (after l₁ V) := by
  induction l₁ generalizing V with
  | nil => rfl
  | cons op l ih => exact ih _

theorem ops_split : (hostOps0 : List (HloOp τ sig (Elt Ideal))) = opsA ++ (opsP ++ (opsB ++ (opsC ++ (opsD ++ (opsE ++ (opsF ++ (opsG ++ (opsH ++ (opsI ++ (opsJ ++ opsK)))))))))) := rfl

variable (V : Valuation τ sig (Elt Ideal))

/-- The contents after each stretch. -/
def SA : Valuation τ sig (Elt Ideal) := after opsA V
def SP : Valuation τ sig (Elt Ideal) := after opsP (SA V)
def SB : Valuation τ sig (Elt Ideal) := after opsB (SP V)
def SC : Valuation τ sig (Elt Ideal) := after opsC (SB V)
def SD : Valuation τ sig (Elt Ideal) := after opsD (SC V)
def SE : Valuation τ sig (Elt Ideal) := after opsE (SD V)
def SF : Valuation τ sig (Elt Ideal) := after opsF (SE V)
def SG : Valuation τ sig (Elt Ideal) := after opsG (SF V)
def SH : Valuation τ sig (Elt Ideal) := after opsH (SG V)
def SI : Valuation τ sig (Elt Ideal) := after opsI (SH V)
def SJ : Valuation τ sig (Elt Ideal) := after opsJ (SI V)
def SK : Valuation τ sig (Elt Ideal) := after opsK (SJ V)

theorem after_host : after (hostOps0 (F := Ideal)) V = SK V := by
  rw [ops_split]
  unfold SK SJ SI SH SG SF SE SD SC SB SP SA
  rw [after_app, after_app, after_app, after_app, after_app, after_app, after_app, after_app, after_app, after_app, after_app]

/-! Each stretch leaves what it does not write. -/
theorem keepA (r : Ref sig .tc) (h : r ∉ writtenA) : after (opsA (F := Ideal)) V (Proc.devRef .tc r) = V (Proc.devRef .tc r) :=
  after_unwritten writtenA rfl h V
theorem keepP (r : Ref sig .tc) (h : r ∉ writtenP) : after (opsP (F := Ideal)) V (Proc.devRef .tc r) = V (Proc.devRef .tc r) :=
  after_unwritten writtenP rfl h V
theorem keepB (r : Ref sig .tc) (h : r ∉ writtenB) : after (opsB (F := Ideal)) V (Proc.devRef .tc r) = V (Proc.devRef .tc r) :=
  after_unwritten writtenB rfl h V
theorem keepC (r : Ref sig .tc) (h : r ∉ writtenC) : after (opsC (F := Ideal)) V (Proc.devRef .tc r) = V (Proc.devRef .tc r) :=
  after_unwritten writtenC rfl h V
theorem keepD (r : Ref sig .tc) (h : r ∉ writtenD) : after (opsD (F := Ideal)) V (Proc.devRef .tc r) = V (Proc.devRef .tc r) :=
  after_unwritten writtenD rfl h V
theorem keepE (r : Ref sig .tc) (h : r ∉ writtenE) : after (opsE (F := Ideal)) V (Proc.devRef .tc r) = V (Proc.devRef .tc r) :=
  after_unwritten writtenE rfl h V
theorem keepF (r : Ref sig .tc) (h : r ∉ writtenF) : after (opsF (F := Ideal)) V (Proc.devRef .tc r) = V (Proc.devRef .tc r) :=
  after_unwritten writtenF rfl h V
theorem keepG (r : Ref sig .tc) (h : r ∉ writtenG) : after (opsG (F := Ideal)) V (Proc.devRef .tc r) = V (Proc.devRef .tc r) :=
  after_unwritten writtenG rfl h V
theorem keepH (r : Ref sig .tc) (h : r ∉ writtenH) : after (opsH (F := Ideal)) V (Proc.devRef .tc r) = V (Proc.devRef .tc r) :=
  after_unwritten writtenH rfl h V
theorem keepI (r : Ref sig .tc) (h : r ∉ writtenI) : after (opsI (F := Ideal)) V (Proc.devRef .tc r) = V (Proc.devRef .tc r) :=
  after_unwritten writtenI rfl h V
theorem keepJ (r : Ref sig .tc) (h : r ∉ writtenJ) : after (opsJ (F := Ideal)) V (Proc.devRef .tc r) = V (Proc.devRef .tc r) :=
  after_unwritten writtenJ rfl h V
theorem keepK (r : Ref sig .tc) (h : r ∉ writtenK) : after (opsK (F := Ideal)) V (Proc.devRef .tc r) = V (Proc.devRef .tc r) :=
  after_unwritten writtenK rfl h V

/-! The weight's parts. -/
theorem part1 (i : Fin 1024) (d : Fin 1024) : (SA V (Proc.devRef .tc main_v1) : S1024x1024.Idx → EReal) (ix2 i d) = (V (Proc.devRef .tc main_arg4) : S1x1024x7696.Idx → EReal) (ix3 0 i ⟨d.val, by omega⟩) := by
  unfold SA
  after_reads_at
theorem part3 (i : Fin 1024) (d : Fin 1024) : (SA V (Proc.devRef .tc main_v3) : S1024x1024.Idx → EReal) (ix2 i d) = (V (Proc.devRef .tc main_arg4) : S1x1024x7696.Idx → EReal) (ix3 0 i ⟨1024 + d.val, by omega⟩) := by
  unfold SA
  after_reads_at
theorem part5 (i : Fin 1024) (d : Fin 1024) : (SA V (Proc.devRef .tc main_v5) : S1024x1024.Idx → EReal) (ix2 i d) = (V (Proc.devRef .tc main_arg4) : S1x1024x7696.Idx → EReal) (ix3 0 i ⟨2048 + d.val, by omega⟩) := by
  unfold SA
  after_reads_at
theorem part7 (i : Fin 1024) (d : Fin 1024) : (SA V (Proc.devRef .tc main_v7) : S1024x1024.Idx → EReal) (ix2 i d) = (V (Proc.devRef .tc main_arg4) : S1x1024x7696.Idx → EReal) (ix3 0 i ⟨3072 + d.val, by omega⟩) := by
  unfold SA
  after_reads_at
theorem part11 (i : Fin 1024) (d : Fin 1024) : (SA V (Proc.devRef .tc main_v11) : S1024x1024.Idx → EReal) (ix2 i d) = (V (Proc.devRef .tc main_arg4) : S1x1024x7696.Idx → EReal) (ix3 0 i ⟨4112 + d.val, by omega⟩) := by
  unfold SA
  after_reads_at
theorem part13 (i : Fin 1024) (d : Fin 256) : (SA V (Proc.devRef .tc main_v13) : S1024x256.Idx → EReal) (ix2 i d) = (V (Proc.devRef .tc main_arg4) : S1x1024x7696.Idx → EReal) (ix3 0 i ⟨5136 + d.val, by omega⟩) := by
  unfold SA
  after_reads_at
theorem part15 (i : Fin 1024) (d : Fin 256) : (SA V (Proc.devRef .tc main_v15) : S1024x256.Idx → EReal) (ix2 i d) = (V (Proc.devRef .tc main_arg4) : S1x1024x7696.Idx → EReal) (ix3 0 i ⟨5392 + d.val, by omega⟩) := by
  unfold SA
  after_reads_at
theorem part17 (i : Fin 1024) (d : Fin 2048) : (SA V (Proc.devRef .tc main_v17) : S1024x2048.Idx → EReal) (ix2 i d) = (V (Proc.devRef .tc main_arg4) : S1x1024x7696.Idx → EReal) (ix3 0 i ⟨5648 + d.val, by omega⟩) := by
  unfold SA
  after_reads_at

/-! The permutation of a head's columns: first the even ones, then the odd ones. -/
theorem ofNat_toNat (n : ℕ) (h : n < 2048) : (BitVec.ofNat 32 n).toInt.toNat = n := by
  have e : (BitVec.ofNat 32 n).toNat = n := by rw [BitVec.toNat_ofNat]; omega
  rw [BitVec.toInt_eq_toNat_of_lt (by rw [e]; omega), e]; rfl

theorem gather_head (x : S128.Idx → EReal) (idx : S128x1.Idx → BitVec 32) (e n : Fin 128) (h : idx (ix2 e 0) = BitVec.ofNat 32 n.val) :
    Host.gather gather_S128_S128x1_S128_n_0_n_n_0_1_1 x idx (ix1 e) = x (ix1 n) := by
  refine congrArg x (funext fun a => Fin.ext ?_)
  obtain rfl : a = 0 := Subsingleton.elim _ _
  have hs : gather_S128_S128x1_S128_n_0_n_n_0_1_1.siIdx (ix1 e) ⟨0, by decide⟩ = ix2 e 0 := by
    funext b
    fin_cases b <;> rfl
  show min (idx (gather_S128_S128x1_S128_n_0_n_n_0_1_1.siIdx (ix1 e) ⟨0, by decide⟩)).toInt.toNat (128 - 1) + 0 + 0 = n.val
  rw [hs, h, ofNat_toNat _ (by omega)]
  omega

theorem gather_wide (x : S1024x1024.Idx → EReal) (idx : S1024x1.Idx → BitVec 32) (i e n : Fin 1024) (h : idx (ix2 e 0) = BitVec.ofNat 32 n.val) :
    Host.gather gather_S1024x1024_S1024x1_S1024x1024_0_1_n_n_1_1_10241 x idx (ix2 i e) = x (ix2 i n) := by
  have hs : gather_S1024x1024_S1024x1_S1024x1024_0_1_n_n_1_1_10241.siIdx (ix2 i e) ⟨0, by decide⟩ = ix2 e 0 := by
    funext b
    fin_cases b <;> rfl
  refine congrArg x (funext fun a => Fin.ext ?_)
  fin_cases a
  · show 0 + 0 + i.val = i.val
    omega
  · show min (idx (gather_S1024x1024_S1024x1_S1024x1024_0_1_n_n_1_1_10241.siIdx (ix2 i e) ⟨0, by decide⟩)).toInt.toNat (1024 - 1) + 0 + 0 = n.val
    rw [hs, h, ofNat_toNat _ (by omega)]
    omega

theorem gather_narrow (x : S1024x256.Idx → EReal) (idx : S256x1.Idx → BitVec 32) (i : Fin 1024) (e n : Fin 256) (h : idx (ix2 e 0) = BitVec.ofNat 32 n.val) :
    Host.gather gather_S1024x256_S256x1_S1024x256_0_1_n_n_1_1_10241 x idx (ix2 i e) = x (ix2 i n) := by
  have hs : gather_S1024x256_S256x1_S1024x256_0_1_n_n_1_1_10241.siIdx (ix2 i e) ⟨0, by decide⟩ = ix2 e 0 := by
    funext b
    fin_cases b <;> rfl
  refine congrArg x (funext fun a => Fin.ext ?_)
  fin_cases a
  · show 0 + 0 + i.val = i.val
    omega
  · show min (idx (gather_S1024x256_S256x1_S1024x256_0_1_n_n_1_1_10241.siIdx (ix2 i e) ⟨0, by decide⟩)).toInt.toNat (256 - 1) + 0 + 0 = n.val
    rw [hs, h, ofNat_toNat _ (by omega)]
    omega

theorem wide_word (k n : ℕ) : IntOp.addi (IntOp.muli (BitVec.ofNat 32 k) 128#32) (BitVec.ofNat 32 n) = BitVec.ofNat 32 (k * 128 + n) := by
  rw [BitVec.ofNat_add, BitVec.ofNat_mul]
  rfl
theorem ofNat_toInt (n : ℕ) (h : n < 2048) : (BitVec.ofNat 32 n).toInt = n := by
  have e : (BitVec.ofNat 32 n).toNat = n := by rw [BitVec.toNat_ofNat]; omega
  rw [BitVec.toInt_eq_toNat_of_lt (by rw [e]; omega), e]
theorem wrap_word (n : ℕ) (h : n < 2048) (k : BitVec 32) : Scalar.select (IntOp.cmpi CmpIPredicate.slt (BitVec.ofNat 32 n) 0#32) (IntOp.addi (BitVec.ofNat 32 n) k) (BitVec.ofNat 32 n) = BitVec.ofNat 32 n := by
  have e : IntOp.cmpi CmpIPredicate.slt (BitVec.ofNat 32 n) 0#32 = 0#1 := by
    show BitVec.ofBool ((BitVec.ofNat 32 n).slt 0#32) = 0#1
    have : (BitVec.ofNat 32 n).slt 0#32 = false := by
      rw [BitVec.slt_eq_decide, ofNat_toInt n h]
      simp
    rw [this]
    rfl
  rw [e]
  rfl
theorem even_word (n : ℕ) : IntOp.addi 0#32 (IntOp.muli 2#32 (BitVec.ofNat 32 n)) = BitVec.ofNat 32 (2 * n) := by
  rw [BitVec.ofNat_mul]
  exact BitVec.zero_add _
theorem odd_word (n : ℕ) : IntOp.addi 1#32 (IntOp.muli 2#32 (BitVec.ofNat 32 n)) = BitVec.ofNat 32 (2 * n + 1) := by
  rw [BitVec.ofNat_add, BitVec.ofNat_mul]
  exact BitVec.add_comm _ _

/-- The column of a head a permuted column comes from, and the same across heads. -/
abbrev src (d : ℕ) : ℕ := d / 128 * 128 + (Proj.pair ⟨d % 128, Nat.mod_lt _ (by decide)⟩).val
theorem src_lt {n d : ℕ} (h : d < n * 128) : src d < n * 128 := by
  have := (Proj.pair ⟨d % 128, Nat.mod_lt _ (by decide)⟩).isLt
  have : d / 128 < n := by omega
  have : d / 128 * 128 + 128 ≤ n * 128 := by omega
  unfold src
  omega

theorem even_at (e : Fin 64) : (SA V (Proc.devRef .tc main_v22) : S64.Idx → BitVec 32) (ix1 e) = BitVec.ofNat 32 (2 * e.val) := by
  rw [← even_word]
  unfold SA
  after_reads_at
theorem odd_at (e : Fin 64) : (SA V (Proc.devRef .tc main_v27) : S64.Idx → BitVec 32) (ix1 e) = BitVec.ofNat 32 (2 * e.val + 1) := by
  rw [← odd_word]
  unfold SA
  after_reads_at
theorem perm_at (e : Fin 128) : (SP V (Proc.devRef .tc main_v28) : S128.Idx → BitVec 32) (ix1 e) = BitVec.ofNat 32 (Proj.pair e).val := by
  have h : (SP V (Proc.devRef .tc main_v28) : S128.Idx → BitVec 32) (ix1 e) = if h : e.val < 64 then (SA V (Proc.devRef .tc main_v22) : S64.Idx → BitVec 32) (ix1 ⟨e.val, h⟩) else (SA V (Proc.devRef .tc main_v27) : S64.Idx → BitVec 32) (ix1 ⟨e.val - 64, by omega⟩) := by
    unfold SP
    after_reads_at
  rw [h]
  unfold Proj.pair
  by_cases h : e.val < 64
  · rw [dif_pos h, even_at]
    exact congrArg (BitVec.ofNat 32) (if_pos h).symm
  · rw [dif_neg h, odd_at]
    exact congrArg (BitVec.ofNat 32) (if_neg h).symm
theorem src_at37 (e : Fin 1024) : (SB V (Proc.devRef .tc main_v37) : S1024.Idx → BitVec 32) (ix1 e) = BitVec.ofNat 32 (src e.val) := by
  have h : (SB V (Proc.devRef .tc main_v37) : S1024.Idx → BitVec 32) (ix1 e) = IntOp.addi (IntOp.muli (BitVec.ofNat 32 (e.val / 128)) 128#32) ((SP V (Proc.devRef .tc main_v28) : S128.Idx → BitVec 32) (ix1 ⟨e.val % 128, by omega⟩)) := by
    unfold SB
    after_reads_at
  rw [h, perm_at, wide_word]
theorem src_at46 (e : Fin 256) : (SB V (Proc.devRef .tc main_v46) : S256.Idx → BitVec 32) (ix1 e) = BitVec.ofNat 32 (src e.val) := by
  have h : (SB V (Proc.devRef .tc main_v46) : S256.Idx → BitVec 32) (ix1 e) = IntOp.addi (IntOp.muli (BitVec.ofNat 32 (e.val / 128)) 128#32) ((SP V (Proc.devRef .tc main_v28) : S128.Idx → BitVec 32) (ix1 ⟨e.val % 128, by omega⟩)) := by
    unfold SB
    after_reads_at
  rw [h, perm_at, wide_word]
theorem src_small {d : ℕ} (h : d < 1024) : src d < 2048 := by have := src_lt (n := 8) h; omega
theorem word_at53 (e : Fin 1024) : (SB V (Proc.devRef .tc main_v53) : S1024x1.Idx → BitVec 32) (ix2 e 0) = BitVec.ofNat 32 (src e.val) := by
  have h : (SB V (Proc.devRef .tc main_v53) : S1024x1.Idx → BitVec 32) (ix2 e 0) = Scalar.select (IntOp.cmpi CmpIPredicate.slt (IntOp.addi (IntOp.muli (BitVec.ofNat 32 (e.val / 128)) 128#32) ((SP V (Proc.devRef .tc main_v28) : S128.Idx → BitVec 32) (ix1 ⟨e.val % 128, by omega⟩))) 0#32) (IntOp.addi (IntOp.addi (IntOp.muli (BitVec.ofNat 32 (e.val / 128)) 128#32) ((SP V (Proc.devRef .tc main_v28) : S128.Idx → BitVec 32) (ix1 ⟨e.val % 128, by omega⟩))) 1024#32) (IntOp.addi (IntOp.muli (BitVec.ofNat 32 (e.val / 128)) 128#32) ((SP V (Proc.devRef .tc main_v28) : S128.Idx → BitVec 32) (ix1 ⟨e.val % 128, by omega⟩))) := by
    unfold SB
    after_reads_at
  rw [h, perm_at, wide_word, wrap_word _ (src_small e.isLt)]
theorem word_at60 (e : Fin 256) : (SC V (Proc.devRef .tc main_v60) : S256x1.Idx → BitVec 32) (ix2 e 0) = BitVec.ofNat 32 (src e.val) := by
  have h : (SC V (Proc.devRef .tc main_v60) : S256x1.Idx → BitVec 32) (ix2 e 0) = Scalar.select (IntOp.cmpi CmpIPredicate.slt ((SB V (Proc.devRef .tc main_v46) : S256.Idx → BitVec 32) (ix1 e)) 0#32) (IntOp.addi ((SB V (Proc.devRef .tc main_v46) : S256.Idx → BitVec 32) (ix1 e)) 256#32) ((SB V (Proc.devRef .tc main_v46) : S256.Idx → BitVec 32) (ix1 e)) := by
    unfold SC
    after_reads_at
  rw [h]
  rw [src_at46, wrap_word _ (src_small (by omega))]
theorem word_at76 (e : Fin 128) : (SD V (Proc.devRef .tc main_v76) : S128x1.Idx → BitVec 32) (ix2 e 0) = BitVec.ofNat 32 (Proj.pair e).val := by
  have h : (SD V (Proc.devRef .tc main_v76) : S128x1.Idx → BitVec 32) (ix2 e 0) = Scalar.select (IntOp.cmpi CmpIPredicate.slt ((SC V (Proc.devRef .tc main_v28) : S128.Idx → BitVec 32) (ix1 e)) 0#32) (IntOp.addi ((SC V (Proc.devRef .tc main_v28) : S128.Idx → BitVec 32) (ix1 e)) 128#32) ((SC V (Proc.devRef .tc main_v28) : S128.Idx → BitVec 32) (ix1 e)) := by
    unfold SD
    after_reads_at
  rw [h]
  unfold SC
  rw [keepC _ main_v28 (by decide)]
  unfold SB
  rw [keepB _ main_v28 (by decide)]
  rw [perm_at, wrap_word _ (by omega)]
theorem word_at85 (e : Fin 128) : (SE V (Proc.devRef .tc main_v85) : S128x1.Idx → BitVec 32) (ix2 e 0) = BitVec.ofNat 32 (Proj.pair e).val := by
  have h : (SE V (Proc.devRef .tc main_v85) : S128x1.Idx → BitVec 32) (ix2 e 0) = Scalar.select (IntOp.cmpi CmpIPredicate.slt ((SD V (Proc.devRef .tc main_v28) : S128.Idx → BitVec 32) (ix1 e)) 0#32) (IntOp.addi ((SD V (Proc.devRef .tc main_v28) : S128.Idx → BitVec 32) (ix1 e)) 128#32) ((SD V (Proc.devRef .tc main_v28) : S128.Idx → BitVec 32) (ix1 e)) := by
    unfold SE
    after_reads_at
  rw [h]
  unfold SD
  rw [keepD _ main_v28 (by decide)]
  unfold SC
  rw [keepC _ main_v28 (by decide)]
  unfold SB
  rw [keepB _ main_v28 (by decide)]
  rw [perm_at, wrap_word _ (by omega)]
theorem cols54 (i d : Fin 1024) : (SC V (Proc.devRef .tc main_v54) : S1024x1024.Idx → EReal) (ix2 i d) = (V (Proc.devRef .tc main_arg4) : S1x1024x7696.Idx → EReal) (ix3 0 i ⟨4112 + src d.val, by have := src_lt (n := 8) d.isLt; omega⟩) := by
  have h : (SC V (Proc.devRef .tc main_v54) : S1024x1024.Idx → EReal) (ix2 i d) = Host.gather gather_S1024x1024_S1024x1_S1024x1024_0_1_n_n_1_1_10241 (SB V (Proc.devRef .tc main_v11) : S1024x1024.Idx → EReal) (SB V (Proc.devRef .tc main_v53) : S1024x1.Idx → BitVec 32) (ix2 i d) := by
    unfold SC
    after_reads_at
  rw [h, gather_wide _ _ i d ⟨src d.val, by have := src_lt (n := 8) d.isLt; omega⟩ (word_at53 V d)]
  unfold SB
  rw [keepB _ main_v11 (by decide)]
  unfold SP
  rw [keepP _ main_v11 (by decide)]
  exact part11 V i _
theorem cols61 (i : Fin 1024) (d : Fin 256) : (SD V (Proc.devRef .tc main_v61) : S1024x256.Idx → EReal) (ix2 i d) = (V (Proc.devRef .tc main_arg4) : S1x1024x7696.Idx → EReal) (ix3 0 i ⟨5136 + src d.val, by have := src_lt (n := 2) d.isLt; omega⟩) := by
  have h : (SD V (Proc.devRef .tc main_v61) : S1024x256.Idx → EReal) (ix2 i d) = Host.gather gather_S1024x256_S256x1_S1024x256_0_1_n_n_1_1_10241 (SC V (Proc.devRef .tc main_v13) : S1024x256.Idx → EReal) (SC V (Proc.devRef .tc main_v60) : S256x1.Idx → BitVec 32) (ix2 i d) := by
    unfold SD
    after_reads_at
  rw [h, gather_narrow _ _ i d ⟨src d.val, by have := src_lt (n := 2) d.isLt; omega⟩ (word_at60 V d)]
  unfold SC
  rw [keepC _ main_v13 (by decide)]
  unfold SB
  rw [keepB _ main_v13 (by decide)]
  unfold SP
  rw [keepP _ main_v13 (by decide)]
  exact part13 V i _
theorem cols67 (i : Fin 1024) (d : Fin 256) : (SD V (Proc.devRef .tc main_v67) : S1024x256.Idx → EReal) (ix2 i d) = (SD V (Proc.devRef .tc main_v61) : S1024x256.Idx → EReal) (ix2 i d) := by
  have h1 : (SD V (Proc.devRef .tc main_v67) : S1024x256.Idx → EReal) (ix2 i d) = Host.gather gather_S1024x256_S256x1_S1024x256_0_1_n_n_1_1_10241 (SC V (Proc.devRef .tc main_v13) : S1024x256.Idx → EReal) (SC V (Proc.devRef .tc main_v60) : S256x1.Idx → BitVec 32) (ix2 i d) := by
    unfold SD
    after_reads_at
  have h2 : (SD V (Proc.devRef .tc main_v61) : S1024x256.Idx → EReal) (ix2 i d) = Host.gather gather_S1024x256_S256x1_S1024x256_0_1_n_n_1_1_10241 (SC V (Proc.devRef .tc main_v13) : S1024x256.Idx → EReal) (SC V (Proc.devRef .tc main_v60) : S256x1.Idx → BitVec 32) (ix2 i d) := by
    unfold SD
    after_reads_at
  rw [h1, h2]
theorem cols66 (i d : Fin 1024) : (SD V (Proc.devRef .tc main_v66) : S1024x1024.Idx → EReal) (ix2 i d) = (SC V (Proc.devRef .tc main_v54) : S1024x1024.Idx → EReal) (ix2 i d) := by
  unfold SD
  after_reads_at
theorem cols63 (i : Fin 1024) (d : Fin 1024) : (SD V (Proc.devRef .tc main_v63) : S1024x1024.Idx → EReal) (ix2 i d) = (V (Proc.devRef .tc main_arg4) : S1x1024x7696.Idx → EReal) (ix3 0 i ⟨2048 + d.val, by omega⟩) := by
  have h : (SD V (Proc.devRef .tc main_v63) : S1024x1024.Idx → EReal) (ix2 i d) = (SC V (Proc.devRef .tc main_v5) : S1024x1024.Idx → EReal) (ix2 i d) := by
    unfold SD
    after_reads_at
  rw [h]
  unfold SC
  rw [keepC _ main_v5 (by decide)]
  unfold SB
  rw [keepB _ main_v5 (by decide)]
  unfold SP
  rw [keepP _ main_v5 (by decide)]
  exact part5 V i d
theorem cols64 (i : Fin 1024) (d : Fin 1024) : (SD V (Proc.devRef .tc main_v64) : S1024x1024.Idx → EReal) (ix2 i d) = (V (Proc.devRef .tc main_arg4) : S1x1024x7696.Idx → EReal) (ix3 0 i ⟨3072 + d.val, by omega⟩) := by
  have h : (SD V (Proc.devRef .tc main_v64) : S1024x1024.Idx → EReal) (ix2 i d) = (SC V (Proc.devRef .tc main_v7) : S1024x1024.Idx → EReal) (ix2 i d) := by
    unfold SD
    after_reads_at
  rw [h]
  unfold SC
  rw [keepC _ main_v7 (by decide)]
  unfold SB
  rw [keepB _ main_v7 (by decide)]
  unfold SP
  rw [keepP _ main_v7 (by decide)]
  exact part7 V i d
theorem cols68 (i : Fin 1024) (d : Fin 256) : (SD V (Proc.devRef .tc main_v68) : S1024x256.Idx → EReal) (ix2 i d) = (V (Proc.devRef .tc main_arg4) : S1x1024x7696.Idx → EReal) (ix3 0 i ⟨5392 + d.val, by omega⟩) := by
  have h : (SD V (Proc.devRef .tc main_v68) : S1024x256.Idx → EReal) (ix2 i d) = (SC V (Proc.devRef .tc main_v15) : S1024x256.Idx → EReal) (ix2 i d) := by
    unfold SD
    after_reads_at
  rw [h]
  unfold SC
  rw [keepC _ main_v15 (by decide)]
  unfold SB
  rw [keepB _ main_v15 (by decide)]
  unfold SP
  rw [keepP _ main_v15 (by decide)]
  exact part15 V i d
theorem cols69 (i : Fin 1024) (d : Fin 2048) : (SD V (Proc.devRef .tc main_v69) : S1024x2048.Idx → EReal) (ix2 i d) = (V (Proc.devRef .tc main_arg4) : S1x1024x7696.Idx → EReal) (ix3 0 i ⟨5648 + d.val, by omega⟩) := by
  have h : (SD V (Proc.devRef .tc main_v69) : S1024x2048.Idx → EReal) (ix2 i d) = (SC V (Proc.devRef .tc main_v17) : S1024x2048.Idx → EReal) (ix2 i d) := by
    unfold SD
    after_reads_at
  rw [h]
  unfold SC
  rw [keepC _ main_v17 (by decide)]
  unfold SB
  rw [keepB _ main_v17 (by decide)]
  unfold SP
  rw [keepP _ main_v17 (by decide)]
  exact part17 V i d
theorem gq_at (e : Fin 128) : (SE V (Proc.devRef .tc main_v78) : S1x128.Idx → EReal) (ix2 0 e) = (V (Proc.devRef .tc main_arg8) : S1x128.Idx → EReal) (ix2 0 (Proj.pair e)) := by
  have h : (SE V (Proc.devRef .tc main_v78) : S1x128.Idx → EReal) (ix2 0 e) = Host.gather gather_S128_S128x1_S128_n_0_n_n_0_1_1 (SD V (Proc.devRef .tc main_v70) : S128.Idx → EReal) (SD V (Proc.devRef .tc main_v76) : S128x1.Idx → BitVec 32) (ix1 e) := by
    unfold SE
    after_reads_at
  have h' : (SD V (Proc.devRef .tc main_v70) : S128.Idx → EReal) (ix1 (Proj.pair e)) = (SC V (Proc.devRef .tc main_arg8) : S1x128.Idx → EReal) (ix2 0 (Proj.pair e)) := by
    unfold SD
    after_reads_at
  rw [h, gather_head _ _ e (Proj.pair e) (word_at76 V e), h']
  unfold SC
  rw [keepC _ main_arg8 (by decide)]
  unfold SB
  rw [keepB _ main_arg8 (by decide)]
  unfold SP
  rw [keepP _ main_arg8 (by decide)]
  unfold SA
  rw [keepA _ main_arg8 (by decide)]
theorem gk_at (e : Fin 128) : (SF V (Proc.devRef .tc main_v87) : S1x128.Idx → EReal) (ix2 0 e) = (V (Proc.devRef .tc main_arg9) : S1x128.Idx → EReal) (ix2 0 (Proj.pair e)) := by
  have h : (SF V (Proc.devRef .tc main_v87) : S1x128.Idx → EReal) (ix2 0 e) = Host.gather gather_S128_S128x1_S128_n_0_n_n_0_1_1 (SE V (Proc.devRef .tc main_v79) : S128.Idx → EReal) (SE V (Proc.devRef .tc main_v85) : S128x1.Idx → BitVec 32) (ix1 e) := by
    unfold SF
    after_reads_at
  have h' : (SE V (Proc.devRef .tc main_v79) : S128.Idx → EReal) (ix1 (Proj.pair e)) = (SD V (Proc.devRef .tc main_arg9) : S1x128.Idx → EReal) (ix2 0 (Proj.pair e)) := by
    unfold SE
    after_reads_at
  rw [h, gather_head _ _ e (Proj.pair e) (word_at85 V e), h']
  unfold SD
  rw [keepD _ main_arg9 (by decide)]
  unfold SC
  rw [keepC _ main_arg9 (by decide)]
  unfold SB
  rw [keepB _ main_arg9 (by decide)]
  unfold SP
  rw [keepP _ main_arg9 (by decide)]
  unfold SA
  rw [keepA _ main_arg9 (by decide)]

/-! The rotation's tables. -/
theorem cos_row (i : Fin 128) (j : Fin 64) (k : Fin 32) : (SF V (Proc.devRef .tc main_v110) : S128x64x32.Idx → EReal) (ix3 i j k) = Ideal.cos ((FloatOps.sitofp (F := Ideal) .f32 (BitVec.ofNat 32 i.val) : EReal) * Proj.freq k) := by
  unfold SF Proj.freq
  after_reads_at
theorem cos_col (i : Fin 128) (j : Fin 64) (k : Fin 32) : (SF V (Proc.devRef .tc main_v113) : S128x64x32.Idx → EReal) (ix3 i j k) = Ideal.cos ((FloatOps.sitofp (F := Ideal) .f32 (BitVec.ofNat 32 j.val) : EReal) * Proj.freq k) := by
  unfold SF Proj.freq
  after_reads_at
theorem row_angle (i : Fin 128) (k : Fin 32) : (SF V (Proc.devRef .tc main_v101) : S128x32.Idx → EReal) (ix2 i k) = (FloatOps.sitofp (F := Ideal) .f32 (BitVec.ofNat 32 i.val) : EReal) * Proj.freq k := by
  unfold SF Proj.freq
  after_reads_at
theorem col_angle (i : Fin 64) (k : Fin 32) : (SF V (Proc.devRef .tc main_v107) : S64x32.Idx → EReal) (ix2 i k) = (FloatOps.sitofp (F := Ideal) .f32 (BitVec.ofNat 32 i.val) : EReal) * Proj.freq k := by
  unfold SF Proj.freq
  after_reads_at
theorem sin_row (i : Fin 128) (j : Fin 64) (k : Fin 32) : (SG V (Proc.devRef .tc main_v118) : S128x64x32.Idx → EReal) (ix3 i j k) = Ideal.sin ((FloatOps.sitofp (F := Ideal) .f32 (BitVec.ofNat 32 i.val) : EReal) * Proj.freq k) := by
  have h : (SG V (Proc.devRef .tc main_v118) : S128x64x32.Idx → EReal) (ix3 i j k) = Ideal.sin ((SF V (Proc.devRef .tc main_v101) : S128x32.Idx → EReal) (ix2 i k)) := by
    unfold SG
    after_reads_at
  rw [h, row_angle]
theorem sin_col (i : Fin 128) (j : Fin 64) (k : Fin 32) : (SG V (Proc.devRef .tc main_v121) : S128x64x32.Idx → EReal) (ix3 i j k) = Ideal.sin ((FloatOps.sitofp (F := Ideal) .f32 (BitVec.ofNat 32 j.val) : EReal) * Proj.freq k) := by
  have h : (SG V (Proc.devRef .tc main_v121) : S128x64x32.Idx → EReal) (ix3 i j k) = Ideal.sin ((SF V (Proc.devRef .tc main_v107) : S64x32.Idx → EReal) (ix2 j k)) := by
    unfold SG
    after_reads_at
  rw [h, col_angle]
theorem cos_half (t : Fin 8192) (k : Fin 64) : (SG V (Proc.devRef .tc main_v115) : S8192x64.Idx → EReal) (ix2 t k) = Ideal.cos (Proj.angle t k) := by
  have h : (SG V (Proc.devRef .tc main_v115) : S8192x64.Idx → EReal) (ix2 t k) = if h : k.val < 32 then (SF V (Proc.devRef .tc main_v110) : S128x64x32.Idx → EReal) (ix3 ⟨t.val / 64, by omega⟩ ⟨t.val % 64, by omega⟩ ⟨k.val, h⟩) else (SF V (Proc.devRef .tc main_v113) : S128x64x32.Idx → EReal) (ix3 ⟨t.val / 64, by omega⟩ ⟨t.val % 64, by omega⟩ ⟨k.val - 32, by omega⟩) := by
    unfold SG
    after_reads_at
    rfl
  rw [h]
  unfold Proj.angle
  by_cases h : k.val < 32
  · rw [dif_pos h, dif_pos h, cos_row]
  · rw [dif_neg h, dif_neg h, cos_col]
theorem sin_half (t : Fin 8192) (k : Fin 64) : (SH V (Proc.devRef .tc main_v123) : S8192x64.Idx → EReal) (ix2 t k) = Ideal.sin (Proj.angle t k) := by
  have h : (SH V (Proc.devRef .tc main_v123) : S8192x64.Idx → EReal) (ix2 t k) = if h : k.val < 32 then (SG V (Proc.devRef .tc main_v118) : S128x64x32.Idx → EReal) (ix3 ⟨t.val / 64, by omega⟩ ⟨t.val % 64, by omega⟩ ⟨k.val, h⟩) else (SG V (Proc.devRef .tc main_v121) : S128x64x32.Idx → EReal) (ix3 ⟨t.val / 64, by omega⟩ ⟨t.val % 64, by omega⟩ ⟨k.val - 32, by omega⟩) := by
    unfold SH
    after_reads_at
    rfl
  rw [h]
  unfold Proj.angle
  by_cases h : k.val < 32
  · rw [dif_pos h, dif_pos h, sin_row]
  · rw [dif_neg h, dif_neg h, sin_col]
theorem cos_full (t : Fin 8192) (k : Fin 128) : (SI V (Proc.devRef .tc main_v124) : S8192x128.Idx → EReal) (ix2 t k) = Ideal.cos (Proj.angle t ⟨k.val % 64, by omega⟩) := by
  have h : (SI V (Proc.devRef .tc main_v124) : S8192x128.Idx → EReal) (ix2 t k) = if h : k.val < 64 then (SH V (Proc.devRef .tc main_v115) : S8192x64.Idx → EReal) (ix2 t ⟨k.val, h⟩) else (SH V (Proc.devRef .tc main_v115) : S8192x64.Idx → EReal) (ix2 t ⟨k.val - 64, by omega⟩) := by
    unfold SI
    after_reads_at
  have hk : (SH V (Proc.devRef .tc main_v115) : S8192x64.Idx → EReal) = (SG V (Proc.devRef .tc main_v115) : S8192x64.Idx → EReal) := by
    unfold SH
    exact keepH _ main_v115 (by decide)
  rw [h]
  by_cases h : k.val < 64
  · rw [dif_pos h, hk, cos_half]
    exact congrArg (fun k => Ideal.cos (Proj.angle t k)) (Fin.ext (by dsimp only; omega))
  · rw [dif_neg h, hk, cos_half]
    exact congrArg (fun k => Ideal.cos (Proj.angle t k)) (Fin.ext (by dsimp only; omega))
theorem sin_full (t : Fin 8192) (k : Fin 128) : (SJ V (Proc.devRef .tc main_v126) : S8192x128.Idx → EReal) (ix2 t k) = if h : k.val < 64 then -(Ideal.sin (Proj.angle t ⟨k.val, h⟩)) else Ideal.sin (Proj.angle t ⟨k.val - 64, by omega⟩) := by
  have h : (SJ V (Proc.devRef .tc main_v126) : S8192x128.Idx → EReal) (ix2 t k) = if h : k.val < 64 then (SI V (Proc.devRef .tc main_v125) : S8192x64.Idx → EReal) (ix2 t ⟨k.val, h⟩) else (SI V (Proc.devRef .tc main_v123) : S8192x64.Idx → EReal) (ix2 t ⟨k.val - 64, by omega⟩) := by
    unfold SJ
    after_reads_at
  have hn (k : Fin 64) : (SI V (Proc.devRef .tc main_v125) : S8192x64.Idx → EReal) (ix2 t k) = Neg.neg (α := EReal) ((SH V (Proc.devRef .tc main_v123) : S8192x64.Idx → EReal) (ix2 t k)) := by
    unfold SI
    after_reads_at
  have hk : (SI V (Proc.devRef .tc main_v123) : S8192x64.Idx → EReal) = (SH V (Proc.devRef .tc main_v123) : S8192x64.Idx → EReal) := by
    unfold SI
    exact keepI _ main_v123 (by decide)
  rw [h]
  by_cases h : k.val < 64
  · rw [dif_pos h, dif_pos h, hn, sin_half]
  · rw [dif_neg h, dif_neg h, hk, sin_half]

/-! The arrays the call takes, after all the operations. -/
theorem cos_at (t : Fin 8192) (k : Fin 128) : (SK V (Proc.devRef .tc main_v124) : S8192x128.Idx → EReal) (ix2 t k) = Ideal.cos (Proj.angle t ⟨k.val % 64, by omega⟩) := by
  unfold SK
  rw [keepK _ main_v124 (by decide)]
  unfold SJ
  rw [keepJ _ main_v124 (by decide)]
  exact cos_full V t k
theorem sin_at (t : Fin 8192) (k : Fin 128) : (SK V (Proc.devRef .tc main_v126) : S8192x128.Idx → EReal) (ix2 t k) = if h : k.val < 64 then -(Ideal.sin (Proj.angle t ⟨k.val, h⟩)) else Ideal.sin (Proj.angle t ⟨k.val - 64, by omega⟩) := by
  unfold SK
  rw [keepK _ main_v126 (by decide)]
  exact sin_full V t k
theorem gq_end (e : Fin 128) : (SK V (Proc.devRef .tc main_v78) : S1x128.Idx → EReal) (ix2 0 e) = (V (Proc.devRef .tc main_arg8) : S1x128.Idx → EReal) (ix2 0 (Proj.pair e)) := by
  unfold SK
  rw [keepK _ main_v78 (by decide)]
  unfold SJ
  rw [keepJ _ main_v78 (by decide)]
  unfold SI
  rw [keepI _ main_v78 (by decide)]
  unfold SH
  rw [keepH _ main_v78 (by decide)]
  unfold SG
  rw [keepG _ main_v78 (by decide)]
  unfold SF
  rw [keepF _ main_v78 (by decide)]
  exact gq_at V e
theorem gk_end (e : Fin 128) : (SK V (Proc.devRef .tc main_v87) : S1x128.Idx → EReal) (ix2 0 e) = (V (Proc.devRef .tc main_arg9) : S1x128.Idx → EReal) (ix2 0 (Proj.pair e)) := by
  unfold SK
  rw [keepK _ main_v87 (by decide)]
  unfold SJ
  rw [keepJ _ main_v87 (by decide)]
  unfold SI
  rw [keepI _ main_v87 (by decide)]
  unfold SH
  rw [keepH _ main_v87 (by decide)]
  unfold SG
  rw [keepG _ main_v87 (by decide)]
  exact gk_at V e
theorem gain_at (j : Fin 1024) : (SK V (Proc.devRef .tc main_v128) : S1x1024.Idx → EReal) (ix2 0 j) = (V (Proc.devRef .tc main_arg3) : S1x1024.Idx → EReal) (ix2 0 j) := by
  unfold SK
  rw [keepK _ main_v128 (by decide)]
  have h : (SJ V (Proc.devRef .tc main_v128) : S1x1024.Idx → EReal) (ix2 0 j) = (SI V (Proc.devRef .tc main_arg3) : S1x1024.Idx → EReal) (ix2 0 j) := by
    unfold SJ
    after_reads_at
  rw [h]
  unfold SI
  rw [keepI _ main_arg3 (by decide)]
  unfold SH
  rw [keepH _ main_arg3 (by decide)]
  unfold SG
  rw [keepG _ main_arg3 (by decide)]
  unfold SF
  rw [keepF _ main_arg3 (by decide)]
  unfold SE
  rw [keepE _ main_arg3 (by decide)]
  unfold SD
  rw [keepD _ main_arg3 (by decide)]
  unfold SC
  rw [keepC _ main_arg3 (by decide)]
  unfold SB
  rw [keepB _ main_arg3 (by decide)]
  unfold SP
  rw [keepP _ main_arg3 (by decide)]
  unfold SA
  rw [keepA _ main_arg3 (by decide)]
theorem tap_at (k : Fin 5) (d : Fin 2048) : (SK V (Proc.devRef .tc main_v129) : S5x2048.Idx → EReal) (ix2 k d) = (V (Proc.devRef .tc main_arg6) : S1x5x2048.Idx → EReal) (ix3 0 k d) := by
  unfold SK
  rw [keepK _ main_v129 (by decide)]
  have h : (SJ V (Proc.devRef .tc main_v129) : S5x2048.Idx → EReal) (ix2 k d) = (SI V (Proc.devRef .tc main_arg6) : S1x5x2048.Idx → EReal) (ix3 0 k d) := by
    unfold SJ
    after_reads_at
  rw [h]
  unfold SI
  rw [keepI _ main_arg6 (by decide)]
  unfold SH
  rw [keepH _ main_arg6 (by decide)]
  unfold SG
  rw [keepG _ main_arg6 (by decide)]
  unfold SF
  rw [keepF _ main_arg6 (by decide)]
  unfold SE
  rw [keepE _ main_arg6 (by decide)]
  unfold SD
  rw [keepD _ main_arg6 (by decide)]
  unfold SC
  rw [keepC _ main_arg6 (by decide)]
  unfold SB
  rw [keepB _ main_arg6 (by decide)]
  unfold SP
  rw [keepP _ main_arg6 (by decide)]
  unfold SA
  rw [keepA _ main_arg6 (by decide)]
theorem bias_at (d : Fin 2048) : (SK V (Proc.devRef .tc main_v133) : S1x2048.Idx → EReal) (ix2 0 d) = (V (Proc.devRef .tc main_arg7) : S1x2048.Idx → EReal) (ix2 0 d) := by
  have h : (SK V (Proc.devRef .tc main_v133) : S1x2048.Idx → EReal) (ix2 0 d) = (SJ V (Proc.devRef .tc main_v130) : S2048.Idx → EReal) (ix1 d) := by
    unfold SK
    after_reads_at
  have h' : (SJ V (Proc.devRef .tc main_v130) : S2048.Idx → EReal) (ix1 d) = (SI V (Proc.devRef .tc main_arg7) : S1x2048.Idx → EReal) (ix2 0 d) := by
    unfold SJ
    after_reads_at
  rw [h, h']
  unfold SI
  rw [keepI _ main_arg7 (by decide)]
  unfold SH
  rw [keepH _ main_arg7 (by decide)]
  unfold SG
  rw [keepG _ main_arg7 (by decide)]
  unfold SF
  rw [keepF _ main_arg7 (by decide)]
  unfold SE
  rw [keepE _ main_arg7 (by decide)]
  unfold SD
  rw [keepD _ main_arg7 (by decide)]
  unfold SC
  rw [keepC _ main_arg7 (by decide)]
  unfold SB
  rw [keepB _ main_arg7 (by decide)]
  unfold SP
  rw [keepP _ main_arg7 (by decide)]
  unfold SA
  rw [keepA _ main_arg7 (by decide)]
theorem qk_at (i : Fin 1024) (d : Fin 2048) : (SK V (Proc.devRef .tc main_v62) : S1024x2048.Idx → EReal) (ix2 i d) = (V (Proc.devRef .tc main_arg4) : S1x1024x7696.Idx → EReal) (ix3 0 i ⟨d.val, by omega⟩) := by
  unfold SK
  rw [keepK _ main_v62 (by decide)]
  unfold SJ
  rw [keepJ _ main_v62 (by decide)]
  unfold SI
  rw [keepI _ main_v62 (by decide)]
  unfold SH
  rw [keepH _ main_v62 (by decide)]
  unfold SG
  rw [keepG _ main_v62 (by decide)]
  unfold SF
  rw [keepF _ main_v62 (by decide)]
  unfold SE
  rw [keepE _ main_v62 (by decide)]
  have h : (SD V (Proc.devRef .tc main_v62) : S1024x2048.Idx → EReal) (ix2 i d) = (SC V (Proc.devRef .tc main_v47) : S1024x2048.Idx → EReal) (ix2 i d) := by
    unfold SD
    after_reads_at
  have h' : (SB V (Proc.devRef .tc main_v47) : S1024x2048.Idx → EReal) (ix2 i d) = if h : d.val < 1024 then (SP V (Proc.devRef .tc main_v1) : S1024x1024.Idx → EReal) (ix2 i ⟨d.val, h⟩) else (SP V (Proc.devRef .tc main_v3) : S1024x1024.Idx → EReal) (ix2 i ⟨d.val - 1024, by omega⟩) := by
    unfold SB
    after_reads_at
  rw [h]
  unfold SC
  rw [keepC _ main_v47 (by decide)]
  rw [h']
  by_cases h : d.val < 1024
  · rw [dif_pos h, show SP V (Proc.devRef .tc main_v1) = SA V (Proc.devRef .tc main_v1) from keepP _ main_v1 (by decide), part1]
  · rw [dif_neg h, show SP V (Proc.devRef .tc main_v3) = SA V (Proc.devRef .tc main_v3) from keepP _ main_v3 (by decide), part3]
    exact congrArg (fun n => (V (Proc.devRef .tc main_arg4) : S1x1024x7696.Idx → EReal) (ix3 0 i n)) (Fin.ext (by dsimp only; omega))
theorem wide_at (i : Fin 1024) (k : Fin 5632) : (SK V (Proc.devRef .tc main_v132) : S1024x5632.Idx → EReal) (ix2 i k) =
    if h : k.val < 1024 then (SJ V (Proc.devRef .tc main_v66) : S1024x1024.Idx → EReal) (ix2 i ⟨k.val, h⟩)
    else if h : k.val - 1024 < 256 then (SJ V (Proc.devRef .tc main_v67) : S1024x256.Idx → EReal) (ix2 i ⟨k.val - 1024, h⟩)
    else if h : k.val - 1024 - 256 < 1024 then (SJ V (Proc.devRef .tc main_v63) : S1024x1024.Idx → EReal) (ix2 i ⟨k.val - 1024 - 256, h⟩)
    else if h : k.val - 1024 - 256 - 1024 < 1024 then (SJ V (Proc.devRef .tc main_v64) : S1024x1024.Idx → EReal) (ix2 i ⟨k.val - 1024 - 256 - 1024, h⟩)
    else if h : k.val - 1024 - 256 - 1024 - 1024 < 2048 then (SJ V (Proc.devRef .tc main_v69) : S1024x2048.Idx → EReal) (ix2 i ⟨k.val - 1024 - 256 - 1024 - 1024, h⟩)
    else (SJ V (Proc.devRef .tc main_v68) : S1024x256.Idx → EReal) (ix2 i ⟨k.val - 1024 - 256 - 1024 - 1024 - 2048, by omega⟩) := by
  unfold SK
  after_reads_at
theorem wide_q (i : Fin 1024) (d : Fin 1024) : (SK V (Proc.devRef .tc main_v132) : S1024x5632.Idx → EReal) (ix2 i ⟨d.val, by omega⟩) = (V (Proc.devRef .tc main_arg4) : S1x1024x7696.Idx → EReal) (ix3 0 i ⟨4112 + src d.val, by have := src_lt (n := 8) d.isLt; omega⟩) := by
  have hk : (SJ V (Proc.devRef .tc main_v66) : S1024x1024.Idx → EReal) = (SD V (Proc.devRef .tc main_v66) : S1024x1024.Idx → EReal) := by
    unfold SJ
    rw [keepJ _ main_v66 (by decide)]
    unfold SI
    rw [keepI _ main_v66 (by decide)]
    unfold SH
    rw [keepH _ main_v66 (by decide)]
    unfold SG
    rw [keepG _ main_v66 (by decide)]
    unfold SF
    rw [keepF _ main_v66 (by decide)]
    unfold SE
    rw [keepE _ main_v66 (by decide)]
  rw [wide_at, dif_pos (by dsimp only; omega), hk]
  refine Eq.trans ?_ ((cols66 V i d).trans (cols54 V i d))
  exact congrArg (fun n => (SD V (Proc.devRef .tc main_v66) : S1024x1024.Idx → EReal) (ix2 i n)) (Fin.ext (by dsimp only))
theorem wide_k (i : Fin 1024) (d : Fin 256) : (SK V (Proc.devRef .tc main_v132) : S1024x5632.Idx → EReal) (ix2 i ⟨1024 + d.val, by omega⟩) = (V (Proc.devRef .tc main_arg4) : S1x1024x7696.Idx → EReal) (ix3 0 i ⟨5136 + src d.val, by have := src_lt (n := 2) d.isLt; omega⟩) := by
  have hk : (SJ V (Proc.devRef .tc main_v67) : S1024x256.Idx → EReal) = (SD V (Proc.devRef .tc main_v67) : S1024x256.Idx → EReal) := by
    unfold SJ
    rw [keepJ _ main_v67 (by decide)]
    unfold SI
    rw [keepI _ main_v67 (by decide)]
    unfold SH
    rw [keepH _ main_v67 (by decide)]
    unfold SG
    rw [keepG _ main_v67 (by decide)]
    unfold SF
    rw [keepF _ main_v67 (by decide)]
    unfold SE
    rw [keepE _ main_v67 (by decide)]
  rw [wide_at, dif_neg (by dsimp only; omega), dif_pos (by dsimp only; omega), hk]
  refine Eq.trans ?_ ((cols67 V i d).trans (cols61 V i d))
  exact congrArg (fun n => (SD V (Proc.devRef .tc main_v67) : S1024x256.Idx → EReal) (ix2 i n)) (Fin.ext (by dsimp only; omega))
theorem wide_v (i : Fin 1024) (d : Fin 1024) : (SK V (Proc.devRef .tc main_v132) : S1024x5632.Idx → EReal) (ix2 i ⟨1280 + d.val, by omega⟩) = (V (Proc.devRef .tc main_arg4) : S1x1024x7696.Idx → EReal) (ix3 0 i ⟨2048 + d.val, by omega⟩) := by
  have hk : (SJ V (Proc.devRef .tc main_v63) : S1024x1024.Idx → EReal) = (SD V (Proc.devRef .tc main_v63) : S1024x1024.Idx → EReal) := by
    unfold SJ
    rw [keepJ _ main_v63 (by decide)]
    unfold SI
    rw [keepI _ main_v63 (by decide)]
    unfold SH
    rw [keepH _ main_v63 (by decide)]
    unfold SG
    rw [keepG _ main_v63 (by decide)]
    unfold SF
    rw [keepF _ main_v63 (by decide)]
    unfold SE
    rw [keepE _ main_v63 (by decide)]
  rw [wide_at, dif_neg (by dsimp only; omega), dif_neg (by dsimp only; omega), dif_pos (by dsimp only; omega), hk]
  refine Eq.trans ?_ (cols63 V i d)
  exact congrArg (fun n => (SD V (Proc.devRef .tc main_v63) : S1024x1024.Idx → EReal) (ix2 i n)) (Fin.ext (by dsimp only; omega))
theorem wide_og (i : Fin 1024) (d : Fin 1024) : (SK V (Proc.devRef .tc main_v132) : S1024x5632.Idx → EReal) (ix2 i ⟨2304 + d.val, by omega⟩) = (V (Proc.devRef .tc main_arg4) : S1x1024x7696.Idx → EReal) (ix3 0 i ⟨3072 + d.val, by omega⟩) := by
  have hk : (SJ V (Proc.devRef .tc main_v64) : S1024x1024.Idx → EReal) = (SD V (Proc.devRef .tc main_v64) : S1024x1024.Idx → EReal) := by
    unfold SJ
    rw [keepJ _ main_v64 (by decide)]
    unfold SI
    rw [keepI _ main_v64 (by decide)]
    unfold SH
    rw [keepH _ main_v64 (by decide)]
    unfold SG
    rw [keepG _ main_v64 (by decide)]
    unfold SF
    rw [keepF _ main_v64 (by decide)]
    unfold SE
    rw [keepE _ main_v64 (by decide)]
  rw [wide_at, dif_neg (by dsimp only; omega), dif_neg (by dsimp only; omega), dif_neg (by dsimp only; omega), dif_pos (by dsimp only; omega), hk]
  refine Eq.trans ?_ (cols64 V i d)
  exact congrArg (fun n => (SD V (Proc.devRef .tc main_v64) : S1024x1024.Idx → EReal) (ix2 i n)) (Fin.ext (by dsimp only; omega))
theorem wide_mg (i : Fin 1024) (d : Fin 2048) : (SK V (Proc.devRef .tc main_v132) : S1024x5632.Idx → EReal) (ix2 i ⟨3328 + d.val, by omega⟩) = (V (Proc.devRef .tc main_arg4) : S1x1024x7696.Idx → EReal) (ix3 0 i ⟨5648 + d.val, by omega⟩) := by
  have hk : (SJ V (Proc.devRef .tc main_v69) : S1024x2048.Idx → EReal) = (SD V (Proc.devRef .tc main_v69) : S1024x2048.Idx → EReal) := by
    unfold SJ
    rw [keepJ _ main_v69 (by decide)]
    unfold SI
    rw [keepI _ main_v69 (by decide)]
    unfold SH
    rw [keepH _ main_v69 (by decide)]
    unfold SG
    rw [keepG _ main_v69 (by decide)]
    unfold SF
    rw [keepF _ main_v69 (by decide)]
    unfold SE
    rw [keepE _ main_v69 (by decide)]
  rw [wide_at, dif_neg (by dsimp only; omega), dif_neg (by dsimp only; omega), dif_neg (by dsimp only; omega), dif_neg (by dsimp only; omega), dif_pos (by dsimp only; omega), hk]
  refine Eq.trans ?_ (cols69 V i d)
  exact congrArg (fun n => (SD V (Proc.devRef .tc main_v69) : S1024x2048.Idx → EReal) (ix2 i n)) (Fin.ext (by dsimp only; omega))
theorem wide_av (i : Fin 1024) (d : Fin 256) : (SK V (Proc.devRef .tc main_v132) : S1024x5632.Idx → EReal) (ix2 i ⟨5376 + d.val, by omega⟩) = (V (Proc.devRef .tc main_arg4) : S1x1024x7696.Idx → EReal) (ix3 0 i ⟨5392 + d.val, by omega⟩) := by
  have hk : (SJ V (Proc.devRef .tc main_v68) : S1024x256.Idx → EReal) = (SD V (Proc.devRef .tc main_v68) : S1024x256.Idx → EReal) := by
    unfold SJ
    rw [keepJ _ main_v68 (by decide)]
    unfold SI
    rw [keepI _ main_v68 (by decide)]
    unfold SH
    rw [keepH _ main_v68 (by decide)]
    unfold SG
    rw [keepG _ main_v68 (by decide)]
    unfold SF
    rw [keepF _ main_v68 (by decide)]
    unfold SE
    rw [keepE _ main_v68 (by decide)]
  rw [wide_at, dif_neg (by dsimp only; omega), dif_neg (by dsimp only; omega), dif_neg (by dsimp only; omega), dif_neg (by dsimp only; omega), dif_neg (by dsimp only; omega), hk]
  refine Eq.trans ?_ (cols68 V i d)
  exact congrArg (fun n => (SD V (Proc.devRef .tc main_v68) : S1024x256.Idx → EReal) (ix2 i n)) (Fin.ext (by dsimp only; omega))
theorem arg0_at : (SK V (Proc.devRef .tc main_arg0) : S8x8192x1024.Idx → EReal) = V (Proc.devRef .tc main_arg0) := by
  unfold SK
  rw [keepK _ main_arg0 (by decide)]
  unfold SJ
  rw [keepJ _ main_arg0 (by decide)]
  unfold SI
  rw [keepI _ main_arg0 (by decide)]
  unfold SH
  rw [keepH _ main_arg0 (by decide)]
  unfold SG
  rw [keepG _ main_arg0 (by decide)]
  unfold SF
  rw [keepF _ main_arg0 (by decide)]
  unfold SE
  rw [keepE _ main_arg0 (by decide)]
  unfold SD
  rw [keepD _ main_arg0 (by decide)]
  unfold SC
  rw [keepC _ main_arg0 (by decide)]
  unfold SB
  rw [keepB _ main_arg0 (by decide)]
  unfold SP
  rw [keepP _ main_arg0 (by decide)]
  unfold SA
  rw [keepA _ main_arg0 (by decide)]
theorem arg1_at : (SK V (Proc.devRef .tc main_arg1) : S8x1x1024.Idx → EReal) = V (Proc.devRef .tc main_arg1) := by
  unfold SK
  rw [keepK _ main_arg1 (by decide)]
  unfold SJ
  rw [keepJ _ main_arg1 (by decide)]
  unfold SI
  rw [keepI _ main_arg1 (by decide)]
  unfold SH
  rw [keepH _ main_arg1 (by decide)]
  unfold SG
  rw [keepG _ main_arg1 (by decide)]
  unfold SF
  rw [keepF _ main_arg1 (by decide)]
  unfold SE
  rw [keepE _ main_arg1 (by decide)]
  unfold SD
  rw [keepD _ main_arg1 (by decide)]
  unfold SC
  rw [keepC _ main_arg1 (by decide)]
  unfold SB
  rw [keepB _ main_arg1 (by decide)]
  unfold SP
  rw [keepP _ main_arg1 (by decide)]
  unfold SA
  rw [keepA _ main_arg1 (by decide)]
theorem arg2_at : (SK V (Proc.devRef .tc main_arg2) : S8x1x1024.Idx → EReal) = V (Proc.devRef .tc main_arg2) := by
  unfold SK
  rw [keepK _ main_arg2 (by decide)]
  unfold SJ
  rw [keepJ _ main_arg2 (by decide)]
  unfold SI
  rw [keepI _ main_arg2 (by decide)]
  unfold SH
  rw [keepH _ main_arg2 (by decide)]
  unfold SG
  rw [keepG _ main_arg2 (by decide)]
  unfold SF
  rw [keepF _ main_arg2 (by decide)]
  unfold SE
  rw [keepE _ main_arg2 (by decide)]
  unfold SD
  rw [keepD _ main_arg2 (by decide)]
  unfold SC
  rw [keepC _ main_arg2 (by decide)]
  unfold SB
  rw [keepB _ main_arg2 (by decide)]
  unfold SP
  rw [keepP _ main_arg2 (by decide)]
  unfold SA
  rw [keepA _ main_arg2 (by decide)]

end Cert.ProjIdeal.Host

end
-- ==== Proof.Proj.Arr.lean ====
module

public import proofs.«01_k».proof.Proof.Proj.Block
public import proofs.«01_k».proof.Proof.Proj.Host
public import proofs.«01_k».proof.Proof.Gen.ProjIdeal.Value
public import Idealize.ShloMosaic.Lib.Claim
public import Idealize.ShloMosaic.Lib.Pipeline.ValueKit

@[expose] public section

set_option maxRecDepth 16384

noncomputable section

/-! The projections' result arrays, as functions of the arguments. -/

namespace Cert.ProjIdeal.Arr

open Cert.ProjIdeal Cert.ProjIdeal.Gen Cert.ProjIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The launch's arrays, as the specification's arguments. -/
def argsOf (c : Dev nD) : Proj.Args where
  x b t j := (m ((c : Thread nD τ).loc main_arg0) : S8x8192x1024.Idx → EReal) (ix3 b t j)
  sc b j := (m ((c : Thread nD τ).loc main_arg1) : S8x1x1024.Idx → EReal) (ix3 b 0 j)
  sh b j := (m ((c : Thread nD τ).loc main_arg2) : S8x1x1024.Idx → EReal) (ix3 b 0 j)
  n1 j := (m ((c : Thread nD τ).loc main_arg3) : S1x1024.Idx → EReal) (ix2 0 j)
  w i n := (m ((c : Thread nD τ).loc main_arg4) : S1x1024x7696.Idx → EReal) (ix3 0 i n)
  cw k d := (m ((c : Thread nD τ).loc main_arg6) : S1x5x2048.Idx → EReal) (ix3 0 k d)
  cb d := (m ((c : Thread nD τ).loc main_arg7) : S1x2048.Idx → EReal) (ix2 0 d)
  gq e := (m ((c : Thread nD τ).loc main_arg8) : S1x128.Idx → EReal) (ix2 0 e)
  gk e := (m ((c : Thread nD τ).loc main_arg9) : S1x128.Idx → EReal) (ix2 0 e)

/-- What the host prepares, array by array. -/
theorem host_eq (c : Dev nD) (X : Ref sig .tc) : V m c X = Host.SK (fun b => m (c, b)) (Proc.devRef .tc X) := congrFun (Host.after_host _) _

/-- A grid point's batch and row block. -/
abbrev tb (t : Fin cfg0.N) : Fin 8 := grid0.coords t 0
abbrev tq (t : Fin cfg0.N) : Fin 32 := grid0.coords t 1

/-! Where each window's block lies at a grid point. -/

theorem i0 : ∀ t : Fin cfg0.N, win0_0.index t = ![(grid0.coords t 0).val, (grid0.coords t 1).val * 32 - 1, 0] :=
  (by decide +kernel : ∀ t : Fin grid0.N, win0_0.index t = ![(grid0.coords t 0).val, (grid0.coords t 1).val * 32 - 1, 0])
theorem i1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem i2 : ∀ t : Fin cfg0.N, win0_2.index t = ![(grid0.coords t 0).val, min (((grid0.coords t 1).val + 1) * 32) 1023, 0] :=
  (by decide +kernel : ∀ t : Fin grid0.N, win0_2.index t = ![(grid0.coords t 0).val, min (((grid0.coords t 1).val + 1) * 32) 1023, 0])
theorem i3 : ∀ t : Fin cfg0.N, win0_3.index t = ![(grid0.coords t 0).val, 0, 0] :=
  (by decide +kernel : ∀ t : Fin grid0.N, win0_3.index t = ![(grid0.coords t 0).val, 0, 0])
theorem i4 : ∀ t : Fin cfg0.N, win0_4.index t = ![(grid0.coords t 0).val, 0, 0] :=
  (by decide +kernel : ∀ t : Fin grid0.N, win0_4.index t = ![(grid0.coords t 0).val, 0, 0])
theorem i5 : ∀ t : Fin cfg0.N, win0_5.index t = ![0, 0] :=
  (by decide +kernel : ∀ t : Fin grid0.N, win0_5.index t = ![0, 0])
theorem i6 : ∀ t : Fin cfg0.N, win0_6.index t = ![(grid0.coords t 1).val, 0] :=
  (by decide +kernel : ∀ t : Fin grid0.N, win0_6.index t = ![(grid0.coords t 1).val, 0])
theorem i7 : ∀ t : Fin cfg0.N, win0_7.index t = ![(grid0.coords t 1).val, 0] :=
  (by decide +kernel : ∀ t : Fin grid0.N, win0_7.index t = ![(grid0.coords t 1).val, 0])
theorem i8 : ∀ t : Fin cfg0.N, win0_8.index t = ![0, 0] :=
  (by decide +kernel : ∀ t : Fin grid0.N, win0_8.index t = ![0, 0])
theorem i9 : ∀ t : Fin cfg0.N, win0_9.index t = ![0, 0] :=
  (by decide +kernel : ∀ t : Fin grid0.N, win0_9.index t = ![0, 0])
theorem i11 : ∀ t : Fin cfg0.N, win0_11.index t = ![0, 0] :=
  (by decide +kernel : ∀ t : Fin grid0.N, win0_11.index t = ![0, 0])
theorem i12 : ∀ t : Fin cfg0.N, win0_12.index t = ![0, 0] :=
  (by decide +kernel : ∀ t : Fin grid0.N, win0_12.index t = ![0, 0])
theorem i13 : ∀ t : Fin cfg0.N, win0_13.index t = ![0, 0] :=
  (by decide +kernel : ∀ t : Fin grid0.N, win0_13.index t = ![0, 0])
theorem i15 : ∀ t : Fin cfg0.N, win0_15.index t = ![0, 0] :=
  (by decide +kernel : ∀ t : Fin grid0.N, win0_15.index t = ![0, 0])
theorem i16 : ∀ t : Fin cfg0.N, win0_16.index t = ![(grid0.coords t 0).val, (grid0.coords t 1).val, 0] :=
  (by decide +kernel : ∀ t : Fin grid0.N, win0_16.index t = ![(grid0.coords t 0).val, (grid0.coords t 1).val, 0])
theorem i17 : ∀ t : Fin cfg0.N, win0_17.index t = ![(grid0.coords t 0).val, (grid0.coords t 1).val, 0, 0] :=
  (by decide +kernel : ∀ t : Fin grid0.N, win0_17.index t = ![(grid0.coords t 0).val, (grid0.coords t 1).val, 0, 0])
theorem i18 : ∀ t : Fin cfg0.N, win0_18.index t = ![(grid0.coords t 0).val, (grid0.coords t 1).val, 0] :=
  (by decide +kernel : ∀ t : Fin grid0.N, win0_18.index t = ![(grid0.coords t 0).val, (grid0.coords t 1).val, 0])
theorem i19 : ∀ t : Fin cfg0.N, win0_19.index t = ![(grid0.coords t 0).val, (grid0.coords t 1).val, 0] :=
  (by decide +kernel : ∀ t : Fin grid0.N, win0_19.index t = ![(grid0.coords t 0).val, (grid0.coords t 1).val, 0])
theorem i21 : ∀ t : Fin cfg0.N, win0_21.index t = ![(grid0.coords t 0).val, (grid0.coords t 1).val, 0] :=
  (by decide +kernel : ∀ t : Fin grid0.N, win0_21.index t = ![(grid0.coords t 0).val, (grid0.coords t 1).val, 0])
theorem i22 : ∀ t : Fin cfg0.N, win0_22.index t = ![(grid0.coords t 0).val, (grid0.coords t 1).val, 0] :=
  (by decide +kernel : ∀ t : Fin grid0.N, win0_22.index t = ![(grid0.coords t 0).val, (grid0.coords t 1).val, 0])
theorem i23 : ∀ t : Fin cfg0.N, win0_23.index t = ![(grid0.coords t 0).val, (grid0.coords t 1).val, 0, 0] :=
  (by decide +kernel : ∀ t : Fin grid0.N, win0_23.index t = ![(grid0.coords t 0).val, (grid0.coords t 1).val, 0, 0])
theorem i24 : ∀ t : Fin cfg0.N, win0_24.index t = ![(grid0.coords t 0).val, (grid0.coords t 1).val, 0] :=
  (by decide +kernel : ∀ t : Fin grid0.N, win0_24.index t = ![(grid0.coords t 0).val, (grid0.coords t 1).val, 0])

/-! Each window's block at an index. -/

theorem blk0 (c : Dev nD) (t : Fin cfg0.N) (r : Fin 8) (x : Fin 1024) (h : 8 ≤ (tq t).val * 256 + r.val ∧ (tq t).val * 256 + r.val - 8 < 8192) :
    (iblk m c 0 t : S1x8x1024.Idx → EReal) (ix3 0 r x) = (V m c main_arg0 : S8x8192x1024.Idx → EReal) (ix3 (tb t) ⟨(tq t).val * 256 + r.val - 8, h.2⟩ x) := by
  blk_simp [iblk]
  congr 1
  blk_ext [i0]
  · exact Nat.add_zero _
  · have hh := h.1
    have hr := r.isLt
    have e : (grid0.coords t 1).val = (tq t).val := rfl
    omega
theorem blk1 (c : Dev nD) (t : Fin cfg0.N) (r : Fin 256) (x : Fin 1024) :
    (iblk m c 1 t : S1x256x1024.Idx → EReal) (ix3 0 r x) = (V m c main_arg0 : S8x8192x1024.Idx → EReal) (ix3 (tb t) (rowOf (grid0.coords t) r) x) := by
  blk_simp [iblk]
  congr 1
  blk_ext [i1]
  exact Nat.add_zero _
theorem blk2 (c : Dev nD) (t : Fin cfg0.N) (r : Fin 8) (x : Fin 1024) (h : (tq t).val * 256 + 256 + r.val < 8192) :
    (iblk m c 2 t : S1x8x1024.Idx → EReal) (ix3 0 r x) = (V m c main_arg0 : S8x8192x1024.Idx → EReal) (ix3 (tb t) ⟨(tq t).val * 256 + 256 + r.val, h⟩ x) := by
  blk_simp [iblk]
  congr 1
  blk_ext [i2]
  · exact Nat.add_zero _
  · have hh := h
    have hr := r.isLt
    have e : (grid0.coords t 1).val = (tq t).val := rfl
    omega
theorem blk3 (c : Dev nD) (t : Fin cfg0.N) (x : Fin 1024) :
    (iblk m c 3 t : S1x1x1024.Idx → EReal) (ix3 0 0 x) = (V m c main_arg1 : S8x1x1024.Idx → EReal) (ix3 (tb t) 0 x) := by
  blk_simp [iblk]
  congr 1
  blk_ext [i3]
  exact Nat.add_zero _
theorem blk4 (c : Dev nD) (t : Fin cfg0.N) (x : Fin 1024) :
    (iblk m c 4 t : S1x1x1024.Idx → EReal) (ix3 0 0 x) = (V m c main_arg2 : S8x1x1024.Idx → EReal) (ix3 (tb t) 0 x) := by
  blk_simp [iblk]
  congr 1
  blk_ext [i4]
  exact Nat.add_zero _
theorem blk6 (c : Dev nD) (t : Fin cfg0.N) (r : Fin 256) (e : Fin 128) :
    (iblk m c 6 t : S256x128.Idx → EReal) (ix2 r e) = (V m c main_v124 : S8192x128.Idx → EReal) (ix2 (rowOf (grid0.coords t) r) e) := by
  blk_simp [iblk]
  congr 1
  blk_ext [i6]
theorem blk7 (c : Dev nD) (t : Fin cfg0.N) (r : Fin 256) (e : Fin 128) :
    (iblk m c 7 t : S256x128.Idx → EReal) (ix2 r e) = (V m c main_v126 : S8192x128.Idx → EReal) (ix2 (rowOf (grid0.coords t) r) e) := by
  blk_simp [iblk]
  congr 1
  blk_ext [i7]
theorem blk5 (c : Dev nD) (t : Fin cfg0.N) (r : Fin 1) (e : Fin 1024) :
    (iblk m c 5 t : S1x1024.Idx → EReal) (ix2 r e) = (V m c main_v128 : S1x1024.Idx → EReal) (ix2 r e) := by
  blk_simp [iblk]
  congr 1
  blk_ext [i5]
theorem blk8 (c : Dev nD) (t : Fin cfg0.N) (r : Fin 1) (e : Fin 128) :
    (iblk m c 8 t : S1x128.Idx → EReal) (ix2 r e) = (V m c main_v78 : S1x128.Idx → EReal) (ix2 r e) := by
  blk_simp [iblk]
  congr 1
  blk_ext [i8]
theorem blk9 (c : Dev nD) (t : Fin cfg0.N) (r : Fin 1) (e : Fin 128) :
    (iblk m c 9 t : S1x128.Idx → EReal) (ix2 r e) = (V m c main_v87 : S1x128.Idx → EReal) (ix2 r e) := by
  blk_simp [iblk]
  congr 1
  blk_ext [i9]
theorem blk11 (c : Dev nD) (t : Fin cfg0.N) (r : Fin 5) (e : Fin 2048) :
    (iblk m c 11 t : S5x2048.Idx → EReal) (ix2 r e) = (V m c main_v129 : S5x2048.Idx → EReal) (ix2 r e) := by
  blk_simp [iblk]
  congr 1
  blk_ext [i11]
theorem blk12 (c : Dev nD) (t : Fin cfg0.N) (r : Fin 1) (e : Fin 2048) :
    (iblk m c 12 t : S1x2048.Idx → EReal) (ix2 r e) = (V m c main_v133 : S1x2048.Idx → EReal) (ix2 r e) := by
  blk_simp [iblk]
  congr 1
  blk_ext [i12]
theorem blk13 (c : Dev nD) (t : Fin cfg0.N) (r : Fin 1024) (e : Fin 2048) :
    (iblk m c 13 t : S1024x2048.Idx → EReal) (ix2 r e) = (V m c main_v62 : S1024x2048.Idx → EReal) (ix2 r e) := by
  blk_simp [iblk]
  congr 1
  blk_ext [i13]
theorem blk15 (c : Dev nD) (t : Fin cfg0.N) (r : Fin 1024) (e : Fin 5632) :
    (iblk m c 15 t : S1024x5632.Idx → EReal) (ix2 r e) = (V m c main_v132 : S1024x5632.Idx → EReal) (ix2 r e) := by
  blk_simp [iblk]
  congr 1
  blk_ext [i15]
theorem cosV (c : Dev nD) (t : Fin 8192) (k : Fin 128) : (V m c main_v124 : S8192x128.Idx → EReal) (ix2 t k) = Ideal.cos (Proj.angle t ⟨k.val % 64, by omega⟩) :=
  (congrFun (host_eq m c main_v124) (ix2 t k)).trans (Host.cos_at (fun b => m (c, b)) t k)
theorem sinV (c : Dev nD) (t : Fin 8192) (k : Fin 128) : (V m c main_v126 : S8192x128.Idx → EReal) (ix2 t k) = if h : k.val < 64 then -(Ideal.sin (Proj.angle t ⟨k.val, h⟩)) else Ideal.sin (Proj.angle t ⟨k.val - 64, by omega⟩) :=
  (congrFun (host_eq m c main_v126) (ix2 t k)).trans (Host.sin_at (fun b => m (c, b)) t k)
theorem gqV (c : Dev nD) (e : Fin 128) : (V m c main_v78 : S1x128.Idx → EReal) (ix2 0 e) = (argsOf m c).gq (Proj.pair e) :=
  (congrFun (host_eq m c main_v78) (ix2 0 e)).trans (Host.gq_end (fun b => m (c, b)) e)
theorem gkV (c : Dev nD) (e : Fin 128) : (V m c main_v87 : S1x128.Idx → EReal) (ix2 0 e) = (argsOf m c).gk (Proj.pair e) :=
  (congrFun (host_eq m c main_v87) (ix2 0 e)).trans (Host.gk_end (fun b => m (c, b)) e)
theorem gainV (c : Dev nD) (j : Fin 1024) : (V m c main_v128 : S1x1024.Idx → EReal) (ix2 0 j) = (argsOf m c).n1 j :=
  (congrFun (host_eq m c main_v128) (ix2 0 j)).trans (Host.gain_at (fun b => m (c, b)) j)
theorem tapV (c : Dev nD) (k : Fin 5) (d : Fin 2048) : (V m c main_v129 : S5x2048.Idx → EReal) (ix2 k d) = (argsOf m c).cw k d :=
  (congrFun (host_eq m c main_v129) (ix2 k d)).trans (Host.tap_at (fun b => m (c, b)) k d)
theorem biasV (c : Dev nD) (d : Fin 2048) : (V m c main_v133 : S1x2048.Idx → EReal) (ix2 0 d) = (argsOf m c).cb d :=
  (congrFun (host_eq m c main_v133) (ix2 0 d)).trans (Host.bias_at (fun b => m (c, b)) d)
theorem mixerV (c : Dev nD) (y : Fin 1024) (d : Fin 2048) : (V m c main_v62 : S1024x2048.Idx → EReal) (ix2 y d) = (argsOf m c).w y ⟨d.val, by omega⟩ :=
  (congrFun (host_eq m c main_v62) (ix2 y d)).trans (Host.qk_at (fun b => m (c, b)) y d)
theorem valuesV (c : Dev nD) (y : Fin 1024) (d : Fin 1024) : (V m c main_v132 : S1024x5632.Idx → EReal) (ix2 y ⟨1280 + d.val, by omega⟩) = (argsOf m c).w y ⟨2048 + d.val, by omega⟩ :=
  (congrFun (host_eq m c main_v132) (ix2 y ⟨1280 + d.val, by omega⟩)).trans (Host.wide_v (fun b => m (c, b)) y d)
theorem gatesV (c : Dev nD) (y : Fin 1024) (d : Fin 1024) : (V m c main_v132 : S1024x5632.Idx → EReal) (ix2 y ⟨2304 + d.val, by omega⟩) = (argsOf m c).w y ⟨3072 + d.val, by omega⟩ :=
  (congrFun (host_eq m c main_v132) (ix2 y ⟨2304 + d.val, by omega⟩)).trans (Host.wide_og (fun b => m (c, b)) y d)
theorem mergesV (c : Dev nD) (y : Fin 1024) (d : Fin 2048) : (V m c main_v132 : S1024x5632.Idx → EReal) (ix2 y ⟨3328 + d.val, by omega⟩) = (argsOf m c).w y ⟨5648 + d.val, by omega⟩ :=
  (congrFun (host_eq m c main_v132) (ix2 y ⟨3328 + d.val, by omega⟩)).trans (Host.wide_mg (fun b => m (c, b)) y d)
theorem attnValuesV (c : Dev nD) (y : Fin 1024) (d : Fin 256) : (V m c main_v132 : S1024x5632.Idx → EReal) (ix2 y ⟨5376 + d.val, by omega⟩) = (argsOf m c).w y ⟨5392 + d.val, by omega⟩ :=
  (congrFun (host_eq m c main_v132) (ix2 y ⟨5376 + d.val, by omega⟩)).trans (Host.wide_av (fun b => m (c, b)) y d)
theorem queriesV (c : Dev nD) (y : Fin 1024) (h : Fin 8) (e : Fin 128) : (V m c main_v132 : S1024x5632.Idx → EReal) (ix2 y ⟨(h.val * 128 + e.val), by omega⟩) = (argsOf m c).w y ⟨4112 + (h.val * 128 + (Proj.pair e).val), by omega⟩ := by
  have e1 : (h.val * 128 + e.val) / 128 = h.val := by omega
  have e2 : (⟨(h.val * 128 + e.val) % 128, by omega⟩ : Fin 128) = e := Fin.ext (by dsimp only; omega)
  have e3 : Host.src (h.val * 128 + e.val) = h.val * 128 + (Proj.pair e).val := by
    unfold Host.src
    simp only [e1, e2]
  refine (congrFun (host_eq m c main_v132) (ix2 y ⟨(h.val * 128 + e.val), by omega⟩)).trans ((Host.wide_q (fun b => m (c, b)) y ⟨h.val * 128 + e.val, by omega⟩).trans ?_)
  exact congrArg (fun n => (argsOf m c).w y n) (Fin.ext (congrArg (4112 + ·) e3))
theorem keysV (c : Dev nD) (y : Fin 1024) (h : Fin 2) (e : Fin 128) : (V m c main_v132 : S1024x5632.Idx → EReal) (ix2 y ⟨1024 + (h.val * 128 + e.val), by omega⟩) = (argsOf m c).w y ⟨5136 + (h.val * 128 + (Proj.pair e).val), by omega⟩ := by
  have e1 : (h.val * 128 + e.val) / 128 = h.val := by omega
  have e2 : (⟨(h.val * 128 + e.val) % 128, by omega⟩ : Fin 128) = e := Fin.ext (by dsimp only; omega)
  have e3 : Host.src (h.val * 128 + e.val) = h.val * 128 + (Proj.pair e).val := by
    unfold Host.src
    simp only [e1, e2]
  refine (congrFun (host_eq m c main_v132) (ix2 y ⟨1024 + (h.val * 128 + e.val), by omega⟩)).trans ((Host.wide_k (fun b => m (c, b)) y ⟨h.val * 128 + e.val, by omega⟩).trans ?_)
  exact congrArg (fun n => (argsOf m c).w y n) (Fin.ext (congrArg (5136 + ·) e3))

/-- At each grid point the blocks hold the arguments' parts. -/
theorem reads (c : Dev nD) (t : Fin cfg0.N) : Reads (argsOf m c) (tb t) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  prev := fun r x h => (blk0 m c t r x h).trans (congrFun (V_main_arg0 m c) _)
  rows := fun r x => (blk1 m c t r x).trans (congrFun (V_main_arg0 m c) _)
  next := fun r x h => (blk2 m c t r x h).trans (congrFun (V_main_arg0 m c) _)
  scale := fun x => (blk3 m c t x).trans (congrFun (V_main_arg1 m c) _)
  shift := fun x => (blk4 m c t x).trans (congrFun (V_main_arg2 m c) _)
  gain := fun x => (blk5 m c t 0 x).trans (gainV m c x)
  cos := fun r e => (blk6 m c t r e).trans (cosV m c _ e)
  sin := fun r e => (blk7 m c t r e).trans (sinV m c _ e)
  queryGain := fun e => (blk8 m c t 0 e).trans (gqV m c e)
  keyGain := fun e => (blk9 m c t 0 e).trans (gkV m c e)
  tap := fun k d => (blk11 m c t k d).trans (tapV m c k d)
  bias := fun d => (blk12 m c t 0 d).trans (biasV m c d)
  mixer := fun y d => (blk13 m c t y d).trans (mixerV m c y d)
  queries := fun y h e => (blk15 m c t y _).trans (queriesV m c y h e)
  keys := fun y h e => (blk15 m c t y _).trans (keysV m c y h e)
  values := fun y d => (blk15 m c t y _).trans (valuesV m c y d)
  gates := fun y d => (blk15 m c t y _).trans (gatesV m c y d)
  merges := fun y d => (blk15 m c t y _).trans (mergesV m c y d)
  attnValues := fun y d => (blk15 m c t y _).trans (attnValuesV m c y d)

/-! The result arrays after the run. -/

def G16 (c : Dev nD) (y : S8x8192x1024.Idx) : EReal := (argsOf m c).query (y 0) (y 1) (y 2)
theorem emb16 (t : Fin cfg0.N) (r : Fin 256) (d : Fin 1024) : (win0_16.blk t).view.emb (ix3 0 r d) = ix3 (tb t) (rowOf (grid0.coords t) r) d := by
  blk_ext [i16]
  all_goals exact Nat.add_zero _
theorem final16 (c : Dev nD) : (dats m 0 c).arrAt 16 cfg0.N = G16 m c := by
  refine (dats m 0 c).arrAt_eq_of_covers 16 (G16 m c) (by decide +kernel) fun t hf y => ?_
  blk_simp
  rw [after0_16]
  obtain ⟨z, r, d, rfl⟩ : ∃ (z : Fin 1) (r : Fin 256) (d : Fin 1024), y = ix3 z r d := ⟨y 0, y 1, y 2, eq_ix3 y⟩
  obtain rfl : z = 0 := Subsingleton.elim _ _
  rw [emb16, query_out (reads m c t) r d]
  unfold G16
  rfl

def G17 (c : Dev nD) (y : S8x32x1024x256.Idx) : EReal :=
  (argsOf m c).key (y 0) ⟨(y 1).val * 256 + (y 3).val, by have h1 : (y 1).val < 32 := (y 1).isLt; have h3 : (y 3).val < 256 := (y 3).isLt; omega⟩ (y 2)
theorem emb17 (t : Fin cfg0.N) (d : Fin 1024) (r : Fin 256) : (win0_17.blk t).view.emb (ix4 0 0 d r) = ix4 (tb t) (tq t) d r := by
  blk_ext [i17]
  all_goals exact Nat.add_zero _
theorem final17 (c : Dev nD) : (dats m 0 c).arrAt 17 cfg0.N = G17 m c := by
  refine (dats m 0 c).arrAt_eq_of_covers 17 (G17 m c) (by decide +kernel) fun t hf y => ?_
  blk_simp
  rw [after0_17]
  obtain ⟨z, w, d, r, rfl⟩ : ∃ (z : Fin 1) (w : Fin 1) (d : Fin 1024) (r : Fin 256), y = ix4 z w d r := ⟨y 0, y 1, y 2, y 3, eq_ix4 y⟩
  obtain rfl : z = 0 := Subsingleton.elim _ _
  obtain rfl : w = 0 := Subsingleton.elim _ _
  rw [emb17, key_out (reads m c t) r d]
  unfold G17
  rfl

def G18 (c : Dev nD) (y : S8x8192x1024.Idx) : EReal := (argsOf m c).value (y 0) (y 1) (y 2)
theorem emb18 (t : Fin cfg0.N) (r : Fin 256) (d : Fin 1024) : (win0_18.blk t).view.emb (ix3 0 r d) = ix3 (tb t) (rowOf (grid0.coords t) r) d := by
  blk_ext [i18]
  all_goals exact Nat.add_zero _
theorem final18 (c : Dev nD) : (dats m 0 c).arrAt 18 cfg0.N = G18 m c := by
  refine (dats m 0 c).arrAt_eq_of_covers 18 (G18 m c) (by decide +kernel) fun t hf y => ?_
  blk_simp
  rw [after0_18]
  obtain ⟨z, r, d, rfl⟩ : ∃ (z : Fin 1) (r : Fin 256) (d : Fin 1024), y = ix3 z r d := ⟨y 0, y 1, y 2, eq_ix3 y⟩
  obtain rfl : z = 0 := Subsingleton.elim _ _
  rw [emb18, value_out (reads m c t) r d]
  unfold G18
  rfl

def G19 (c : Dev nD) (y : S8x8192x1024.Idx) : EReal := (argsOf m c).outGate (y 0) (y 1) (y 2)
theorem emb19 (t : Fin cfg0.N) (r : Fin 256) (d : Fin 1024) : (win0_19.blk t).view.emb (ix3 0 r d) = ix3 (tb t) (rowOf (grid0.coords t) r) d := by
  blk_ext [i19]
  all_goals exact Nat.add_zero _
theorem final19 (c : Dev nD) : (dats m 0 c).arrAt 19 cfg0.N = G19 m c := by
  refine (dats m 0 c).arrAt_eq_of_covers 19 (G19 m c) (by decide +kernel) fun t hf y => ?_
  blk_simp
  rw [after0_19]
  obtain ⟨z, r, d, rfl⟩ : ∃ (z : Fin 1) (r : Fin 256) (d : Fin 1024), y = ix3 z r d := ⟨y 0, y 1, y 2, eq_ix3 y⟩
  obtain rfl : z = 0 := Subsingleton.elim _ _
  rw [emb19, outGate_out (reads m c t) r d]
  unfold G19
  rfl

def G21 (c : Dev nD) (y : S8x8192x1024.Idx) : EReal := (argsOf m c).attnQuery (y 0) (y 1) (y 2)
theorem emb21 (t : Fin cfg0.N) (r : Fin 256) (d : Fin 1024) : (win0_21.blk t).view.emb (ix3 0 r d) = ix3 (tb t) (rowOf (grid0.coords t) r) d := by
  blk_ext [i21]
  all_goals exact Nat.add_zero _
theorem final21 (c : Dev nD) : (dats m 0 c).arrAt 21 cfg0.N = G21 m c := by
  refine (dats m 0 c).arrAt_eq_of_covers 21 (G21 m c) (by decide +kernel) fun t hf y => ?_
  blk_simp
  rw [after0_21]
  obtain ⟨z, r, d, rfl⟩ : ∃ (z : Fin 1) (r : Fin 256) (d : Fin 1024), y = ix3 z r d := ⟨y 0, y 1, y 2, eq_ix3 y⟩
  obtain rfl : z = 0 := Subsingleton.elim _ _
  rw [emb21, attnQuery_out (reads m c t) r d]
  unfold G21
  rfl

def G22 (c : Dev nD) (y : S8x8192x256.Idx) : EReal := (argsOf m c).attnKey (y 0) (y 1) (y 2)
theorem emb22 (t : Fin cfg0.N) (r : Fin 256) (d : Fin 256) : (win0_22.blk t).view.emb (ix3 0 r d) = ix3 (tb t) (rowOf (grid0.coords t) r) d := by
  blk_ext [i22]
  all_goals exact Nat.add_zero _
theorem final22 (c : Dev nD) : (dats m 0 c).arrAt 22 cfg0.N = G22 m c := by
  refine (dats m 0 c).arrAt_eq_of_covers 22 (G22 m c) (by decide +kernel) fun t hf y => ?_
  blk_simp
  rw [after0_22]
  obtain ⟨z, r, d, rfl⟩ : ∃ (z : Fin 1) (r : Fin 256) (d : Fin 256), y = ix3 z r d := ⟨y 0, y 1, y 2, eq_ix3 y⟩
  obtain rfl : z = 0 := Subsingleton.elim _ _
  rw [emb22, attnKey_out (reads m c t) r d]
  unfold G22
  rfl

def G23 (c : Dev nD) (y : S8x32x256x256.Idx) : EReal :=
  (argsOf m c).attnValue (y 0) ⟨(y 1).val * 256 + (y 3).val, by have h1 : (y 1).val < 32 := (y 1).isLt; have h3 : (y 3).val < 256 := (y 3).isLt; omega⟩ (y 2)
theorem emb23 (t : Fin cfg0.N) (d : Fin 256) (r : Fin 256) : (win0_23.blk t).view.emb (ix4 0 0 d r) = ix4 (tb t) (tq t) d r := by
  blk_ext [i23]
  all_goals exact Nat.add_zero _
theorem final23 (c : Dev nD) : (dats m 0 c).arrAt 23 cfg0.N = G23 m c := by
  refine (dats m 0 c).arrAt_eq_of_covers 23 (G23 m c) (by decide +kernel) fun t hf y => ?_
  blk_simp
  rw [after0_23]
  obtain ⟨z, w, d, r, rfl⟩ : ∃ (z : Fin 1) (w : Fin 1) (d : Fin 256) (r : Fin 256), y = ix4 z w d r := ⟨y 0, y 1, y 2, y 3, eq_ix4 y⟩
  obtain rfl : z = 0 := Subsingleton.elim _ _
  obtain rfl : w = 0 := Subsingleton.elim _ _
  rw [emb23, attnValue_out (reads m c t) r d]
  unfold G23
  rfl

def G24 (c : Dev nD) (y : S8x8192x2048.Idx) : EReal := (argsOf m c).mergeGate (y 0) (y 1) (y 2)
theorem emb24 (t : Fin cfg0.N) (r : Fin 256) (d : Fin 2048) : (win0_24.blk t).view.emb (ix3 0 r d) = ix3 (tb t) (rowOf (grid0.coords t) r) d := by
  blk_ext [i24]
  all_goals exact Nat.add_zero _
theorem final24 (c : Dev nD) : (dats m 0 c).arrAt 24 cfg0.N = G24 m c := by
  refine (dats m 0 c).arrAt_eq_of_covers 24 (G24 m c) (by decide +kernel) fun t hf y => ?_
  blk_simp
  rw [after0_24]
  obtain ⟨z, r, d, rfl⟩ : ∃ (z : Fin 1) (r : Fin 256) (d : Fin 2048), y = ix3 z r d := ⟨y 0, y 1, y 2, eq_ix3 y⟩
  obtain rfl : z = 0 := Subsingleton.elim _ _
  rw [emb24, mergeGate_out (reads m c t) r d]
  unfold G24
  rfl

/-- The run: the result arrays, and the arguments as launched. -/
theorem run : θ_run defs (onTc (τ := τ) (main (F := Ideal))) ⟨m, fun _ => 0, ρ⟩ fun r => ∀ c : Dev nD,
      r.2.mem ((c : Thread nD τ).loc main_v134_0) = G16 m c
      ∧ r.2.mem ((c : Thread nD τ).loc main_v134_1) = G17 m c
      ∧ r.2.mem ((c : Thread nD τ).loc main_v134_2) = G18 m c
      ∧ r.2.mem ((c : Thread nD τ).loc main_v134_3) = G19 m c
      ∧ r.2.mem ((c : Thread nD τ).loc main_v134_5) = G21 m c
      ∧ r.2.mem ((c : Thread nD τ).loc main_v134_6) = G22 m c
      ∧ r.2.mem ((c : Thread nD τ).loc main_v134_7) = G23 m c
      ∧ r.2.mem ((c : Thread nD τ).loc main_v134_8) = G24 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final16 m c), (h c).2.1.trans (final17 m c), (h c).2.2.1.trans (final18 m c), (h c).2.2.2.1.trans (final19 m c), (h c).2.2.2.2.2.1.trans (final21 m c), (h c).2.2.2.2.2.2.1.trans (final22 m c), (h c).2.2.2.2.2.2.2.1.trans (final23 m c), (h c).2.2.2.2.2.2.2.2.1.trans (final24 m c), (h c).2.2.2.2.2.2.2.2.2⟩) (Value.run_blocks m ρ)

end Cert.ProjIdeal.Arr

end
-- ==== Proof.Proj.Line.lean ====
module

public import proofs.«01_k».proof.Proof.Gen.ProjReferenceIdeal
public import Idealize.ShloMosaic.Lib.StableHlo.Run
public import Idealize.ShloMosaic.Lib.StableHlo.RunRead

@[expose] public section

set_option maxRecDepth 16384

noncomputable section

/-! The projections' reference: its host operations, in ten stretches: the projected rows; their columns by part; the convolved query and key columns; the rotation angles; their cosines and sines; the normed and rotated queries, joined; the same for the keys; the results. -/

namespace Cert.ProjReferenceIdeal.Line

open Cert.ProjReferenceIdeal Cert.ProjReferenceIdeal.Gen Idealize.ShloMosaic Idealize.ShloMosaic.TcCoe Idealize.SL.Sem Idealize.ShloMosaic.StableHlo

variable {F : FTy → Type} [FloatOps F]

abbrev opsA : List (HloOp τ sig (Elt F)) :=
  [ reshape main_arg3 main_v0 (rfl : (.f32 : EltTy) = .f32) shapeCasts_S1x1024_S1024,
    binary main_arg0 main_arg0 main_v1 (mulf : (⟨S8x8192x1024, .f32⟩ : BufTy).Contents (Elt F) → (⟨S8x8192x1024, .f32⟩ : BufTy).Contents (Elt F) → (⟨S8x8192x1024, .f32⟩ : BufTy).Contents (Elt F)),
    nullary main_cst (constant S_ .f32 0x00000000#32),
    binary main_v1 main_cst main_v2 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v2 main_v3 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_0 (constant S_ .f32 0x44800000#32),
    unary main_cst_0 main_v4 (broadcastInDim S8x8192x1 ![] bcast_S_S8x8192x1 : (⟨S_, .f32⟩ : BufTy).Contents (Elt F) → (⟨S8x8192x1, .f32⟩ : BufTy).Contents (Elt F)),
    binary main_v3 main_v4 main_v5 (Host.divf : (⟨S8x8192x1, .f32⟩ : BufTy).Contents (Elt F) → (⟨S8x8192x1, .f32⟩ : BufTy).Contents (Elt F) → (⟨S8x8192x1, .f32⟩ : BufTy).Contents (Elt F)),
    nullary main_cst_1 (constant S_ .f32 0x358637BD#32),
    unary main_cst_1 main_v6 (broadcastInDim S8x8192x1 ![] bcast_S_S8x8192x1 : (⟨S_, .f32⟩ : BufTy).Contents (Elt F) → (⟨S8x8192x1, .f32⟩ : BufTy).Contents (Elt F)),
    binary main_v5 main_v6 main_v7 (addf : (⟨S8x8192x1, .f32⟩ : BufTy).Contents (Elt F) → (⟨S8x8192x1, .f32⟩ : BufTy).Contents (Elt F) → (⟨S8x8192x1, .f32⟩ : BufTy).Contents (Elt F)),
    unary main_v7 main_v8 (Host.rsqrt : (⟨S8x8192x1, .f32⟩ : BufTy).Contents (Elt F) → (⟨S8x8192x1, .f32⟩ : BufTy).Contents (Elt F)),
    unary main_v8 main_v9 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_arg0 main_v9 main_v10 (mulf : (⟨S8x8192x1024, .f32⟩ : BufTy).Contents (Elt F) → (⟨S8x8192x1024, .f32⟩ : BufTy).Contents (Elt F) → (⟨S8x8192x1024, .f32⟩ : BufTy).Contents (Elt F)),
    unary main_v0 main_v11 (broadcastInDim S1x1x1024 ![2] bcast_S1024_S1x1x1024_2 : (⟨S1024, .f32⟩ : BufTy).Contents (Elt F) → (⟨S1x1x1024, .f32⟩ : BufTy).Contents (Elt F)),
    unary main_v11 main_v12 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v10 main_v12 main_v13 (mulf : (⟨S8x8192x1024, .f32⟩ : BufTy).Contents (Elt F) → (⟨S8x8192x1024, .f32⟩ : BufTy).Contents (Elt F) → (⟨S8x8192x1024, .f32⟩ : BufTy).Contents (Elt F)),
    nullary main_cst_2 (constant S_ .f32 0x3F800000#32),
    unary main_cst_2 main_v14 (broadcastInDim S8x1x1024 ![] bcast_S_S8x1x1024 : (⟨S_, .f32⟩ : BufTy).Contents (Elt F) → (⟨S8x1x1024, .f32⟩ : BufTy).Contents (Elt F)),
    binary main_v14 main_arg1 main_v15 (addf : (⟨S8x1x1024, .f32⟩ : BufTy).Contents (Elt F) → (⟨S8x1x1024, .f32⟩ : BufTy).Contents (Elt F) → (⟨S8x1x1024, .f32⟩ : BufTy).Contents (Elt F)),
    unary main_v15 main_v16 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v13 main_v16 main_v17 (mulf : (⟨S8x8192x1024, .f32⟩ : BufTy).Contents (Elt F) → (⟨S8x8192x1024, .f32⟩ : BufTy).Contents (Elt F) → (⟨S8x8192x1024, .f32⟩ : BufTy).Contents (Elt F)),
    unary main_arg2 main_v18 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v17 main_v18 main_v19 (addf : (⟨S8x8192x1024, .f32⟩ : BufTy).Contents (Elt F) → (⟨S8x8192x1024, .f32⟩ : BufTy).Contents (Elt F) → (⟨S8x8192x1024, .f32⟩ : BufTy).Contents (Elt F)),
    reshape main_arg4 main_v20 (rfl : (.f32 : EltTy) = .f32) shapeCasts_S1x1024x7696_S1024x7696,
    binary main_v19 main_v20 main_v21 ((fun l r => Host.dotGeneral dot_S8x8192x1024_S1024x7696_S8x8192x7696_2_0_01_1_n_n none l r) : (⟨S8x8192x1024, .f32⟩ : BufTy).Contents (Elt F) → (⟨S1024x7696, .f32⟩ : BufTy).Contents (Elt F) → (⟨S8x8192x7696, .f32⟩ : BufTy).Contents (Elt F)) ]
abbrev writtenA : List (Ref sig .tc) := [main_v0, main_v1, main_cst, main_v2, main_v3, main_cst_0, main_v4, main_v5, main_cst_1, main_v6, main_v7, main_v8, main_v9, main_v10, main_v11, main_v12, main_v13, main_cst_2, main_v14, main_v15, main_v16, main_v17, main_v18, main_v19, main_v20, main_v21]

abbrev opsB : List (HloOp τ sig (Elt F)) :=
  [ unary main_v21 main_v22 ((extractStridedSlice S8x8192x1024 ![0, 0, 0] · slices_S8x8192x7696_S8x8192x1024_0_0_0) : (⟨S8x8192x7696, .f32⟩ : BufTy).Contents (Elt F) → (⟨S8x8192x1024, .f32⟩ : BufTy).Contents (Elt F)),
    unary main_v21 main_v23 ((extractStridedSlice S8x8192x1024 ![0, 0, 1024] · slices_S8x8192x7696_S8x8192x1024_0_0_1024) : (⟨S8x8192x7696, .f32⟩ : BufTy).Contents (Elt F) → (⟨S8x8192x1024, .f32⟩ : BufTy).Contents (Elt F)),
    unary main_v21 main_v24 ((extractStridedSlice S8x8192x1024 ![0, 0, 2048] · slices_S8x8192x7696_S8x8192x1024_0_0_2048) : (⟨S8x8192x7696, .f32⟩ : BufTy).Contents (Elt F) → (⟨S8x8192x1024, .f32⟩ : BufTy).Contents (Elt F)),
    unary main_v21 main_v25 ((extractStridedSlice S8x8192x1024 ![0, 0, 3072] · slices_S8x8192x7696_S8x8192x1024_0_0_3072) : (⟨S8x8192x7696, .f32⟩ : BufTy).Contents (Elt F) → (⟨S8x8192x1024, .f32⟩ : BufTy).Contents (Elt F)),
    unary main_v21 main_v26 ((extractStridedSlice S8x8192x16 ![0, 0, 4096] · slices_S8x8192x7696_S8x8192x16_0_0_4096) : (⟨S8x8192x7696, .f32⟩ : BufTy).Contents (Elt F) → (⟨S8x8192x16, .f32⟩ : BufTy).Contents (Elt F)),
    unary main_v21 main_v27 ((extractStridedSlice S8x8192x1024 ![0, 0, 4112] · slices_S8x8192x7696_S8x8192x1024_0_0_4112) : (⟨S8x8192x7696, .f32⟩ : BufTy).Contents (Elt F) → (⟨S8x8192x1024, .f32⟩ : BufTy).Contents (Elt F)),
    unary main_v21 main_v28 ((extractStridedSlice S8x8192x256 ![0, 0, 5136] · slices_S8x8192x7696_S8x8192x256_0_0_5136) : (⟨S8x8192x7696, .f32⟩ : BufTy).Contents (Elt F) → (⟨S8x8192x256, .f32⟩ : BufTy).Contents (Elt F)),
    unary main_v21 main_v29 ((extractStridedSlice S8x8192x256 ![0, 0, 5392] · slices_S8x8192x7696_S8x8192x256_0_0_5392) : (⟨S8x8192x7696, .f32⟩ : BufTy).Contents (Elt F) → (⟨S8x8192x256, .f32⟩ : BufTy).Contents (Elt F)),
    unary main_v21 main_v30 ((extractStridedSlice S8x8192x2048 ![0, 0, 5648] · slices_S8x8192x7696_S8x8192x2048_0_0_5648) : (⟨S8x8192x7696, .f32⟩ : BufTy).Contents (Elt F) → (⟨S8x8192x2048, .f32⟩ : BufTy).Contents (Elt F)) ]
abbrev writtenB : List (Ref sig .tc) := [main_v22, main_v23, main_v24, main_v25, main_v26, main_v27, main_v28, main_v29, main_v30]

abbrev opsC : List (HloOp τ sig (Elt F)) :=
  [ binary main_v22 main_v23 main_v31 ((fun a b => concatenate S8x8192x2048 2 [⟨S8x8192x1024, a⟩, ⟨S8x8192x1024, b⟩] concatenates_S8x8192x1024_S8x8192x1024_S8x8192x2048_d2) : (⟨S8x8192x1024, .f32⟩ : BufTy).Contents (Elt F) → (⟨S8x8192x1024, .f32⟩ : BufTy).Contents (Elt F) → (⟨S8x8192x2048, .f32⟩ : BufTy).Contents (Elt F)),
    reshape main_arg6 main_v32 (rfl : (.f32 : EltTy) = .f32) shapeCasts_S1x5x2048_S5x2048,
    reshape main_arg7 main_v33 (rfl : (.f32 : EltTy) = .f32) shapeCasts_S1x2048_S2048,
    nullary main_c (constantI S_ 32 0#32),
    TRef.unary (TRef.of (T := ⟨S_, .i32⟩) main_c) (TRef.of (T := ⟨S_, .f32⟩) main_call0_v0) (sitofp .f32),
    TRef.binary (TRef.of (T := ⟨S8x8192x2048, .f32⟩) main_v31) (TRef.of (T := ⟨S_, .f32⟩) main_call0_v0) (TRef.of (T := ⟨S8x8196x2048, .f32⟩) main_v34) (fun x v => pad S8x8196x2048 ![0, 2, 0] ![0, 2, 0] ![0, 0, 0] x v pads_S8x8192x2048_S8x8196x2048_000_220_000 h_S_),
    unary main_v34 main_v35 ((extractStridedSlice S8x8192x2048 ![0, 0, 0] · slices_S8x8196x2048_S8x8192x2048_0_0_0) : (⟨S8x8196x2048, .f32⟩ : BufTy).Contents (Elt F) → (⟨S8x8192x2048, .f32⟩ : BufTy).Contents (Elt F)),
    unary main_v32 main_v36 ((extractStridedSlice S1x2048 ![0, 0] · slices_S5x2048_S1x2048_0_0) : (⟨S5x2048, .f32⟩ : BufTy).Contents (Elt F) → (⟨S1x2048, .f32⟩ : BufTy).Contents (Elt F)),
    reshape main_v36 main_v37 (rfl : (.f32 : EltTy) = .f32) shapeCasts_S1x2048_S2048,
    unary main_v37 main_v38 (broadcastInDim S1x1x2048 ![2] bcast_S2048_S1x1x2048_2 : (⟨S2048, .f32⟩ : BufTy).Contents (Elt F) → (⟨S1x1x2048, .f32⟩ : BufTy).Contents (Elt F)),
    unary main_v38 main_v39 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v35 main_v39 main_v40 (mulf : (⟨S8x8192x2048, .f32⟩ : BufTy).Contents (Elt F) → (⟨S8x8192x2048, .f32⟩ : BufTy).Contents (Elt F) → (⟨S8x8192x2048, .f32⟩ : BufTy).Contents (Elt F)),
    nullary main_cst_3 (constant S_ .f32 0x00000000#32),
    unary main_cst_3 main_v41 (broadcastInDim S8x8192x2048 ![] bcast_S_S8x8192x2048 : (⟨S_, .f32⟩ : BufTy).Contents (Elt F) → (⟨S8x8192x2048, .f32⟩ : BufTy).Contents (Elt F)),
    binary main_v41 main_v40 main_v42 (addf : (⟨S8x8192x2048, .f32⟩ : BufTy).Contents (Elt F) → (⟨S8x8192x2048, .f32⟩ : BufTy).Contents (Elt F) → (⟨S8x8192x2048, .f32⟩ : BufTy).Contents (Elt F)),
    unary main_v34 main_v43 ((extractStridedSlice S8x8192x2048 ![0, 1, 0] · slices_S8x8196x2048_S8x8192x2048_0_1_0) : (⟨S8x8196x2048, .f32⟩ : BufTy).Contents (Elt F) → (⟨S8x8192x2048, .f32⟩ : BufTy).Contents (Elt F)),
    unary main_v32 main_v44 ((extractStridedSlice S1x2048 ![1, 0] · slices_S5x2048_S1x2048_1_0) : (⟨S5x2048, .f32⟩ : BufTy).Contents (Elt F) → (⟨S1x2048, .f32⟩ : BufTy).Contents (Elt F)),
    reshape main_v44 main_v45 (rfl : (.f32 : EltTy) = .f32) shapeCasts_S1x2048_S2048,
    unary main_v45 main_v46 (broadcastInDim S1x1x2048 ![2] bcast_S2048_S1x1x2048_2 : (⟨S2048, .f32⟩ : BufTy).Contents (Elt F) → (⟨S1x1x2048, .f32⟩ : BufTy).Contents (Elt F)),
    unary main_v46 main_v47 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v43 main_v47 main_v48 (mulf : (⟨S8x8192x2048, .f32⟩ : BufTy).Contents (Elt F) → (⟨S8x8192x2048, .f32⟩ : BufTy).Contents (Elt F) → (⟨S8x8192x2048, .f32⟩ : BufTy).Contents (Elt F)),
    binary main_v42 main_v48 main_v49 (addf : (⟨S8x8192x2048, .f32⟩ : BufTy).Contents (Elt F) → (⟨S8x8192x2048, .f32⟩ : BufTy).Contents (Elt F) → (⟨S8x8192x2048, .f32⟩ : BufTy).Contents (Elt F)),
    unary main_v34 main_v50 ((extractStridedSlice S8x8192x2048 ![0, 2, 0] · slices_S8x8196x2048_S8x8192x2048_0_2_0) : (⟨S8x8196x2048, .f32⟩ : BufTy).Contents (Elt F) → (⟨S8x8192x2048, .f32⟩ : BufTy).Contents (Elt F)),
    unary main_v32 main_v51 ((extractStridedSlice S1x2048 ![2, 0] · slices_S5x2048_S1x2048_2_0) : (⟨S5x2048, .f32⟩ : BufTy).Contents (Elt F) → (⟨S1x2048, .f32⟩ : BufTy).Contents (Elt F)),
    reshape main_v51 main_v52 (rfl : (.f32 : EltTy) = .f32) shapeCasts_S1x2048_S2048,
    unary main_v52 main_v53 (broadcastInDim S1x1x2048 ![2] bcast_S2048_S1x1x2048_2 : (⟨S2048, .f32⟩ : BufTy).Contents (Elt F) → (⟨S1x1x2048, .f32⟩ : BufTy).Contents (Elt F)),
    unary main_v53 main_v54 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v50 main_v54 main_v55 (mulf : (⟨S8x8192x2048, .f32⟩ : BufTy).Contents (Elt F) → (⟨S8x8192x2048, .f32⟩ : BufTy).Contents (Elt F) → (⟨S8x8192x2048, .f32⟩ : BufTy).Contents (Elt F)),
    binary main_v49 main_v55 main_v56 (addf : (⟨S8x8192x2048, .f32⟩ : BufTy).Contents (Elt F) → (⟨S8x8192x2048, .f32⟩ : BufTy).Contents (Elt F) → (⟨S8x8192x2048, .f32⟩ : BufTy).Contents (Elt F)),
    unary main_v34 main_v57 ((extractStridedSlice S8x8192x2048 ![0, 3, 0] · slices_S8x8196x2048_S8x8192x2048_0_3_0) : (⟨S8x8196x2048, .f32⟩ : BufTy).Contents (Elt F) → (⟨S8x8192x2048, .f32⟩ : BufTy).Contents (Elt F)),
    unary main_v32 main_v58 ((extractStridedSlice S1x2048 ![3, 0] · slices_S5x2048_S1x2048_3_0) : (⟨S5x2048, .f32⟩ : BufTy).Contents (Elt F) → (⟨S1x2048, .f32⟩ : BufTy).Contents (Elt F)),
    reshape main_v58 main_v59 (rfl : (.f32 : EltTy) = .f32) shapeCasts_S1x2048_S2048,
    unary main_v59 main_v60 (broadcastInDim S1x1x2048 ![2] bcast_S2048_S1x1x2048_2 : (⟨S2048, .f32⟩ : BufTy).Contents (Elt F) → (⟨S1x1x2048, .f32⟩ : BufTy).Contents (Elt F)),
    unary main_v60 main_v61 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v57 main_v61 main_v62 (mulf : (⟨S8x8192x2048, .f32⟩ : BufTy).Contents (Elt F) → (⟨S8x8192x2048, .f32⟩ : BufTy).Contents (Elt F) → (⟨S8x8192x2048, .f32⟩ : BufTy).Contents (Elt F)),
    binary main_v56 main_v62 main_v63 (addf : (⟨S8x8192x2048, .f32⟩ : BufTy).Contents (Elt F) → (⟨S8x8192x2048, .f32⟩ : BufTy).Contents (Elt F) → (⟨S8x8192x2048, .f32⟩ : BufTy).Contents (Elt F)),
    unary main_v34 main_v64 ((extractStridedSlice S8x8192x2048 ![0, 4, 0] · slices_S8x8196x2048_S8x8192x2048_0_4_0) : (⟨S8x8196x2048, .f32⟩ : BufTy).Contents (Elt F) → (⟨S8x8192x2048, .f32⟩ : BufTy).Contents (Elt F)),
    unary main_v32 main_v65 ((extractStridedSlice S1x2048 ![4, 0] · slices_S5x2048_S1x2048_4_0) : (⟨S5x2048, .f32⟩ : BufTy).Contents (Elt F) → (⟨S1x2048, .f32⟩ : BufTy).Contents (Elt F)),
    reshape main_v65 main_v66 (rfl : (.f32 : EltTy) = .f32) shapeCasts_S1x2048_S2048,
    unary main_v66 main_v67 (broadcastInDim S1x1x2048 ![2] bcast_S2048_S1x1x2048_2 : (⟨S2048, .f32⟩ : BufTy).Contents (Elt F) → (⟨S1x1x2048, .f32⟩ : BufTy).Contents (Elt F)),
    unary main_v67 main_v68 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v64 main_v68 main_v69 (mulf : (⟨S8x8192x2048, .f32⟩ : BufTy).Contents (Elt F) → (⟨S8x8192x2048, .f32⟩ : BufTy).Contents (Elt F) → (⟨S8x8192x2048, .f32⟩ : BufTy).Contents (Elt F)),
    binary main_v63 main_v69 main_v70 (addf : (⟨S8x8192x2048, .f32⟩ : BufTy).Contents (Elt F) → (⟨S8x8192x2048, .f32⟩ : BufTy).Contents (Elt F) → (⟨S8x8192x2048, .f32⟩ : BufTy).Contents (Elt F)),
    unary main_v33 main_v71 (broadcastInDim S1x1x2048 ![2] bcast_S2048_S1x1x2048_2 : (⟨S2048, .f32⟩ : BufTy).Contents (Elt F) → (⟨S1x1x2048, .f32⟩ : BufTy).Contents (Elt F)),
    unary main_v71 main_v72 (broadcastInDim S8x8192x2048 ![0, 1, 2] bcast_S1x1x2048_S8x8192x2048_0_1_2 : (⟨S1x1x2048, .f32⟩ : BufTy).Contents (Elt F) → (⟨S8x8192x2048, .f32⟩ : BufTy).Contents (Elt F)),
    binary main_v70 main_v72 main_v73 (addf : (⟨S8x8192x2048, .f32⟩ : BufTy).Contents (Elt F) → (⟨S8x8192x2048, .f32⟩ : BufTy).Contents (Elt F) → (⟨S8x8192x2048, .f32⟩ : BufTy).Contents (Elt F)),
    TRef.unary (TRef.of (T := ⟨S8x8192x2048, .f32⟩) main_v73) (TRef.of (T := ⟨S8x8192x2048, .f32⟩) main_call1_v0) Host.negf,
    TRef.unary (TRef.of (T := ⟨S8x8192x2048, .f32⟩) main_call1_v0) (TRef.of (T := ⟨S8x8192x2048, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x8192x2048, .f32⟩) main_call1_v2) (broadcastInDim S8x8192x2048 ![] bcast_S_S8x8192x2048),
    TRef.binary (TRef.of (T := ⟨S8x8192x2048, .f32⟩) main_call1_v2) (TRef.of (T := ⟨S8x8192x2048, .f32⟩) main_call1_v1) (TRef.of (T := ⟨S8x8192x2048, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x8192x2048, .f32⟩) main_call1_v4) (broadcastInDim S8x8192x2048 ![] bcast_S_S8x8192x2048),
    TRef.binary (TRef.of (T := ⟨S8x8192x2048, .f32⟩) main_call1_v4) (TRef.of (T := ⟨S8x8192x2048, .f32⟩) main_call1_v3) (TRef.of (T := ⟨S8x8192x2048, .f32⟩) main_call1_v5) Host.divf,
    TRef.binary (TRef.of (T := ⟨S8x8192x2048, .f32⟩) main_v73) (TRef.of (T := ⟨S8x8192x2048, .f32⟩) main_call1_v5) (TRef.of (T := ⟨S8x8192x2048, .f32⟩) main_v74) mulf ]
abbrev writtenC : List (Ref sig .tc) := [main_v31, main_v32, main_v33, main_c, main_call0_v0, main_v34, main_v35, main_v36, main_v37, main_v38, main_v39, main_v40, main_cst_3, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_call1_v0, main_call1_v1, main_call1_cst, main_call1_v2, main_call1_v3, main_call1_cst_0, main_call1_v4, main_call1_v5, main_v74]

abbrev opsD : List (HloOp τ sig (Elt F)) :=
  [ unary main_v74 main_v75 ((extractStridedSlice S8x8192x1024 ![0, 0, 0] · slices_S8x8192x2048_S8x8192x1024_0_0_0) : (⟨S8x8192x2048, .f32⟩ : BufTy).Contents (Elt F) → (⟨S8x8192x1024, .f32⟩ : BufTy).Contents (Elt F)),
    unary main_v74 main_v76 ((extractStridedSlice S8x8192x1024 ![0, 0, 1024] · slices_S8x8192x2048_S8x8192x1024_0_0_1024) : (⟨S8x8192x2048, .f32⟩ : BufTy).Contents (Elt F) → (⟨S8x8192x1024, .f32⟩ : BufTy).Contents (Elt F)),
    nullary main_cst_4 (constant S_ .f32 0x3D800000#32),
    unary main_cst_4 main_v77 (broadcastInDim S8x8192x1024 ![] bcast_S_S8x8192x1024 : (⟨S_, .f32⟩ : BufTy).Contents (Elt F) → (⟨S8x8192x1024, .f32⟩ : BufTy).Contents (Elt F)),
    binary main_v76 main_v77 main_v78 (mulf : (⟨S8x8192x1024, .f32⟩ : BufTy).Contents (Elt F) → (⟨S8x8192x1024, .f32⟩ : BufTy).Contents (Elt F) → (⟨S8x8192x1024, .f32⟩ : BufTy).Contents (Elt F)),
    nullary main_v79 (sitofp .f32 (iotaInDim S128 32 0)),
    unary main_v79 main_v80 (broadcastInDim S128x64 ![0] bcast_S128_S128x64_0 : (⟨S128, .f32⟩ : BufTy).Contents (Elt F) → (⟨S128x64, .f32⟩ : BufTy).Contents (Elt F)),
    reshape main_v80 main_v81 (rfl : (.f32 : EltTy) = .f32) shapeCasts_S128x64_S8192,
    nullary main_v82 (sitofp .f32 (iotaInDim S64 32 0)),
    reshape main_v82 main_v83 (rfl : (.f32 : EltTy) = .f32) shapeCasts_S64_S1x64,
    unary main_v83 main_v84 (broadcastInDim S128x64 ![0, 1] bcast_S1x64_S128x64_0_1 : (⟨S1x64, .f32⟩ : BufTy).Contents (Elt F) → (⟨S128x64, .f32⟩ : BufTy).Contents (Elt F)),
    reshape main_v84 main_v85 (rfl : (.f32 : EltTy) = .f32) shapeCasts_S128x64_S8192,
    nullary main_v86 (sitofp .f32 (iotaInDim S32 32 0)),
    unary main_v86 main_v87 (Host.negf : (⟨S32, .f32⟩ : BufTy).Contents (Elt F) → (⟨S32, .f32⟩ : BufTy).Contents (Elt F)),
    nullary main_cst_5 (constant S_ .f32 0x42000000#32),
    unary main_cst_5 main_v88 (broadcastInDim S32 ![] bcast_S_S32 : (⟨S_, .f32⟩ : BufTy).Contents (Elt F) → (⟨S32, .f32⟩ : BufTy).Contents (Elt F)),
    binary main_v87 main_v88 main_v89 (Host.divf : (⟨S32, .f32⟩ : BufTy).Contents (Elt F) → (⟨S32, .f32⟩ : BufTy).Contents (Elt F) → (⟨S32, .f32⟩ : BufTy).Contents (Elt F)),
    nullary main_cst_6 (constant S_ .f32 0x461C4000#32),
    unary main_cst_6 main_v90 (broadcastInDim S32 ![] bcast_S_S32 : (⟨S_, .f32⟩ : BufTy).Contents (Elt F) → (⟨S32, .f32⟩ : BufTy).Contents (Elt F)),
    binary main_v90 main_v89 main_v91 (Host.powf : (⟨S32, .f32⟩ : BufTy).Contents (Elt F) → (⟨S32, .f32⟩ : BufTy).Contents (Elt F) → (⟨S32, .f32⟩ : BufTy).Contents (Elt F)),
    unary main_v81 main_v92 (broadcastInDim S8192x1 ![0] bcast_S8192_S8192x1_0 : (⟨S8192, .f32⟩ : BufTy).Contents (Elt F) → (⟨S8192x1, .f32⟩ : BufTy).Contents (Elt F)),
    unary main_v91 main_v93 (broadcastInDim S1x32 ![1] bcast_S32_S1x32_1 : (⟨S32, .f32⟩ : BufTy).Contents (Elt F) → (⟨S1x32, .f32⟩ : BufTy).Contents (Elt F)),
    unary main_v92 main_v94 (broadcastInDim S8192x32 ![0, 1] bcast_S8192x1_S8192x32_0_1 : (⟨S8192x1, .f32⟩ : BufTy).Contents (Elt F) → (⟨S8192x32, .f32⟩ : BufTy).Contents (Elt F)),
    unary main_v93 main_v95 (broadcastInDim S8192x32 ![0, 1] bcast_S1x32_S8192x32_0_1 : (⟨S1x32, .f32⟩ : BufTy).Contents (Elt F) → (⟨S8192x32, .f32⟩ : BufTy).Contents (Elt F)),
    binary main_v94 main_v95 main_v96 (mulf : (⟨S8192x32, .f32⟩ : BufTy).Contents (Elt F) → (⟨S8192x32, .f32⟩ : BufTy).Contents (Elt F) → (⟨S8192x32, .f32⟩ : BufTy).Contents (Elt F)),
    unary main_v85 main_v97 (broadcastInDim S8192x1 ![0] bcast_S8192_S8192x1_0 : (⟨S8192, .f32⟩ : BufTy).Contents (Elt F) → (⟨S8192x1, .f32⟩ : BufTy).Contents (Elt F)),
    unary main_v91 main_v98 (broadcastInDim S1x32 ![1] bcast_S32_S1x32_1 : (⟨S32, .f32⟩ : BufTy).Contents (Elt F) → (⟨S1x32, .f32⟩ : BufTy).Contents (Elt F)),
    unary main_v97 main_v99 (broadcastInDim S8192x32 ![0, 1] bcast_S8192x1_S8192x32_0_1 : (⟨S8192x1, .f32⟩ : BufTy).Contents (Elt F) → (⟨S8192x32, .f32⟩ : BufTy).Contents (Elt F)),
    unary main_v98 main_v100 (broadcastInDim S8192x32 ![0, 1] bcast_S1x32_S8192x32_0_1 : (⟨S1x32, .f32⟩ : BufTy).Contents (Elt F) → (⟨S8192x32, .f32⟩ : BufTy).Contents (Elt F)),
    binary main_v99 main_v100 main_v101 (mulf : (⟨S8192x32, .f32⟩ : BufTy).Contents (Elt F) → (⟨S8192x32, .f32⟩ : BufTy).Contents (Elt F) → (⟨S8192x32, .f32⟩ : BufTy).Contents (Elt F)) ]
abbrev writtenD : List (Ref sig .tc) := [main_v75, main_v76, main_cst_4, main_v77, main_v78, main_v79, main_v80, main_v81, main_v82, main_v83, main_v84, main_v85, main_v86, main_v87, main_cst_5, main_v88, main_v89, main_cst_6, main_v90, main_v91, main_v92, main_v93, main_v94, main_v95, main_v96, main_v97, main_v98, main_v99, main_v100, main_v101]

abbrev opsE : List (HloOp τ sig (Elt F)) :=
  [ binary main_v96 main_v101 main_v102 ((fun a b => concatenate S8192x64 1 [⟨S8192x32, a⟩, ⟨S8192x32, b⟩] concatenates_S8192x32_S8192x32_S8192x64_d1) : (⟨S8192x32, .f32⟩ : BufTy).Contents (Elt F) → (⟨S8192x32, .f32⟩ : BufTy).Contents (Elt F) → (⟨S8192x64, .f32⟩ : BufTy).Contents (Elt F)),
    unary main_v102 main_v103 (Host.cos : (⟨S8192x64, .f32⟩ : BufTy).Contents (Elt F) → (⟨S8192x64, .f32⟩ : BufTy).Contents (Elt F)),
    unary main_v103 main_v104 (broadcastInDim S8192x1x64 ![0, 2] bcast_S8192x64_S8192x1x64_0_2 : (⟨S8192x64, .f32⟩ : BufTy).Contents (Elt F) → (⟨S8192x1x64, .f32⟩ : BufTy).Contents (Elt F)),
    unary main_v102 main_v105 (Host.sin : (⟨S8192x64, .f32⟩ : BufTy).Contents (Elt F) → (⟨S8192x64, .f32⟩ : BufTy).Contents (Elt F)),
    unary main_v105 main_v106 (broadcastInDim S8192x1x64 ![0, 2] bcast_S8192x64_S8192x1x64_0_2 : (⟨S8192x64, .f32⟩ : BufTy).Contents (Elt F) → (⟨S8192x1x64, .f32⟩ : BufTy).Contents (Elt F)) ]
abbrev writtenE : List (Ref sig .tc) := [main_v102, main_v103, main_v104, main_v105, main_v106]

abbrev opsF : List (HloOp τ sig (Elt F)) :=
  [ reshape main_v27 main_v107 (rfl : (.f32 : EltTy) = .f32) shapeCasts_S8x8192x1024_S8x8192x8x128,
    reshape main_arg8 main_v108 (rfl : (.f32 : EltTy) = .f32) shapeCasts_S1x128_S128,
    binary main_v107 main_v107 main_v109 (mulf : (⟨S8x8192x8x128, .f32⟩ : BufTy).Contents (Elt F) → (⟨S8x8192x8x128, .f32⟩ : BufTy).Contents (Elt F) → (⟨S8x8192x8x128, .f32⟩ : BufTy).Contents (Elt F)),
    nullary main_cst_7 (constant S_ .f32 0x00000000#32),
    binary main_v109 main_cst_7 main_v110 ((fun x v => Host.reduceAdd x v reducesTo_S8x8192x8x128_S8x8192x8_d3 h_S_) : (⟨S8x8192x8x128, .f32⟩ : BufTy).Contents (Elt F) → (⟨S_, .f32⟩ : BufTy).Contents (Elt F) → (⟨S8x8192x8, .f32⟩ : BufTy).Contents (Elt F)),
    unary main_v110 main_v111 (broadcastInDim S8x8192x8x1 ![0, 1, 2] bcast_S8x8192x8_S8x8192x8x1_0_1_2 : (⟨S8x8192x8, .f32⟩ : BufTy).Contents (Elt F) → (⟨S8x8192x8x1, .f32⟩ : BufTy).Contents (Elt F)),
    nullary main_cst_8 (constant S_ .f32 0x43000000#32),
    unary main_cst_8 main_v112 (broadcastInDim S8x8192x8x1 ![] bcast_S_S8x8192x8x1 : (⟨S_, .f32⟩ : BufTy).Contents (Elt F) → (⟨S8x8192x8x1, .f32⟩ : BufTy).Contents (Elt F)),
    binary main_v111 main_v112 main_v113 (Host.divf : (⟨S8x8192x8x1, .f32⟩ : BufTy).Contents (Elt F) → (⟨S8x8192x8x1, .f32⟩ : BufTy).Contents (Elt F) → (⟨S8x8192x8x1, .f32⟩ : BufTy).Contents (Elt F)),
    nullary main_cst_9 (constant S_ .f32 0x358637BD#32),
    unary main_cst_9 main_v114 (broadcastInDim S8x8192x8x1 ![] bcast_S_S8x8192x8x1 : (⟨S_, .f32⟩ : BufTy).Contents (Elt F) → (⟨S8x8192x8x1, .f32⟩ : BufTy).Contents (Elt F)),
    binary main_v113 main_v114 main_v115 (addf : (⟨S8x8192x8x1, .f32⟩ : BufTy).Contents (Elt F) → (⟨S8x8192x8x1, .f32⟩ : BufTy).Contents (Elt F) → (⟨S8x8192x8x1, .f32⟩ : BufTy).Contents (Elt F)),
    unary main_v115 main_v116 (Host.rsqrt : (⟨S8x8192x8x1, .f32⟩ : BufTy).Contents (Elt F) → (⟨S8x8192x8x1, .f32⟩ : BufTy).Contents (Elt F)),
    unary main_v116 main_v117 (broadcastInDim S8x8192x8x128 ![0, 1, 2, 3] bcast_S8x8192x8x1_S8x8192x8x128_0_1_2_3 : (⟨S8x8192x8x1, .f32⟩ : BufTy).Contents (Elt F) → (⟨S8x8192x8x128, .f32⟩ : BufTy).Contents (Elt F)),
    binary main_v107 main_v117 main_v118 (mulf : (⟨S8x8192x8x128, .f32⟩ : BufTy).Contents (Elt F) → (⟨S8x8192x8x128, .f32⟩ : BufTy).Contents (Elt F) → (⟨S8x8192x8x128, .f32⟩ : BufTy).Contents (Elt F)),
    unary main_v108 main_v119 (broadcastInDim S1x1x1x128 ![3] bcast_S128_S1x1x1x128_3 : (⟨S128, .f32⟩ : BufTy).Contents (Elt F) → (⟨S1x1x1x128, .f32⟩ : BufTy).Contents (Elt F)),
    unary main_v119 main_v120 (broadcastInDim S8x8192x8x128 ![0, 1, 2, 3] bcast_S1x1x1x128_S8x8192x8x128_0_1_2_3 : (⟨S1x1x1x128, .f32⟩ : BufTy).Contents (Elt F) → (⟨S8x8192x8x128, .f32⟩ : BufTy).Contents (Elt F)),
    binary main_v118 main_v120 main_v121 (mulf : (⟨S8x8192x8x128, .f32⟩ : BufTy).Contents (Elt F) → (⟨S8x8192x8x128, .f32⟩ : BufTy).Contents (Elt F) → (⟨S8x8192x8x128, .f32⟩ : BufTy).Contents (Elt F)),
    unary main_v121 main_v122 ((Host.slice S8x8192x8x64 ![0, 0, 0, 0] ![1, 1, 1, 2] · slicesBy_S8x8192x8x128_S8x8192x8x64_0s1_0s1_0s1_0s2) : (⟨S8x8192x8x128, .f32⟩ : BufTy).Contents (Elt F) → (⟨S8x8192x8x64, .f32⟩ : BufTy).Contents (Elt F)),
    unary main_v121 main_v123 ((Host.slice S8x8192x8x64 ![0, 0, 0, 1] ![1, 1, 1, 2] · slicesBy_S8x8192x8x128_S8x8192x8x64_0s1_0s1_0s1_1s2) : (⟨S8x8192x8x128, .f32⟩ : BufTy).Contents (Elt F) → (⟨S8x8192x8x64, .f32⟩ : BufTy).Contents (Elt F)),
    unary main_v104 main_v124 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v124 main_v125 (broadcastInDim S8x8192x8x64 ![0, 1, 2, 3] bcast_S1x8192x1x64_S8x8192x8x64_0_1_2_3 : (⟨S1x8192x1x64, .f32⟩ : BufTy).Contents (Elt F) → (⟨S8x8192x8x64, .f32⟩ : BufTy).Contents (Elt F)),
    binary main_v122 main_v125 main_v126 (mulf : (⟨S8x8192x8x64, .f32⟩ : BufTy).Contents (Elt F) → (⟨S8x8192x8x64, .f32⟩ : BufTy).Contents (Elt F) → (⟨S8x8192x8x64, .f32⟩ : BufTy).Contents (Elt F)),
    unary main_v106 main_v127 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v127 main_v128 (broadcastInDim S8x8192x8x64 ![0, 1, 2, 3] bcast_S1x8192x1x64_S8x8192x8x64_0_1_2_3 : (⟨S1x8192x1x64, .f32⟩ : BufTy).Contents (Elt F) → (⟨S8x8192x8x64, .f32⟩ : BufTy).Contents (Elt F)),
    binary main_v123 main_v128 main_v129 (mulf : (⟨S8x8192x8x64, .f32⟩ : BufTy).Contents (Elt F) → (⟨S8x8192x8x64, .f32⟩ : BufTy).Contents (Elt F) → (⟨S8x8192x8x64, .f32⟩ : BufTy).Contents (Elt F)),
    binary main_v126 main_v129 main_v130 (subf : (⟨S8x8192x8x64, .f32⟩ : BufTy).Contents (Elt F) → (⟨S8x8192x8x64, .f32⟩ : BufTy).Contents (Elt F) → (⟨S8x8192x8x64, .f32⟩ : BufTy).Contents (Elt F)),
    unary main_v106 main_v131 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v131 main_v132 (broadcastInDim S8x8192x8x64 ![0, 1, 2, 3] bcast_S1x8192x1x64_S8x8192x8x64_0_1_2_3 : (⟨S1x8192x1x64, .f32⟩ : BufTy).Contents (Elt F) → (⟨S8x8192x8x64, .f32⟩ : BufTy).Contents (Elt F)),
    binary main_v122 main_v132 main_v133 (mulf : (⟨S8x8192x8x64, .f32⟩ : BufTy).Contents (Elt F) → (⟨S8x8192x8x64, .f32⟩ : BufTy).Contents (Elt F) → (⟨S8x8192x8x64, .f32⟩ : BufTy).Contents (Elt F)),
    unary main_v104 main_v134 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v134 main_v135 (broadcastInDim S8x8192x8x64 ![0, 1, 2, 3] bcast_S1x8192x1x64_S8x8192x8x64_0_1_2_3 : (⟨S1x8192x1x64, .f32⟩ : BufTy).Contents (Elt F) → (⟨S8x8192x8x64, .f32⟩ : BufTy).Contents (Elt F)),
    binary main_v123 main_v135 main_v136 (mulf : (⟨S8x8192x8x64, .f32⟩ : BufTy).Contents (Elt F) → (⟨S8x8192x8x64, .f32⟩ : BufTy).Contents (Elt F) → (⟨S8x8192x8x64, .f32⟩ : BufTy).Contents (Elt F)),
    binary main_v133 main_v136 main_v137 (addf : (⟨S8x8192x8x64, .f32⟩ : BufTy).Contents (Elt F) → (⟨S8x8192x8x64, .f32⟩ : BufTy).Contents (Elt F) → (⟨S8x8192x8x64, .f32⟩ : BufTy).Contents (Elt F)),
    unary main_v130 main_v138 (broadcastInDim S8x8192x8x64x1 ![0, 1, 2, 3] bcast_S8x8192x8x64_S8x8192x8x64x1_0_1_2_3 : (⟨S8x8192x8x64, .f32⟩ : BufTy).Contents (Elt F) → (⟨S8x8192x8x64x1, .f32⟩ : BufTy).Contents (Elt F)),
    unary main_v137 main_v139 (broadcastInDim S8x8192x8x64x1 ![0, 1, 2, 3] bcast_S8x8192x8x64_S8x8192x8x64x1_0_1_2_3 : (⟨S8x8192x8x64, .f32⟩ : BufTy).Contents (Elt F) → (⟨S8x8192x8x64x1, .f32⟩ : BufTy).Contents (Elt F)) ]
abbrev writtenF : List (Ref sig .tc) := [main_v107, main_v108, main_v109, main_cst_7, main_v110, main_v111, main_cst_8, main_v112, main_v113, main_cst_9, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139]

abbrev opsG : List (HloOp τ sig (Elt F)) :=
  [ binary main_v138 main_v139 main_v140 ((fun a b => concatenate S8x8192x8x64x2 4 [⟨S8x8192x8x64x1, a⟩, ⟨S8x8192x8x64x1, b⟩] concatenates_S8x8192x8x64x1_S8x8192x8x64x1_S8x8192x8x64x2_d4) : (⟨S8x8192x8x64x1, .f32⟩ : BufTy).Contents (Elt F) → (⟨S8x8192x8x64x1, .f32⟩ : BufTy).Contents (Elt F) → (⟨S8x8192x8x64x2, .f32⟩ : BufTy).Contents (Elt F)),
    reshape main_v140 main_v141 (rfl : (.f32 : EltTy) = .f32) shapeCasts_S8x8192x8x64x2_S8x8192x8x128,
    reshape main_v141 main_v142 (rfl : (.f32 : EltTy) = .f32) shapeCasts_S8x8192x8x128_S8x8192x8x64x2,
    unary main_v142 main_v143 ((transpose S8x8192x8x2x64 [0, 1, 2, 4, 3] · transposes_S8x8192x8x64x2_S8x8192x8x2x64_0_1_2_4_3) : (⟨S8x8192x8x64x2, .f32⟩ : BufTy).Contents (Elt F) → (⟨S8x8192x8x2x64, .f32⟩ : BufTy).Contents (Elt F)),
    reshape main_v143 main_v144 (rfl : (.f32 : EltTy) = .f32) shapeCasts_S8x8192x8x2x64_S8x8192x1024 ]
abbrev writtenG : List (Ref sig .tc) := [main_v140, main_v141, main_v142, main_v143, main_v144]

abbrev opsH : List (HloOp τ sig (Elt F)) :=
  [ reshape main_v28 main_v145 (rfl : (.f32 : EltTy) = .f32) shapeCasts_S8x8192x256_S8x8192x2x128,
    reshape main_arg9 main_v146 (rfl : (.f32 : EltTy) = .f32) shapeCasts_S1x128_S128,
    binary main_v145 main_v145 main_v147 (mulf : (⟨S8x8192x2x128, .f32⟩ : BufTy).Contents (Elt F) → (⟨S8x8192x2x128, .f32⟩ : BufTy).Contents (Elt F) → (⟨S8x8192x2x128, .f32⟩ : BufTy).Contents (Elt F)),
    nullary main_cst_10 (constant S_ .f32 0x00000000#32),
    binary main_v147 main_cst_10 main_v148 ((fun x v => Host.reduceAdd x v reducesTo_S8x8192x2x128_S8x8192x2_d3 h_S_) : (⟨S8x8192x2x128, .f32⟩ : BufTy).Contents (Elt F) → (⟨S_, .f32⟩ : BufTy).Contents (Elt F) → (⟨S8x8192x2, .f32⟩ : BufTy).Contents (Elt F)),
    unary main_v148 main_v149 (broadcastInDim S8x8192x2x1 ![0, 1, 2] bcast_S8x8192x2_S8x8192x2x1_0_1_2 : (⟨S8x8192x2, .f32⟩ : BufTy).Contents (Elt F) → (⟨S8x8192x2x1, .f32⟩ : BufTy).Contents (Elt F)),
    nullary main_cst_11 (constant S_ .f32 0x43000000#32),
    unary main_cst_11 main_v150 (broadcastInDim S8x8192x2x1 ![] bcast_S_S8x8192x2x1 : (⟨S_, .f32⟩ : BufTy).Contents (Elt F) → (⟨S8x8192x2x1, .f32⟩ : BufTy).Contents (Elt F)),
    binary main_v149 main_v150 main_v151 (Host.divf : (⟨S8x8192x2x1, .f32⟩ : BufTy).Contents (Elt F) → (⟨S8x8192x2x1, .f32⟩ : BufTy).Contents (Elt F) → (⟨S8x8192x2x1, .f32⟩ : BufTy).Contents (Elt F)),
    nullary main_cst_12 (constant S_ .f32 0x358637BD#32),
    unary main_cst_12 main_v152 (broadcastInDim S8x8192x2x1 ![] bcast_S_S8x8192x2x1 : (⟨S_, .f32⟩ : BufTy).Contents (Elt F) → (⟨S8x8192x2x1, .f32⟩ : BufTy).Contents (Elt F)),
    binary main_v151 main_v152 main_v153 (addf : (⟨S8x8192x2x1, .f32⟩ : BufTy).Contents (Elt F) → (⟨S8x8192x2x1, .f32⟩ : BufTy).Contents (Elt F) → (⟨S8x8192x2x1, .f32⟩ : BufTy).Contents (Elt F)),
    unary main_v153 main_v154 (Host.rsqrt : (⟨S8x8192x2x1, .f32⟩ : BufTy).Contents (Elt F) → (⟨S8x8192x2x1, .f32⟩ : BufTy).Contents (Elt F)),
    unary main_v154 main_v155 (broadcastInDim S8x8192x2x128 ![0, 1, 2, 3] bcast_S8x8192x2x1_S8x8192x2x128_0_1_2_3 : (⟨S8x8192x2x1, .f32⟩ : BufTy).Contents (Elt F) → (⟨S8x8192x2x128, .f32⟩ : BufTy).Contents (Elt F)),
    binary main_v145 main_v155 main_v156 (mulf : (⟨S8x8192x2x128, .f32⟩ : BufTy).Contents (Elt F) → (⟨S8x8192x2x128, .f32⟩ : BufTy).Contents (Elt F) → (⟨S8x8192x2x128, .f32⟩ : BufTy).Contents (Elt F)),
    unary main_v146 main_v157 (broadcastInDim S1x1x1x128 ![3] bcast_S128_S1x1x1x128_3 : (⟨S128, .f32⟩ : BufTy).Contents (Elt F) → (⟨S1x1x1x128, .f32⟩ : BufTy).Contents (Elt F)),
    unary main_v157 main_v158 (broadcastInDim S8x8192x2x128 ![0, 1, 2, 3] bcast_S1x1x1x128_S8x8192x2x128_0_1_2_3 : (⟨S1x1x1x128, .f32⟩ : BufTy).Contents (Elt F) → (⟨S8x8192x2x128, .f32⟩ : BufTy).Contents (Elt F)),
    binary main_v156 main_v158 main_v159 (mulf : (⟨S8x8192x2x128, .f32⟩ : BufTy).Contents (Elt F) → (⟨S8x8192x2x128, .f32⟩ : BufTy).Contents (Elt F) → (⟨S8x8192x2x128, .f32⟩ : BufTy).Contents (Elt F)),
    unary main_v159 main_v160 ((Host.slice S8x8192x2x64 ![0, 0, 0, 0] ![1, 1, 1, 2] · slicesBy_S8x8192x2x128_S8x8192x2x64_0s1_0s1_0s1_0s2) : (⟨S8x8192x2x128, .f32⟩ : BufTy).Contents (Elt F) → (⟨S8x8192x2x64, .f32⟩ : BufTy).Contents (Elt F)),
    unary main_v159 main_v161 ((Host.slice S8x8192x2x64 ![0, 0, 0, 1] ![1, 1, 1, 2] · slicesBy_S8x8192x2x128_S8x8192x2x64_0s1_0s1_0s1_1s2) : (⟨S8x8192x2x128, .f32⟩ : BufTy).Contents (Elt F) → (⟨S8x8192x2x64, .f32⟩ : BufTy).Contents (Elt F)),
    unary main_v104 main_v162 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v162 main_v163 (broadcastInDim S8x8192x2x64 ![0, 1, 2, 3] bcast_S1x8192x1x64_S8x8192x2x64_0_1_2_3 : (⟨S1x8192x1x64, .f32⟩ : BufTy).Contents (Elt F) → (⟨S8x8192x2x64, .f32⟩ : BufTy).Contents (Elt F)),
    binary main_v160 main_v163 main_v164 (mulf : (⟨S8x8192x2x64, .f32⟩ : BufTy).Contents (Elt F) → (⟨S8x8192x2x64, .f32⟩ : BufTy).Contents (Elt F) → (⟨S8x8192x2x64, .f32⟩ : BufTy).Contents (Elt F)),
    unary main_v106 main_v165 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v165 main_v166 (broadcastInDim S8x8192x2x64 ![0, 1, 2, 3] bcast_S1x8192x1x64_S8x8192x2x64_0_1_2_3 : (⟨S1x8192x1x64, .f32⟩ : BufTy).Contents (Elt F) → (⟨S8x8192x2x64, .f32⟩ : BufTy).Contents (Elt F)),
    binary main_v161 main_v166 main_v167 (mulf : (⟨S8x8192x2x64, .f32⟩ : BufTy).Contents (Elt F) → (⟨S8x8192x2x64, .f32⟩ : BufTy).Contents (Elt F) → (⟨S8x8192x2x64, .f32⟩ : BufTy).Contents (Elt F)),
    binary main_v164 main_v167 main_v168 (subf : (⟨S8x8192x2x64, .f32⟩ : BufTy).Contents (Elt F) → (⟨S8x8192x2x64, .f32⟩ : BufTy).Contents (Elt F) → (⟨S8x8192x2x64, .f32⟩ : BufTy).Contents (Elt F)),
    unary main_v106 main_v169 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v169 main_v170 (broadcastInDim S8x8192x2x64 ![0, 1, 2, 3] bcast_S1x8192x1x64_S8x8192x2x64_0_1_2_3 : (⟨S1x8192x1x64, .f32⟩ : BufTy).Contents (Elt F) → (⟨S8x8192x2x64, .f32⟩ : BufTy).Contents (Elt F)),
    binary main_v160 main_v170 main_v171 (mulf : (⟨S8x8192x2x64, .f32⟩ : BufTy).Contents (Elt F) → (⟨S8x8192x2x64, .f32⟩ : BufTy).Contents (Elt F) → (⟨S8x8192x2x64, .f32⟩ : BufTy).Contents (Elt F)),
    unary main_v104 main_v172 (broadcastInDim S1x8192x1x64 ![1, 2, 3] bcast_S8192x1x64_S1x8192x1x64_1_2_3 : (⟨S8192x1x64, .f32⟩ : BufTy).Contents (Elt F) → (⟨S1x8192x1x64, .f32⟩ : BufTy).Contents (Elt F)),
    unary main_v172 main_v173 (broadcastInDim S8x8192x2x64 ![0, 1, 2, 3] bcast_S1x8192x1x64_S8x8192x2x64_0_1_2_3 : (⟨S1x8192x1x64, .f32⟩ : BufTy).Contents (Elt F) → (⟨S8x8192x2x64, .f32⟩ : BufTy).Contents (Elt F)),
    binary main_v161 main_v173 main_v174 (mulf : (⟨S8x8192x2x64, .f32⟩ : BufTy).Contents (Elt F) → (⟨S8x8192x2x64, .f32⟩ : BufTy).Contents (Elt F) → (⟨S8x8192x2x64, .f32⟩ : BufTy).Contents (Elt F)),
    binary main_v171 main_v174 main_v175 (addf : (⟨S8x8192x2x64, .f32⟩ : BufTy).Contents (Elt F) → (⟨S8x8192x2x64, .f32⟩ : BufTy).Contents (Elt F) → (⟨S8x8192x2x64, .f32⟩ : BufTy).Contents (Elt F)),
    unary main_v168 main_v176 (broadcastInDim S8x8192x2x64x1 ![0, 1, 2, 3] bcast_S8x8192x2x64_S8x8192x2x64x1_0_1_2_3 : (⟨S8x8192x2x64, .f32⟩ : BufTy).Contents (Elt F) → (⟨S8x8192x2x64x1, .f32⟩ : BufTy).Contents (Elt F)),
    unary main_v175 main_v177 (broadcastInDim S8x8192x2x64x1 ![0, 1, 2, 3] bcast_S8x8192x2x64_S8x8192x2x64x1_0_1_2_3 : (⟨S8x8192x2x64, .f32⟩ : BufTy).Contents (Elt F) → (⟨S8x8192x2x64x1, .f32⟩ : BufTy).Contents (Elt F)) ]
abbrev writtenH : List (Ref sig .tc) := [main_v145, main_v146, main_v147, main_cst_10, main_v148, main_v149, main_cst_11, main_v150, main_v151, main_cst_12, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177]

abbrev opsI : List (HloOp τ sig (Elt F)) :=
  [ binary main_v176 main_v177 main_v178 ((fun a b => concatenate S8x8192x2x64x2 4 [⟨S8x8192x2x64x1, a⟩, ⟨S8x8192x2x64x1, b⟩] concatenates_S8x8192x2x64x1_S8x8192x2x64x1_S8x8192x2x64x2_d4) : (⟨S8x8192x2x64x1, .f32⟩ : BufTy).Contents (Elt F) → (⟨S8x8192x2x64x1, .f32⟩ : BufTy).Contents (Elt F) → (⟨S8x8192x2x64x2, .f32⟩ : BufTy).Contents (Elt F)),
    reshape main_v178 main_v179 (rfl : (.f32 : EltTy) = .f32) shapeCasts_S8x8192x2x64x2_S8x8192x2x128,
    reshape main_v179 main_v180 (rfl : (.f32 : EltTy) = .f32) shapeCasts_S8x8192x2x128_S8x8192x2x64x2,
    unary main_v180 main_v181 ((transpose S8x8192x2x2x64 [0, 1, 2, 4, 3] · transposes_S8x8192x2x64x2_S8x8192x2x2x64_0_1_2_4_3) : (⟨S8x8192x2x64x2, .f32⟩ : BufTy).Contents (Elt F) → (⟨S8x8192x2x2x64, .f32⟩ : BufTy).Contents (Elt F)),
    reshape main_v181 main_v182 (rfl : (.f32 : EltTy) = .f32) shapeCasts_S8x8192x2x2x64_S8x8192x256 ]
abbrev writtenI : List (Ref sig .tc) := [main_v178, main_v179, main_v180, main_v181, main_v182]

abbrev opsJ : List (HloOp τ sig (Elt F)) :=
  [ reshape main_v78 main_v183 (rfl : (.f32 : EltTy) = .f32) shapeCasts_S8x8192x1024_S8x32x256x1024,
    unary main_v183 main_v184 ((transpose S8x32x1024x256 [0, 1, 3, 2] · transposes_S8x32x256x1024_S8x32x1024x256_0_1_3_2) : (⟨S8x32x256x1024, .f32⟩ : BufTy).Contents (Elt F) → (⟨S8x32x1024x256, .f32⟩ : BufTy).Contents (Elt F)),
    unary main_v25 main_v185 (Host.negf : (⟨S8x8192x1024, .f32⟩ : BufTy).Contents (Elt F) → (⟨S8x8192x1024, .f32⟩ : BufTy).Contents (Elt F)),
    unary main_v185 main_v186 (Host.exp : (⟨S8x8192x1024, .f32⟩ : BufTy).Contents (Elt F) → (⟨S8x8192x1024, .f32⟩ : BufTy).Contents (Elt F)),
    nullary main_cst_13 (constant S_ .f32 0x3F800000#32),
    unary main_cst_13 main_v187 (broadcastInDim S8x8192x1024 ![] bcast_S_S8x8192x1024 : (⟨S_, .f32⟩ : BufTy).Contents (Elt F) → (⟨S8x8192x1024, .f32⟩ : BufTy).Contents (Elt F)),
    binary main_v187 main_v186 main_v188 (addf : (⟨S8x8192x1024, .f32⟩ : BufTy).Contents (Elt F) → (⟨S8x8192x1024, .f32⟩ : BufTy).Contents (Elt F) → (⟨S8x8192x1024, .f32⟩ : BufTy).Contents (Elt F)),
    nullary main_cst_14 (constant S_ .f32 0x3F800000#32),
    unary main_cst_14 main_v189 (broadcastInDim S8x8192x1024 ![] bcast_S_S8x8192x1024 : (⟨S_, .f32⟩ : BufTy).Contents (Elt F) → (⟨S8x8192x1024, .f32⟩ : BufTy).Contents (Elt F)),
    binary main_v189 main_v188 main_v190 (Host.divf : (⟨S8x8192x1024, .f32⟩ : BufTy).Contents (Elt F) → (⟨S8x8192x1024, .f32⟩ : BufTy).Contents (Elt F) → (⟨S8x8192x1024, .f32⟩ : BufTy).Contents (Elt F)),
    reshape main_v29 main_v191 (rfl : (.f32 : EltTy) = .f32) shapeCasts_S8x8192x256_S8x32x256x256,
    unary main_v191 main_v192 ((transpose S8x32x256x256 [0, 1, 3, 2] · transposes_S8x32x256x256_S8x32x256x256_0_1_3_2) : (⟨S8x32x256x256, .f32⟩ : BufTy).Contents (Elt F) → (⟨S8x32x256x256, .f32⟩ : BufTy).Contents (Elt F)),
    unary main_v30 main_v193 (Host.negf : (⟨S8x8192x2048, .f32⟩ : BufTy).Contents (Elt F) → (⟨S8x8192x2048, .f32⟩ : BufTy).Contents (Elt F)),
    unary main_v193 main_v194 (Host.exp : (⟨S8x8192x2048, .f32⟩ : BufTy).Contents (Elt F) → (⟨S8x8192x2048, .f32⟩ : BufTy).Contents (Elt F)),
    nullary main_cst_15 (constant S_ .f32 0x3F800000#32),
    unary main_cst_15 main_v195 (broadcastInDim S8x8192x2048 ![] bcast_S_S8x8192x2048 : (⟨S_, .f32⟩ : BufTy).Contents (Elt F) → (⟨S8x8192x2048, .f32⟩ : BufTy).Contents (Elt F)),
    binary main_v195 main_v194 main_v196 (addf : (⟨S8x8192x2048, .f32⟩ : BufTy).Contents (Elt F) → (⟨S8x8192x2048, .f32⟩ : BufTy).Contents (Elt F) → (⟨S8x8192x2048, .f32⟩ : BufTy).Contents (Elt F)),
    nullary main_cst_16 (constant S_ .f32 0x3F800000#32),
    unary main_cst_16 main_v197 (broadcastInDim S8x8192x2048 ![] bcast_S_S8x8192x2048 : (⟨S_, .f32⟩ : BufTy).Contents (Elt F) → (⟨S8x8192x2048, .f32⟩ : BufTy).Contents (Elt F)),
    binary main_v197 main_v196 main_v198 (Host.divf : (⟨S8x8192x2048, .f32⟩ : BufTy).Contents (Elt F) → (⟨S8x8192x2048, .f32⟩ : BufTy).Contents (Elt F) → (⟨S8x8192x2048, .f32⟩ : BufTy).Contents (Elt F)),
    unary main_v75 main_v199 ((truncf .bf16 · bitsLt_bf16_f32) : (⟨S8x8192x1024, .f32⟩ : BufTy).Contents (Elt F) → (⟨S8x8192x1024, .bf16⟩ : BufTy).Contents (Elt F)),
    unary main_v184 main_v200 ((truncf .bf16 · bitsLt_bf16_f32) : (⟨S8x32x1024x256, .f32⟩ : BufTy).Contents (Elt F) → (⟨S8x32x1024x256, .bf16⟩ : BufTy).Contents (Elt F)),
    unary main_v24 main_v201 ((truncf .bf16 · bitsLt_bf16_f32) : (⟨S8x8192x1024, .f32⟩ : BufTy).Contents (Elt F) → (⟨S8x8192x1024, .bf16⟩ : BufTy).Contents (Elt F)),
    unary main_v190 main_v202 ((truncf .bf16 · bitsLt_bf16_f32) : (⟨S8x8192x1024, .f32⟩ : BufTy).Contents (Elt F) → (⟨S8x8192x1024, .bf16⟩ : BufTy).Contents (Elt F)),
    unary main_v144 main_v203 ((truncf .bf16 · bitsLt_bf16_f32) : (⟨S8x8192x1024, .f32⟩ : BufTy).Contents (Elt F) → (⟨S8x8192x1024, .bf16⟩ : BufTy).Contents (Elt F)),
    unary main_v182 main_v204 ((truncf .bf16 · bitsLt_bf16_f32) : (⟨S8x8192x256, .f32⟩ : BufTy).Contents (Elt F) → (⟨S8x8192x256, .bf16⟩ : BufTy).Contents (Elt F)),
    unary main_v192 main_v205 ((truncf .bf16 · bitsLt_bf16_f32) : (⟨S8x32x256x256, .f32⟩ : BufTy).Contents (Elt F) → (⟨S8x32x256x256, .bf16⟩ : BufTy).Contents (Elt F)),
    unary main_v198 main_v206 ((truncf .bf16 · bitsLt_bf16_f32) : (⟨S8x8192x2048, .f32⟩ : BufTy).Contents (Elt F) → (⟨S8x8192x2048, .bf16⟩ : BufTy).Contents (Elt F)) ]
abbrev writtenJ : List (Ref sig .tc) := [main_v183, main_v184, main_v185, main_v186, main_cst_13, main_v187, main_v188, main_cst_14, main_v189, main_v190, main_v191, main_v192, main_v193, main_v194, main_cst_15, main_v195, main_v196, main_cst_16, main_v197, main_v198, main_v199, main_v200, main_v201, main_v202, main_v203, main_v204, main_v205, main_v206]

/-- The whole line. -/
abbrev ops : List (HloOp τ sig (Elt F)) := opsA ++ (opsB ++ (opsC ++ (opsD ++ (opsE ++ (opsF ++ (opsG ++ (opsH ++ (opsI ++ opsJ))))))))

set_option maxRecDepth 8192 in
theorem subA : (opsA : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., reshape_bufs_sub .., binary_bufs_sub ..⟩
set_option maxRecDepth 8192 in
theorem subB : (opsB : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub ..⟩
set_option maxRecDepth 8192 in
theorem subC : (opsC : List (HloOp τ sig (Elt F))).Forall fun op => op.bufs ⊆ tcRefs τ sig :=
  ⟨binary_bufs_sub .., reshape_bufs_sub .., reshape_bufs_sub .., nullary_bufs_sub .., unary_bufs_sub .., binary_bufs_sub .., unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
set_option maxRecDepth 8192 in
theorem subD : (opsD : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., reshape_bufs_sub .., nullary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub ..⟩
set_option maxRecDepth 8192 in
theorem subE : (opsE : List (HloOp τ sig (Elt F))).Forall fun op => op.bufs ⊆ tcRefs τ sig :=
  ⟨binary_bufs_sub .., unary_bufs_sub .., unary_bufs_sub .., unary_bufs_sub .., unary_bufs_sub ..⟩
set_option maxRecDepth 8192 in
theorem subF : (opsF : List (HloOp τ sig (Elt F))).Forall fun op => op.bufs ⊆ tcRefs τ sig :=
  ⟨reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub ..⟩
set_option maxRecDepth 8192 in
theorem subG : (opsG : List (HloOp τ sig (Elt F))).Forall fun op => op.bufs ⊆ tcRefs τ sig :=
  ⟨binary_bufs_sub .., reshape_bufs_sub .., reshape_bufs_sub .., unary_bufs_sub .., reshape_bufs_sub ..⟩
set_option maxRecDepth 8192 in
theorem subH : (opsH : List (HloOp τ sig (Elt F))).Forall fun op => op.bufs ⊆ tcRefs τ sig :=
  ⟨reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub ..⟩
set_option maxRecDepth 8192 in
theorem subI : (opsI : List (HloOp τ sig (Elt F))).Forall fun op => op.bufs ⊆ tcRefs τ sig :=
  ⟨binary_bufs_sub .., reshape_bufs_sub .., reshape_bufs_sub .., unary_bufs_sub .., reshape_bufs_sub ..⟩
set_option maxRecDepth 8192 in
theorem subJ : (opsJ : List (HloOp τ sig (Elt F))).Forall fun op => op.bufs ⊆ tcRefs τ sig :=
  ⟨reshape_bufs_sub .., unary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub ..⟩

/-! The program's parts are runs of the line. -/
set_option maxRecDepth 8192 in
set_option maxHeartbeats 4000000 in
theorem part0_eq (c : Dev nD) : main_part0 (F := F) c = seq (ops.take 61) := rfl
set_option maxRecDepth 8192 in
set_option maxHeartbeats 4000000 in
theorem part1_eq (c : Dev nD) : main_part1 (F := F) c = seq ((ops.drop 61).take 68) := rfl
set_option maxRecDepth 8192 in
set_option maxHeartbeats 4000000 in
theorem part2_eq (c : Dev nD) : main_part2 (F := F) c = seq ((ops.drop 129).take 60) := rfl
set_option maxRecDepth 8192 in
set_option maxHeartbeats 4000000 in
theorem part3_eq (c : Dev nD) : main_part3 (F := F) c = seq (ops.drop 189) := rfl
set_option maxRecDepth 8192 in
theorem ops_split : (ops : List (HloOp τ sig (Elt F))) = ops.take 61 ++ ((ops.drop 61).take 68 ++ ((ops.drop 129).take 60 ++ ops.drop 189)) := rfl
theorem main_eq (c : Dev nD) : main (F := F) c = seq ops := by
  rw [ops_split, seq_append, seq_append, seq_append, ← part0_eq c, ← part1_eq c, ← part2_eq c, ← part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, List.forall_append]
  exact ⟨subA, subB, subC, subD, subE, subF, subG, subH, subI, subJ⟩

end Cert.ProjReferenceIdeal.Line

end
-- ==== Proof.Proj.At.lean ====
module

public import proofs.«01_k».proof.Proof.Proj.Line
public import proofs.«01_k».proof.Proof.Proj.Spec
public import Idealize.ShloMosaic.Lib.StableHlo.ReadAt
public import Idealize.ShloMosaic.Lib.Pointwise

@[expose] public section

set_option maxRecDepth 16384

noncomputable section

/-! What each stretch of the projections' reference leaves in the buffers read later, at an index. -/

namespace Cert.ProjReferenceIdeal.Line

open Cert.ProjReferenceIdeal Cert.ProjReferenceIdeal.Gen Idealize.ShloMosaic Idealize.ShloMosaic.TcCoe Idealize.SL.Sem Idealize.ShloMosaic.StableHlo

variable (V : Valuation τ sig (Elt Ideal)) (b : Fin 8) (t : Fin 8192)

/-- The projected row. -/
theorem at21 (n : Fin 7696) : (after (opsA (F := Ideal)) V (Proc.devRef .tc main_v21) : S8x8192x7696.Idx → EReal) (ix3 b t n)
    = Proj.col (Tail.modulated (fun j => (V (Proc.devRef .tc main_arg0) : S8x8192x1024.Idx → EReal) (ix3 b t j)) (fun j => (V (Proc.devRef .tc main_arg3) : S1x1024.Idx → EReal) (ix2 0 j)) (fun j => (V (Proc.devRef .tc main_arg1) : S8x1x1024.Idx → EReal) (ix3 b 0 j)) (fun j => (V (Proc.devRef .tc main_arg2) : S8x1x1024.Idx → EReal) (ix3 b 0 j))) (fun x => (V (Proc.devRef .tc main_arg4) : S1x1024x7696.Idx → EReal) (ix3 0 x n)) := by
  unfold Proj.col Tail.modulated Tail.rms Tail.w1024 Tail.eps
  after_reads_at

theorem at22 (d : Fin 1024) : (after (opsB (F := Ideal)) V (Proc.devRef .tc main_v22) : S8x8192x1024.Idx → EReal) (ix3 b t d) = (V (Proc.devRef .tc main_v21) : S8x8192x7696.Idx → EReal) (ix3 b t ⟨d.val, by omega⟩) := by
  after_reads_at
theorem at23 (d : Fin 1024) : (after (opsB (F := Ideal)) V (Proc.devRef .tc main_v23) : S8x8192x1024.Idx → EReal) (ix3 b t d) = (V (Proc.devRef .tc main_v21) : S8x8192x7696.Idx → EReal) (ix3 b t ⟨1024 + d.val, by omega⟩) := by
  after_reads_at
theorem at24 (d : Fin 1024) : (after (opsB (F := Ideal)) V (Proc.devRef .tc main_v24) : S8x8192x1024.Idx → EReal) (ix3 b t d) = (V (Proc.devRef .tc main_v21) : S8x8192x7696.Idx → EReal) (ix3 b t ⟨2048 + d.val, by omega⟩) := by
  after_reads_at
theorem at25 (d : Fin 1024) : (after (opsB (F := Ideal)) V (Proc.devRef .tc main_v25) : S8x8192x1024.Idx → EReal) (ix3 b t d) = (V (Proc.devRef .tc main_v21) : S8x8192x7696.Idx → EReal) (ix3 b t ⟨3072 + d.val, by omega⟩) := by
  after_reads_at
theorem at27 (d : Fin 1024) : (after (opsB (F := Ideal)) V (Proc.devRef .tc main_v27) : S8x8192x1024.Idx → EReal) (ix3 b t d) = (V (Proc.devRef .tc main_v21) : S8x8192x7696.Idx → EReal) (ix3 b t ⟨4112 + d.val, by omega⟩) := by
  after_reads_at
theorem at28 (d : Fin 256) : (after (opsB (F := Ideal)) V (Proc.devRef .tc main_v28) : S8x8192x256.Idx → EReal) (ix3 b t d) = (V (Proc.devRef .tc main_v21) : S8x8192x7696.Idx → EReal) (ix3 b t ⟨5136 + d.val, by omega⟩) := by
  after_reads_at
theorem at29 (d : Fin 256) : (after (opsB (F := Ideal)) V (Proc.devRef .tc main_v29) : S8x8192x256.Idx → EReal) (ix3 b t d) = (V (Proc.devRef .tc main_v21) : S8x8192x7696.Idx → EReal) (ix3 b t ⟨5392 + d.val, by omega⟩) := by
  after_reads_at
theorem at30 (d : Fin 2048) : (after (opsB (F := Ideal)) V (Proc.devRef .tc main_v30) : S8x8192x2048.Idx → EReal) (ix3 b t d) = (V (Proc.devRef .tc main_v21) : S8x8192x7696.Idx → EReal) (ix3 b t ⟨5648 + d.val, by omega⟩) := by
  after_reads_at

/-- Queries' and keys' columns before the convolution, side by side. -/
def joined (d : Fin 2048) (s : Fin 8192) : EReal :=
  if h : d.val < 1024 then (V (Proc.devRef .tc main_v22) : S8x8192x1024.Idx → EReal) (ix3 b s ⟨d.val, h⟩) else (V (Proc.devRef .tc main_v23) : S8x8192x1024.Idx → EReal) (ix3 b s ⟨d.val - 1024, by omega⟩)

theorem zero_i32 : FloatOps.sitofp (F := Ideal) .f32 (0#32 : BitVec 32) = (0 : EReal) := by
  show (((0#32 : BitVec 32).toInt : ℝ) : EReal) = 0
  simp

/-- The convolved columns. -/
theorem at74 (d : Fin 2048) : (after (opsC (F := Ideal)) V (Proc.devRef .tc main_v74) : S8x8192x2048.Idx → EReal) (ix3 b t d)
    = Proj.silu (Proj.conv (joined V b d) (fun k => (V (Proc.devRef .tc main_arg6) : S1x5x2048.Idx → EReal) (ix3 0 k d)) ((V (Proc.devRef .tc main_arg7) : S1x2048.Idx → EReal) (ix2 0 d)) t) := by
  unfold Proj.silu Proj.gate Proj.conv Proj.shifted joined
  simp only [← zero_i32, Nat.zero_add]
  after_reads_at
  rfl

theorem at75 (d : Fin 1024) : (after (opsD (F := Ideal)) V (Proc.devRef .tc main_v75) : S8x8192x1024.Idx → EReal) (ix3 b t d) = (V (Proc.devRef .tc main_v74) : S8x8192x2048.Idx → EReal) (ix3 b t ⟨d.val, by omega⟩) := by
  after_reads_at
theorem at78 (d : Fin 1024) : (after (opsD (F := Ideal)) V (Proc.devRef .tc main_v78) : S8x8192x1024.Idx → EReal) (ix3 b t d) = Proj.scaled ((V (Proc.devRef .tc main_v74) : S8x8192x2048.Idx → EReal) (ix3 b t ⟨1024 + d.val, by omega⟩)) := by
  unfold Proj.scaled
  after_reads_at
theorem at96 (k : Fin 32) : (after (opsD (F := Ideal)) V (Proc.devRef .tc main_v96) : S8192x32.Idx → EReal) (ix2 t k) = (FloatOps.sitofp (F := Ideal) .f32 (BitVec.ofNat 32 (t.val / 64)) : EReal) * Proj.freq k := by
  unfold Proj.freq
  after_reads_at
theorem at101 (k : Fin 32) : (after (opsD (F := Ideal)) V (Proc.devRef .tc main_v101) : S8192x32.Idx → EReal) (ix2 t k) = (FloatOps.sitofp (F := Ideal) .f32 (BitVec.ofNat 32 (t.val % 64)) : EReal) * Proj.freq k := by
  unfold Proj.freq
  after_reads_at
theorem at104 (k : Fin 64) : (after (opsE (F := Ideal)) V (Proc.devRef .tc main_v104) : S8192x1x64.Idx → EReal) (ix3 t 0 k)
    = Ideal.cos (if h : k.val < 32 then (V (Proc.devRef .tc main_v96) : S8192x32.Idx → EReal) (ix2 t ⟨k.val, h⟩) else (V (Proc.devRef .tc main_v101) : S8192x32.Idx → EReal) (ix2 t ⟨k.val - 32, by omega⟩)) := by
  after_reads_at
  rfl
theorem at106 (k : Fin 64) : (after (opsE (F := Ideal)) V (Proc.devRef .tc main_v106) : S8192x1x64.Idx → EReal) (ix3 t 0 k)
    = Ideal.sin (if h : k.val < 32 then (V (Proc.devRef .tc main_v96) : S8192x32.Idx → EReal) (ix2 t ⟨k.val, h⟩) else (V (Proc.devRef .tc main_v101) : S8192x32.Idx → EReal) (ix2 t ⟨k.val - 32, by omega⟩)) := by
  after_reads_at
  rfl

/-- Pairs laid side by side, then parted: the first entry of each pair, then the second. -/
theorem unzip (f g : Fin 64 → Fin 1 → EReal) (d : ℕ) :
    (if h : (d % 64 * 2 + d / 64 % 2) % 2 < 1 then f ⟨(d % 64 * 2 + d / 64 % 2) / 2, by omega⟩ ⟨(d % 64 * 2 + d / 64 % 2) % 2, h⟩
      else g ⟨(d % 64 * 2 + d / 64 % 2) / 2, by omega⟩ ⟨(d % 64 * 2 + d / 64 % 2) % 2 - 1, by omega⟩)
    = if h : d % 128 < 64 then f ⟨d % 128, h⟩ 0 else g ⟨d % 128 - 64, by omega⟩ 0 := by
  by_cases h : d % 128 < 64
  · have e : d / 64 % 2 = 0 ∧ d % 64 = d % 128 := by omega
    rw [dif_pos h, dif_pos (by omega)]
    exact congrArg₂ f (Fin.ext (by dsimp only; rw [e.1, e.2]; omega)) (Subsingleton.elim _ _)
  · have e : d / 64 % 2 = 1 ∧ d % 64 = d % 128 - 64 := by omega
    rw [dif_neg h, dif_neg (by omega)]
    exact congrArg₂ g (Fin.ext (by dsimp only; rw [e.1, e.2]; omega)) (Subsingleton.elim _ _)

theorem at138 (h : Fin 8) (e : Fin 64) : (after (opsF (F := Ideal)) V (Proc.devRef .tc main_v138) : S8x8192x8x64x1.Idx → EReal) (ix5 b t h e 0)
    = Proj.normed (fun x => (V (Proc.devRef .tc main_v27) : S8x8192x1024.Idx → EReal) (ix3 b t ⟨h.val * 128 + x.val, by omega⟩)) (fun x => (V (Proc.devRef .tc main_arg8) : S1x128.Idx → EReal) (ix2 0 x)) ⟨2 * e.val, by omega⟩ * (V (Proc.devRef .tc main_v104) : S8192x1x64.Idx → EReal) (ix3 t 0 e) - Proj.normed (fun x => (V (Proc.devRef .tc main_v27) : S8x8192x1024.Idx → EReal) (ix3 b t ⟨h.val * 128 + x.val, by omega⟩)) (fun x => (V (Proc.devRef .tc main_arg8) : S1x128.Idx → EReal) (ix2 0 x)) ⟨1 + 2 * e.val, by omega⟩ * (V (Proc.devRef .tc main_v106) : S8192x1x64.Idx → EReal) (ix3 t 0 e) := by
  unfold Proj.normed Tail.rms Proj.w128 Tail.eps
  after_reads_at
theorem at139 (h : Fin 8) (e : Fin 64) : (after (opsF (F := Ideal)) V (Proc.devRef .tc main_v139) : S8x8192x8x64x1.Idx → EReal) (ix5 b t h e 0)
    = Proj.normed (fun x => (V (Proc.devRef .tc main_v27) : S8x8192x1024.Idx → EReal) (ix3 b t ⟨h.val * 128 + x.val, by omega⟩)) (fun x => (V (Proc.devRef .tc main_arg8) : S1x128.Idx → EReal) (ix2 0 x)) ⟨2 * e.val, by omega⟩ * (V (Proc.devRef .tc main_v106) : S8192x1x64.Idx → EReal) (ix3 t 0 e) + Proj.normed (fun x => (V (Proc.devRef .tc main_v27) : S8x8192x1024.Idx → EReal) (ix3 b t ⟨h.val * 128 + x.val, by omega⟩)) (fun x => (V (Proc.devRef .tc main_arg8) : S1x128.Idx → EReal) (ix2 0 x)) ⟨1 + 2 * e.val, by omega⟩ * (V (Proc.devRef .tc main_v104) : S8192x1x64.Idx → EReal) (ix3 t 0 e) := by
  unfold Proj.normed Tail.rms Proj.w128 Tail.eps
  after_reads_at
/-- The joined halves of a head, read through the order by pairs. -/
theorem pairs144 (d : Fin 1024) : (after (opsG (F := Ideal)) V (Proc.devRef .tc main_v144) : S8x8192x1024.Idx → EReal) (ix3 b t d)
    = if h : (d.val % 64 * 2 + d.val / 64 % 2) % 2 < 1 then (V (Proc.devRef .tc main_v138) : S8x8192x8x64x1.Idx → EReal) (ix5 b t ⟨d.val / 128, by omega⟩ ⟨(d.val % 64 * 2 + d.val / 64 % 2) / 2, by omega⟩ ⟨(d.val % 64 * 2 + d.val / 64 % 2) % 2, h⟩) else (V (Proc.devRef .tc main_v139) : S8x8192x8x64x1.Idx → EReal) (ix5 b t ⟨d.val / 128, by omega⟩ ⟨(d.val % 64 * 2 + d.val / 64 % 2) / 2, by omega⟩ ⟨(d.val % 64 * 2 + d.val / 64 % 2) % 2 - 1, by omega⟩) := by
  after_reads_at
  simp only [upto_zero]
theorem at144 (d : Fin 1024) : (after (opsG (F := Ideal)) V (Proc.devRef .tc main_v144) : S8x8192x1024.Idx → EReal) (ix3 b t d)
    = if h : d.val % 128 < 64 then (V (Proc.devRef .tc main_v138) : S8x8192x8x64x1.Idx → EReal) (ix5 b t ⟨d.val / 128, by omega⟩ ⟨d.val % 128, h⟩ 0) else (V (Proc.devRef .tc main_v139) : S8x8192x8x64x1.Idx → EReal) (ix5 b t ⟨d.val / 128, by omega⟩ ⟨d.val % 128 - 64, by omega⟩ 0) :=
  (pairs144 V b t d).trans (unzip (fun i j => (V (Proc.devRef .tc main_v138) : S8x8192x8x64x1.Idx → EReal) (ix5 b t ⟨d.val / 128, by omega⟩ i j)) (fun i j => (V (Proc.devRef .tc main_v139) : S8x8192x8x64x1.Idx → EReal) (ix5 b t ⟨d.val / 128, by omega⟩ i j)) d.val)

theorem at176 (h : Fin 2) (e : Fin 64) : (after (opsH (F := Ideal)) V (Proc.devRef .tc main_v176) : S8x8192x2x64x1.Idx → EReal) (ix5 b t h e 0)
    = Proj.normed (fun x => (V (Proc.devRef .tc main_v28) : S8x8192x256.Idx → EReal) (ix3 b t ⟨h.val * 128 + x.val, by omega⟩)) (fun x => (V (Proc.devRef .tc main_arg9) : S1x128.Idx → EReal) (ix2 0 x)) ⟨2 * e.val, by omega⟩ * (V (Proc.devRef .tc main_v104) : S8192x1x64.Idx → EReal) (ix3 t 0 e) - Proj.normed (fun x => (V (Proc.devRef .tc main_v28) : S8x8192x256.Idx → EReal) (ix3 b t ⟨h.val * 128 + x.val, by omega⟩)) (fun x => (V (Proc.devRef .tc main_arg9) : S1x128.Idx → EReal) (ix2 0 x)) ⟨1 + 2 * e.val, by omega⟩ * (V (Proc.devRef .tc main_v106) : S8192x1x64.Idx → EReal) (ix3 t 0 e) := by
  unfold Proj.normed Tail.rms Proj.w128 Tail.eps
  after_reads_at
theorem at177 (h : Fin 2) (e : Fin 64) : (after (opsH (F := Ideal)) V (Proc.devRef .tc main_v177) : S8x8192x2x64x1.Idx → EReal) (ix5 b t h e 0)
    = Proj.normed (fun x => (V (Proc.devRef .tc main_v28) : S8x8192x256.Idx → EReal) (ix3 b t ⟨h.val * 128 + x.val, by omega⟩)) (fun x => (V (Proc.devRef .tc main_arg9) : S1x128.Idx → EReal) (ix2 0 x)) ⟨2 * e.val, by omega⟩ * (V (Proc.devRef .tc main_v106) : S8192x1x64.Idx → EReal) (ix3 t 0 e) + Proj.normed (fun x => (V (Proc.devRef .tc main_v28) : S8x8192x256.Idx → EReal) (ix3 b t ⟨h.val * 128 + x.val, by omega⟩)) (fun x => (V (Proc.devRef .tc main_arg9) : S1x128.Idx → EReal) (ix2 0 x)) ⟨1 + 2 * e.val, by omega⟩ * (V (Proc.devRef .tc main_v104) : S8192x1x64.Idx → EReal) (ix3 t 0 e) := by
  unfold Proj.normed Tail.rms Proj.w128 Tail.eps
  after_reads_at
/-- The joined halves of a head, read through the order by pairs. -/
theorem pairs182 (d : Fin 256) : (after (opsI (F := Ideal)) V (Proc.devRef .tc main_v182) : S8x8192x256.Idx → EReal) (ix3 b t d)
    = if h : (d.val % 64 * 2 + d.val / 64 % 2) % 2 < 1 then (V (Proc.devRef .tc main_v176) : S8x8192x2x64x1.Idx → EReal) (ix5 b t ⟨d.val / 128, by omega⟩ ⟨(d.val % 64 * 2 + d.val / 64 % 2) / 2, by omega⟩ ⟨(d.val % 64 * 2 + d.val / 64 % 2) % 2, h⟩) else (V (Proc.devRef .tc main_v177) : S8x8192x2x64x1.Idx → EReal) (ix5 b t ⟨d.val / 128, by omega⟩ ⟨(d.val % 64 * 2 + d.val / 64 % 2) / 2, by omega⟩ ⟨(d.val % 64 * 2 + d.val / 64 % 2) % 2 - 1, by omega⟩) := by
  after_reads_at
  simp only [upto_zero]
theorem at182 (d : Fin 256) : (after (opsI (F := Ideal)) V (Proc.devRef .tc main_v182) : S8x8192x256.Idx → EReal) (ix3 b t d)
    = if h : d.val % 128 < 64 then (V (Proc.devRef .tc main_v176) : S8x8192x2x64x1.Idx → EReal) (ix5 b t ⟨d.val / 128, by omega⟩ ⟨d.val % 128, h⟩ 0) else (V (Proc.devRef .tc main_v177) : S8x8192x2x64x1.Idx → EReal) (ix5 b t ⟨d.val / 128, by omega⟩ ⟨d.val % 128 - 64, by omega⟩ 0) :=
  (pairs182 V b t d).trans (unzip (fun i j => (V (Proc.devRef .tc main_v176) : S8x8192x2x64x1.Idx → EReal) (ix5 b t ⟨d.val / 128, by omega⟩ i j)) (fun i j => (V (Proc.devRef .tc main_v177) : S8x8192x2x64x1.Idx → EReal) (ix5 b t ⟨d.val / 128, by omega⟩ i j)) d.val)

/-! The results. -/
theorem at199 (d : Fin 1024) : (after (opsJ (F := Ideal)) V (Proc.devRef .tc main_v199) : S8x8192x1024.Idx → EReal) (ix3 b t d) = (V (Proc.devRef .tc main_v75) : S8x8192x1024.Idx → EReal) (ix3 b t d) := by
  after_reads_at
theorem at201 (d : Fin 1024) : (after (opsJ (F := Ideal)) V (Proc.devRef .tc main_v201) : S8x8192x1024.Idx → EReal) (ix3 b t d) = (V (Proc.devRef .tc main_v24) : S8x8192x1024.Idx → EReal) (ix3 b t d) := by
  after_reads_at
theorem at203 (d : Fin 1024) : (after (opsJ (F := Ideal)) V (Proc.devRef .tc main_v203) : S8x8192x1024.Idx → EReal) (ix3 b t d) = (V (Proc.devRef .tc main_v144) : S8x8192x1024.Idx → EReal) (ix3 b t d) := by
  after_reads_at
theorem at204 (d : Fin 256) : (after (opsJ (F := Ideal)) V (Proc.devRef .tc main_v204) : S8x8192x256.Idx → EReal) (ix3 b t d) = (V (Proc.devRef .tc main_v182) : S8x8192x256.Idx → EReal) (ix3 b t d) := by
  after_reads_at
theorem at202 (d : Fin 1024) : (after (opsJ (F := Ideal)) V (Proc.devRef .tc main_v202) : S8x8192x1024.Idx → EReal) (ix3 b t d) = Proj.gate ((V (Proc.devRef .tc main_v25) : S8x8192x1024.Idx → EReal) (ix3 b t d)) := by
  unfold Proj.gate
  after_reads_at
theorem at206 (d : Fin 2048) : (after (opsJ (F := Ideal)) V (Proc.devRef .tc main_v206) : S8x8192x2048.Idx → EReal) (ix3 b t d) = Proj.gate ((V (Proc.devRef .tc main_v30) : S8x8192x2048.Idx → EReal) (ix3 b t d)) := by
  unfold Proj.gate
  after_reads_at
theorem at200 (q : Fin 32) (d : Fin 1024) (r : Fin 256) : (after (opsJ (F := Ideal)) V (Proc.devRef .tc main_v200) : S8x32x1024x256.Idx → EReal) (ix4 b q d r) = (V (Proc.devRef .tc main_v78) : S8x8192x1024.Idx → EReal) (ix3 b ⟨q.val * 256 + r.val, by omega⟩ d) := by
  after_reads_at
theorem at205 (q : Fin 32) (d : Fin 256) (r : Fin 256) : (after (opsJ (F := Ideal)) V (Proc.devRef .tc main_v205) : S8x32x256x256.Idx → EReal) (ix4 b q d r) = (V (Proc.devRef .tc main_v29) : S8x8192x256.Idx → EReal) (ix3 b ⟨q.val * 256 + r.val, by omega⟩ d) := by
  after_reads_at

/-! Each stretch leaves what it does not write. -/
theorem keepA (r : Ref sig .tc) (h : r ∉ writtenA) : after (opsA (F := Ideal)) V (Proc.devRef .tc r) = V (Proc.devRef .tc r) :=
  after_unwritten writtenA rfl h V
theorem keepB (r : Ref sig .tc) (h : r ∉ writtenB) : after (opsB (F := Ideal)) V (Proc.devRef .tc r) = V (Proc.devRef .tc r) :=
  after_unwritten writtenB rfl h V
theorem keepC (r : Ref sig .tc) (h : r ∉ writtenC) : after (opsC (F := Ideal)) V (Proc.devRef .tc r) = V (Proc.devRef .tc r) :=
  after_unwritten writtenC rfl h V
theorem keepD (r : Ref sig .tc) (h : r ∉ writtenD) : after (opsD (F := Ideal)) V (Proc.devRef .tc r) = V (Proc.devRef .tc r) :=
  after_unwritten writtenD rfl h V
theorem keepE (r : Ref sig .tc) (h : r ∉ writtenE) : after (opsE (F := Ideal)) V (Proc.devRef .tc r) = V (Proc.devRef .tc r) :=
  after_unwritten writtenE rfl h V
theorem keepF (r : Ref sig .tc) (h : r ∉ writtenF) : after (opsF (F := Ideal)) V (Proc.devRef .tc r) = V (Proc.devRef .tc r) :=
  after_unwritten writtenF rfl h V
theorem keepG (r : Ref sig .tc) (h : r ∉ writtenG) : after (opsG (F := Ideal)) V (Proc.devRef .tc r) = V (Proc.devRef .tc r) :=
  after_unwritten writtenG rfl h V
theorem keepH (r : Ref sig .tc) (h : r ∉ writtenH) : after (opsH (F := Ideal)) V (Proc.devRef .tc r) = V (Proc.devRef .tc r) :=
  after_unwritten writtenH rfl h V
theorem keepI (r : Ref sig .tc) (h : r ∉ writtenI) : after (opsI (F := Ideal)) V (Proc.devRef .tc r) = V (Proc.devRef .tc r) :=
  after_unwritten writtenI rfl h V
theorem keepJ (r : Ref sig .tc) (h : r ∉ writtenJ) : after (opsJ (F := Ideal)) V (Proc.devRef .tc r) = V (Proc.devRef .tc r) :=
  after_unwritten writtenJ rfl h V

end Cert.ProjReferenceIdeal.Line

end
-- ==== Proof.Proj.Run.lean ====
module

public import proofs.«01_k».proof.Proof.Proj.At

@[expose] public section

set_option maxRecDepth 16384

noncomputable section

/-! The projections' reference: its results, from the arrays as launched, and its run. -/

namespace Cert.ProjReferenceIdeal.Line

open Cert.ProjReferenceIdeal Cert.ProjReferenceIdeal.Gen Idealize.ShloMosaic Idealize.ShloMosaic.TcCoe Idealize.SL.Sem Idealize.ShloMosaic.StableHlo

variable (V : Valuation τ sig (Elt Ideal)) (b : Fin 8) (t : Fin 8192)

/-- The contents after each stretch. -/
def SA : Valuation τ sig (Elt Ideal) := after opsA V
def SB : Valuation τ sig (Elt Ideal) := after opsB (SA V)
def SC : Valuation τ sig (Elt Ideal) := after opsC (SB V)
def SD : Valuation τ sig (Elt Ideal) := after opsD (SC V)
def SE : Valuation τ sig (Elt Ideal) := after opsE (SD V)
def SF : Valuation τ sig (Elt Ideal) := after opsF (SE V)
def SG : Valuation τ sig (Elt Ideal) := after opsG (SF V)
def SH : Valuation τ sig (Elt Ideal) := after opsH (SG V)
def SI : Valuation τ sig (Elt Ideal) := after opsI (SH V)
def SJ : Valuation τ sig (Elt Ideal) := after opsJ (SI V)

theorem after_app (l₁ l₂ : List (HloOp τ sig (Elt Ideal))) (V : Valuation τ sig (Elt Ideal)) : after (l₁ ++ l₂) V = after l₂ (after l₁ V) := by
  induction l₁ generalizing V with
  | nil => rfl
  | cons op l ih => exact ih _

theorem after_ops : after (ops (F := Ideal)) V = SJ V := by
  unfold ops SJ SI SH SG SF SE SD SC SB SA
  rw [after_app, after_app, after_app, after_app, after_app, after_app, after_app, after_app, after_app]

/-- The arrays of the specification. -/
def args : Proj.Args where
  x b t j := (V (Proc.devRef .tc main_arg0) : S8x8192x1024.Idx → EReal) (ix3 b t j)
  sc b j := (V (Proc.devRef .tc main_arg1) : S8x1x1024.Idx → EReal) (ix3 b 0 j)
  sh b j := (V (Proc.devRef .tc main_arg2) : S8x1x1024.Idx → EReal) (ix3 b 0 j)
  n1 j := (V (Proc.devRef .tc main_arg3) : S1x1024.Idx → EReal) (ix2 0 j)
  w i n := (V (Proc.devRef .tc main_arg4) : S1x1024x7696.Idx → EReal) (ix3 0 i n)
  cw k d := (V (Proc.devRef .tc main_arg6) : S1x5x2048.Idx → EReal) (ix3 0 k d)
  cb d := (V (Proc.devRef .tc main_arg7) : S1x2048.Idx → EReal) (ix2 0 d)
  gq e := (V (Proc.devRef .tc main_arg8) : S1x128.Idx → EReal) (ix2 0 e)
  gk e := (V (Proc.devRef .tc main_arg9) : S1x128.Idx → EReal) (ix2 0 e)

theorem toArgB (r : Ref sig .tc) (hA : r ∉ writtenA) (hB : r ∉ writtenB) : SB V (Proc.devRef .tc r) = V (Proc.devRef .tc r) := by
  unfold SB SA
  rw [keepB _ r hB, keepA _ r hA]
theorem toArgE (r : Ref sig .tc) (hA : r ∉ writtenA) (hB : r ∉ writtenB) (hC : r ∉ writtenC) (hD : r ∉ writtenD) (hE : r ∉ writtenE) : SE V (Proc.devRef .tc r) = V (Proc.devRef .tc r) := by
  unfold SE SD SC SB SA
  rw [keepE _ r hE, keepD _ r hD, keepC _ r hC, keepB _ r hB, keepA _ r hA]
theorem toArgG (r : Ref sig .tc) (hA : r ∉ writtenA) (hB : r ∉ writtenB) (hC : r ∉ writtenC) (hD : r ∉ writtenD) (hE : r ∉ writtenE) (hF : r ∉ writtenF) (hG : r ∉ writtenG) : SG V (Proc.devRef .tc r) = V (Proc.devRef .tc r) := by
  unfold SG SF SE SD SC SB SA
  rw [keepG _ r hG, keepF _ r hF, keepE _ r hE, keepD _ r hD, keepC _ r hC, keepB _ r hB, keepA _ r hA]
theorem keepEB (r : Ref sig .tc) (hC : r ∉ writtenC) (hD : r ∉ writtenD) (hE : r ∉ writtenE) : SE V (Proc.devRef .tc r) = SB V (Proc.devRef .tc r) := by
  unfold SE SD SC
  rw [keepE _ r hE, keepD _ r hD, keepC _ r hC]
theorem keepGB (r : Ref sig .tc) (hC : r ∉ writtenC) (hD : r ∉ writtenD) (hE : r ∉ writtenE) (hF : r ∉ writtenF) (hG : r ∉ writtenG) : SG V (Proc.devRef .tc r) = SB V (Proc.devRef .tc r) := by
  unfold SG SF SE SD SC
  rw [keepG _ r hG, keepF _ r hF, keepE _ r hE, keepD _ r hD, keepC _ r hC]
theorem keepGE (r : Ref sig .tc) (hF : r ∉ writtenF) (hG : r ∉ writtenG) : SG V (Proc.devRef .tc r) = SE V (Proc.devRef .tc r) := by
  unfold SG SF
  rw [keepG _ r hG, keepF _ r hF]
theorem keepIB (r : Ref sig .tc) (hC : r ∉ writtenC) (hD : r ∉ writtenD) (hE : r ∉ writtenE) (hF : r ∉ writtenF) (hG : r ∉ writtenG) (hH : r ∉ writtenH) (hI : r ∉ writtenI) : SI V (Proc.devRef .tc r) = SB V (Proc.devRef .tc r) := by
  unfold SI SH SG SF SE SD SC
  rw [keepI _ r hI, keepH _ r hH, keepG _ r hG, keepF _ r hF, keepE _ r hE, keepD _ r hD, keepC _ r hC]
theorem keepID (r : Ref sig .tc) (hE : r ∉ writtenE) (hF : r ∉ writtenF) (hG : r ∉ writtenG) (hH : r ∉ writtenH) (hI : r ∉ writtenI) : SI V (Proc.devRef .tc r) = SD V (Proc.devRef .tc r) := by
  unfold SI SH SG SF SE
  rw [keepI _ r hI, keepH _ r hH, keepG _ r hG, keepF _ r hF, keepE _ r hE]
theorem keepIG (r : Ref sig .tc) (hH : r ∉ writtenH) (hI : r ∉ writtenI) : SI V (Proc.devRef .tc r) = SG V (Proc.devRef .tc r) := by
  unfold SI SH
  rw [keepI _ r hI, keepH _ r hH]
theorem toArgJ (r : Ref sig .tc) (hA : r ∉ writtenA) (hB : r ∉ writtenB) (hC : r ∉ writtenC) (hD : r ∉ writtenD) (hE : r ∉ writtenE) (hF : r ∉ writtenF) (hG : r ∉ writtenG) (hH : r ∉ writtenH) (hI : r ∉ writtenI) (hJ : r ∉ writtenJ) : SJ V (Proc.devRef .tc r) = V (Proc.devRef .tc r) := by
  unfold SJ SI SH SG SF SE SD SC SB SA
  rw [keepJ _ r hJ, keepI _ r hI, keepH _ r hH, keepG _ r hG, keepF _ r hF, keepE _ r hE, keepD _ r hD, keepC _ r hC, keepB _ r hB, keepA _ r hA]

/-! The columns. -/
theorem z_at (n : Fin 7696) : (SA V (Proc.devRef .tc main_v21) : S8x8192x7696.Idx → EReal) (ix3 b t n) = (args V).z b t n := by
  unfold SA
  rw [at21]
  rfl
theorem part22 (d : Fin 1024) : (SB V (Proc.devRef .tc main_v22) : S8x8192x1024.Idx → EReal) (ix3 b t d) = (args V).z b t ⟨d.val, by omega⟩ := by
  unfold SB
  rw [at22, z_at]
theorem part23 (d : Fin 1024) : (SB V (Proc.devRef .tc main_v23) : S8x8192x1024.Idx → EReal) (ix3 b t d) = (args V).z b t ⟨1024 + d.val, by omega⟩ := by
  unfold SB
  rw [at23, z_at]
theorem part24 (d : Fin 1024) : (SB V (Proc.devRef .tc main_v24) : S8x8192x1024.Idx → EReal) (ix3 b t d) = (args V).z b t ⟨2048 + d.val, by omega⟩ := by
  unfold SB
  rw [at24, z_at]
theorem part25 (d : Fin 1024) : (SB V (Proc.devRef .tc main_v25) : S8x8192x1024.Idx → EReal) (ix3 b t d) = (args V).z b t ⟨3072 + d.val, by omega⟩ := by
  unfold SB
  rw [at25, z_at]
theorem part27 (d : Fin 1024) : (SB V (Proc.devRef .tc main_v27) : S8x8192x1024.Idx → EReal) (ix3 b t d) = (args V).z b t ⟨4112 + d.val, by omega⟩ := by
  unfold SB
  rw [at27, z_at]
theorem part28 (d : Fin 256) : (SB V (Proc.devRef .tc main_v28) : S8x8192x256.Idx → EReal) (ix3 b t d) = (args V).z b t ⟨5136 + d.val, by omega⟩ := by
  unfold SB
  rw [at28, z_at]
theorem part29 (d : Fin 256) : (SB V (Proc.devRef .tc main_v29) : S8x8192x256.Idx → EReal) (ix3 b t d) = (args V).z b t ⟨5392 + d.val, by omega⟩ := by
  unfold SB
  rw [at29, z_at]
theorem part30 (d : Fin 2048) : (SB V (Proc.devRef .tc main_v30) : S8x8192x2048.Idx → EReal) (ix3 b t d) = (args V).z b t ⟨5648 + d.val, by omega⟩ := by
  unfold SB
  rw [at30, z_at]

theorem joined_eq (d : Fin 2048) : joined (SB V) b d = fun s => (args V).z b s ⟨d.val, by omega⟩ := by
  funext s
  unfold joined
  by_cases h : d.val < 1024
  · rw [dif_pos h, part22]
  · rw [dif_neg h, part23]
    exact congrArg _ (Fin.ext (by dsimp only; omega))

theorem conv_at (d : Fin 2048) : (SC V (Proc.devRef .tc main_v74) : S8x8192x2048.Idx → EReal) (ix3 b t d) = (args V).qk b t d := by
  unfold SC
  rw [at74, joined_eq, toArgB V main_arg6 (by decide) (by decide), toArgB V main_arg7 (by decide) (by decide)]
  rfl
theorem query_at (d : Fin 1024) : (SD V (Proc.devRef .tc main_v75) : S8x8192x1024.Idx → EReal) (ix3 b t d) = (args V).query b t d := by
  unfold SD
  rw [at75, conv_at]
  rfl
theorem key_at (d : Fin 1024) : (SD V (Proc.devRef .tc main_v78) : S8x8192x1024.Idx → EReal) (ix3 b t d) = (args V).key b t d := by
  unfold SD
  rw [at78, conv_at]
  rfl

/-! The rotation's tables. -/
theorem row_angle (k : Fin 32) : (SD V (Proc.devRef .tc main_v96) : S8192x32.Idx → EReal) (ix2 t k) = (FloatOps.sitofp (F := Ideal) .f32 (BitVec.ofNat 32 (t.val / 64)) : EReal) * Proj.freq k := by
  unfold SD
  rw [at96]
theorem col_angle (k : Fin 32) : (SD V (Proc.devRef .tc main_v101) : S8192x32.Idx → EReal) (ix2 t k) = (FloatOps.sitofp (F := Ideal) .f32 (BitVec.ofNat 32 (t.val % 64)) : EReal) * Proj.freq k := by
  unfold SD
  rw [at101]
theorem cos_at (k : Fin 64) : (SE V (Proc.devRef .tc main_v104) : S8192x1x64.Idx → EReal) (ix3 t 0 k) = Ideal.cos (Proj.angle t k) := by
  unfold SE Proj.angle
  rw [at104]
  by_cases h : k.val < 32
  · rw [dif_pos h, dif_pos h, row_angle]
  · rw [dif_neg h, dif_neg h, col_angle]
theorem sin_at (k : Fin 64) : (SE V (Proc.devRef .tc main_v106) : S8192x1x64.Idx → EReal) (ix3 t 0 k) = Ideal.sin (Proj.angle t k) := by
  unfold SE Proj.angle
  rw [at106]
  by_cases h : k.val < 32
  · rw [dif_pos h, dif_pos h, row_angle]
  · rw [dif_neg h, dif_neg h, col_angle]

/-! The rotated queries and keys. -/
theorem cols_q (h : Fin 8) : (fun x : Fin 128 => (SB V (Proc.devRef .tc main_v27) : S8x8192x1024.Idx → EReal) (ix3 b t ⟨h.val * 128 + x.val, by omega⟩)) = fun x => (args V).z b t ⟨4112 + (h.val * 128 + x.val), by omega⟩ :=
  funext fun x => part27 V b t _
theorem half138 (h : Fin 8) (e : Fin 64) : (SF V (Proc.devRef .tc main_v138) : S8x8192x8x64x1.Idx → EReal) (ix5 b t h e 0)
    = Proj.normed (fun x => (args V).z b t ⟨4112 + (h.val * 128 + x.val), by omega⟩) (args V).gq ⟨2 * e.val, by omega⟩ * Ideal.cos (Proj.angle t e) - Proj.normed (fun x => (args V).z b t ⟨4112 + (h.val * 128 + x.val), by omega⟩) (args V).gq ⟨1 + 2 * e.val, by omega⟩ * Ideal.sin (Proj.angle t e) := by
  unfold SF
  rw [at138, keepEB V main_v27 (by decide) (by decide) (by decide), toArgE V main_arg8 (by decide) (by decide) (by decide) (by decide) (by decide), cos_at, sin_at, cols_q]
  rfl
theorem half139 (h : Fin 8) (e : Fin 64) : (SF V (Proc.devRef .tc main_v139) : S8x8192x8x64x1.Idx → EReal) (ix5 b t h e 0)
    = Proj.normed (fun x => (args V).z b t ⟨4112 + (h.val * 128 + x.val), by omega⟩) (args V).gq ⟨2 * e.val, by omega⟩ * Ideal.sin (Proj.angle t e) + Proj.normed (fun x => (args V).z b t ⟨4112 + (h.val * 128 + x.val), by omega⟩) (args V).gq ⟨1 + 2 * e.val, by omega⟩ * Ideal.cos (Proj.angle t e) := by
  unfold SF
  rw [at139, keepEB V main_v27 (by decide) (by decide) (by decide), toArgE V main_arg8 (by decide) (by decide) (by decide) (by decide) (by decide), cos_at, sin_at, cols_q]
  rfl
theorem rot_q (d : Fin 1024) : (SG V (Proc.devRef .tc main_v144) : S8x8192x1024.Idx → EReal) (ix3 b t d) = (args V).attnQuery b t d := by
  unfold SG Proj.Args.attnQuery Proj.rope
  rw [at144]
  by_cases h : d.val % 128 < 64
  · rw [dif_pos h, dif_pos h, half138]
  · rw [dif_neg h, dif_neg h, half139]
theorem cols_k (h : Fin 2) : (fun x : Fin 128 => (SB V (Proc.devRef .tc main_v28) : S8x8192x256.Idx → EReal) (ix3 b t ⟨h.val * 128 + x.val, by omega⟩)) = fun x => (args V).z b t ⟨5136 + (h.val * 128 + x.val), by omega⟩ :=
  funext fun x => part28 V b t _
theorem half176 (h : Fin 2) (e : Fin 64) : (SH V (Proc.devRef .tc main_v176) : S8x8192x2x64x1.Idx → EReal) (ix5 b t h e 0)
    = Proj.normed (fun x => (args V).z b t ⟨5136 + (h.val * 128 + x.val), by omega⟩) (args V).gk ⟨2 * e.val, by omega⟩ * Ideal.cos (Proj.angle t e) - Proj.normed (fun x => (args V).z b t ⟨5136 + (h.val * 128 + x.val), by omega⟩) (args V).gk ⟨1 + 2 * e.val, by omega⟩ * Ideal.sin (Proj.angle t e) := by
  unfold SH
  rw [at176, keepGB V main_v28 (by decide) (by decide) (by decide) (by decide) (by decide), toArgG V main_arg9 (by decide) (by decide) (by decide) (by decide) (by decide) (by decide) (by decide), keepGE V main_v104 (by decide) (by decide), keepGE V main_v106 (by decide) (by decide), cos_at, sin_at, cols_k]
  rfl
theorem half177 (h : Fin 2) (e : Fin 64) : (SH V (Proc.devRef .tc main_v177) : S8x8192x2x64x1.Idx → EReal) (ix5 b t h e 0)
    = Proj.normed (fun x => (args V).z b t ⟨5136 + (h.val * 128 + x.val), by omega⟩) (args V).gk ⟨2 * e.val, by omega⟩ * Ideal.sin (Proj.angle t e) + Proj.normed (fun x => (args V).z b t ⟨5136 + (h.val * 128 + x.val), by omega⟩) (args V).gk ⟨1 + 2 * e.val, by omega⟩ * Ideal.cos (Proj.angle t e) := by
  unfold SH
  rw [at177, keepGB V main_v28 (by decide) (by decide) (by decide) (by decide) (by decide), toArgG V main_arg9 (by decide) (by decide) (by decide) (by decide) (by decide) (by decide) (by decide), keepGE V main_v104 (by decide) (by decide), keepGE V main_v106 (by decide) (by decide), cos_at, sin_at, cols_k]
  rfl
theorem rot_k (d : Fin 256) : (SI V (Proc.devRef .tc main_v182) : S8x8192x256.Idx → EReal) (ix3 b t d) = (args V).attnKey b t d := by
  unfold SI Proj.Args.attnKey Proj.rope
  rw [at182]
  by_cases h : d.val % 128 < 64
  · rw [dif_pos h, dif_pos h, half176]
  · rw [dif_neg h, dif_neg h, half177]

/-! The results, at an index. -/
theorem res199 (d : Fin 1024) : (SJ V (Proc.devRef .tc main_v199) : S8x8192x1024.Idx → EReal) (ix3 b t d) = (args V).query b t d := by
  unfold SJ
  rw [at199, keepID V main_v75 (by decide) (by decide) (by decide) (by decide) (by decide), query_at]
theorem res201 (d : Fin 1024) : (SJ V (Proc.devRef .tc main_v201) : S8x8192x1024.Idx → EReal) (ix3 b t d) = (args V).value b t d := by
  unfold SJ
  rw [at201, keepIB V main_v24 (by decide) (by decide) (by decide) (by decide) (by decide) (by decide) (by decide), part24]
  rfl
theorem res202 (d : Fin 1024) : (SJ V (Proc.devRef .tc main_v202) : S8x8192x1024.Idx → EReal) (ix3 b t d) = (args V).outGate b t d := by
  unfold SJ
  rw [at202, keepIB V main_v25 (by decide) (by decide) (by decide) (by decide) (by decide) (by decide) (by decide), part25]
  rfl
theorem res203 (d : Fin 1024) : (SJ V (Proc.devRef .tc main_v203) : S8x8192x1024.Idx → EReal) (ix3 b t d) = (args V).attnQuery b t d := by
  unfold SJ
  rw [at203, keepIG V main_v144 (by decide) (by decide), rot_q]
theorem res204 (d : Fin 256) : (SJ V (Proc.devRef .tc main_v204) : S8x8192x256.Idx → EReal) (ix3 b t d) = (args V).attnKey b t d := by
  unfold SJ
  rw [at204, rot_k]
theorem res206 (d : Fin 2048) : (SJ V (Proc.devRef .tc main_v206) : S8x8192x2048.Idx → EReal) (ix3 b t d) = (args V).mergeGate b t d := by
  unfold SJ
  rw [at206, keepIB V main_v30 (by decide) (by decide) (by decide) (by decide) (by decide) (by decide) (by decide), part30]
  rfl
theorem res200 (q : Fin 32) (d : Fin 1024) (r : Fin 256) : (SJ V (Proc.devRef .tc main_v200) : S8x32x1024x256.Idx → EReal) (ix4 b q d r) = (args V).key b ⟨q.val * 256 + r.val, by omega⟩ d := by
  unfold SJ
  rw [at200, keepID V main_v78 (by decide) (by decide) (by decide) (by decide) (by decide), key_at]
theorem res205 (q : Fin 32) (d : Fin 256) (r : Fin 256) : (SJ V (Proc.devRef .tc main_v205) : S8x32x256x256.Idx → EReal) (ix4 b q d r) = (args V).attnValue b ⟨q.val * 256 + r.val, by omega⟩ d := by
  unfold SJ
  rw [at205, keepIB V main_v29 (by decide) (by decide) (by decide) (by decide) (by decide) (by decide) (by decide), part29]
  rfl

variable (m : (ℓ : Loc nD τ sig) → Buf (Elt Ideal) ℓ) (ρ : Dev nD → PrngReg)

/-- The arrays as launched on a core. -/
def argsOf (c : Dev nD) : Proj.Args := args (fun b => m (c, b))

theorem run : θ_run defs (onTc (τ := τ) (main (F := Ideal))) ⟨m, fun _ => 0, ρ⟩ fun r => ∀ c : Dev nD,
      r.2.mem ((c : Thread nD τ).loc main_v199) = (fun y : S8x8192x1024.Idx => (argsOf m c).query (y 0) (y 1) (y 2))
      ∧ r.2.mem ((c : Thread nD τ).loc main_v200) = (fun y : S8x32x1024x256.Idx => (argsOf m c).key (y 0) ⟨(y 1).val * 256 + (y 3).val, by have h1 : (y 1).val < 32 := (y 1).isLt; have h3 : (y 3).val < 256 := (y 3).isLt; omega⟩ (y 2))
      ∧ r.2.mem ((c : Thread nD τ).loc main_v201) = (fun y : S8x8192x1024.Idx => (argsOf m c).value (y 0) (y 1) (y 2))
      ∧ r.2.mem ((c : Thread nD τ).loc main_v202) = (fun y : S8x8192x1024.Idx => (argsOf m c).outGate (y 0) (y 1) (y 2))
      ∧ r.2.mem ((c : Thread nD τ).loc main_v203) = (fun y : S8x8192x1024.Idx => (argsOf m c).attnQuery (y 0) (y 1) (y 2))
      ∧ r.2.mem ((c : Thread nD τ).loc main_v204) = (fun y : S8x8192x256.Idx => (argsOf m c).attnKey (y 0) (y 1) (y 2))
      ∧ r.2.mem ((c : Thread nD τ).loc main_v205) = (fun y : S8x32x256x256.Idx => (argsOf m c).attnValue (y 0) ⟨(y 1).val * 256 + (y 3).val, by have h1 : (y 1).val < 32 := (y 1).isLt; have h3 : (y 3).val < 256 := (y 3).isLt; omega⟩ (y 2))
      ∧ r.2.mem ((c : Thread nD τ).loc main_v206) = (fun y : S8x8192x2048.Idx => (argsOf m c).mergeGate (y 0) (y 1) (y 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c main_v199).trans ((congrFun (after_ops _) _).trans (funext fun y => by rw [eq_ix3 y]; exact res199 _ _ _ _)),
      (h c main_v200).trans ((congrFun (after_ops _) _).trans (funext fun y => by rw [eq_ix4 y]; exact res200 _ _ _ _ _)),
      (h c main_v201).trans ((congrFun (after_ops _) _).trans (funext fun y => by rw [eq_ix3 y]; exact res201 _ _ _ _)),
      (h c main_v202).trans ((congrFun (after_ops _) _).trans (funext fun y => by rw [eq_ix3 y]; exact res202 _ _ _ _)),
      (h c main_v203).trans ((congrFun (after_ops _) _).trans (funext fun y => by rw [eq_ix3 y]; exact res203 _ _ _ _)),
      (h c main_v204).trans ((congrFun (after_ops _) _).trans (funext fun y => by rw [eq_ix3 y]; exact res204 _ _ _ _)),
      (h c main_v205).trans ((congrFun (after_ops _) _).trans (funext fun y => by rw [eq_ix4 y]; exact res205 _ _ _ _ _)),
      (h c main_v206).trans ((congrFun (after_ops _) _).trans (funext fun y => by rw [eq_ix3 y]; exact res206 _ _ _ _)),
      (h c main_arg0).trans ((congrFun (after_ops _) _).trans (toArgJ _ _ (by decide) (by decide) (by decide) (by decide) (by decide) (by decide) (by decide) (by decide) (by decide) (by decide))),
      (h c main_arg1).trans ((congrFun (after_ops _) _).trans (toArgJ _ _ (by decide) (by decide) (by decide) (by decide) (by decide) (by decide) (by decide) (by decide) (by decide) (by decide))),
      (h c main_arg2).trans ((congrFun (after_ops _) _).trans (toArgJ _ _ (by decide) (by decide) (by decide) (by decide) (by decide) (by decide) (by decide) (by decide) (by decide) (by decide))),
      (h c main_arg3).trans ((congrFun (after_ops _) _).trans (toArgJ _ _ (by decide) (by decide) (by decide) (by decide) (by decide) (by decide) (by decide) (by decide) (by decide) (by decide))),
      (h c main_arg4).trans ((congrFun (after_ops _) _).trans (toArgJ _ _ (by decide) (by decide) (by decide) (by decide) (by decide) (by decide) (by decide) (by decide) (by decide) (by decide))),
      (h c main_arg5).trans ((congrFun (after_ops _) _).trans (toArgJ _ _ (by decide) (by decide) (by decide) (by decide) (by decide) (by decide) (by decide) (by decide) (by decide) (by decide))),
      (h c main_arg6).trans ((congrFun (after_ops _) _).trans (toArgJ _ _ (by decide) (by decide) (by decide) (by decide) (by decide) (by decide) (by decide) (by decide) (by decide) (by decide))),
      (h c main_arg7).trans ((congrFun (after_ops _) _).trans (toArgJ _ _ (by decide) (by decide) (by decide) (by decide) (by decide) (by decide) (by decide) (by decide) (by decide) (by decide))),
      (h c main_arg8).trans ((congrFun (after_ops _) _).trans (toArgJ _ _ (by decide) (by decide) (by decide) (by decide) (by decide) (by decide) (by decide) (by decide) (by decide) (by decide))),
      (h c main_arg9).trans ((congrFun (after_ops _) _).trans (toArgJ _ _ (by decide) (by decide) (by decide) (by decide) (by decide) (by decide) (by decide) (by decide) (by decide) (by decide)))⟩) (run_seq scopedRefs_eq scopedSems_eq defs main (fun _ => ops) main_eq (fun _ => ops_sub) m ρ)

end Cert.ProjReferenceIdeal.Line

end
-- ==== Proof.Proj.Equal.lean ====
module

public import proofs.«01_k».proof.Defs
public import proofs.«01_k».proof.Proof.Proj.Arr
public import proofs.«01_k».proof.Proof.Proj.Run
public import proofs.«01_k».proof.Proof.Gen.ProjIdeal
public import proofs.«01_k».proof.Proof.Gen.ProjReferenceIdeal
public import proofs.«01_k».proof.Proof.Gen.Pre_finite

@[expose] public section

set_option maxRecDepth 16384

noncomputable section

/-! The projections' kernel and their reference leave equal results. -/

namespace Cert.Proj

open Idealize.ShloMosaic Idealize.ShloMosaic.TcCoe Idealize.SL.Sem

theorem projections_equal : Cert.algebraic_ProjIdeal_ProjReferenceIdeal := by
  intro m g m' g' _ hag
  refine ⟨fun c => Cert.ProjIdeal.Arr.G16 m c, fun c => Cert.ProjIdeal.Arr.G17 m c, fun c => Cert.ProjIdeal.Arr.G18 m c, fun c => Cert.ProjIdeal.Arr.G19 m c, fun c => Cert.ProjIdeal.Arr.G21 m c, fun c => Cert.ProjIdeal.Arr.G22 m c, fun c => Cert.ProjIdeal.Arr.G23 m c, fun c => Cert.ProjIdeal.Arr.G24 m c, Cert.ProjIdeal.Arr.run m g, ?_⟩
  have key (c : Dev Cert.ProjReferenceIdeal.nD) : Cert.ProjReferenceIdeal.Line.argsOf m' c = Cert.ProjIdeal.Arr.argsOf m c := by
    obtain ⟨a0, a1, a2, a3, a4, a5, a6, a7, a8, a9⟩ := hag c
    unfold Cert.ProjReferenceIdeal.Line.argsOf Cert.ProjReferenceIdeal.Line.args Cert.ProjIdeal.Arr.argsOf
    rw [← a0, ← a1, ← a2, ← a3, ← a4, ← a6, ← a7, ← a8, ← a9]
    all_goals rfl
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.ProjReferenceIdeal.Line.run m' g')
  · rw [key c]
    funext y
    unfold Cert.ProjIdeal.Arr.G16
    rfl
  · rw [key c]
    funext y
    unfold Cert.ProjIdeal.Arr.G17
    rfl
  · rw [key c]
    funext y
    unfold Cert.ProjIdeal.Arr.G18
    rfl
  · rw [key c]
    funext y
    unfold Cert.ProjIdeal.Arr.G19
    rfl
  · rw [key c]
    funext y
    unfold Cert.ProjIdeal.Arr.G21
    rfl
  · rw [key c]
    funext y
    unfold Cert.ProjIdeal.Arr.G22
    rfl
  · rw [key c]
    funext y
    unfold Cert.ProjIdeal.Arr.G23
    rfl
  · rw [key c]
    funext y
    unfold Cert.ProjIdeal.Arr.G24
    rfl

/-- The reference's frame. -/
theorem reference_frame : Cert.quiescent_ProjReferenceIdeal := fun m g _ =>
  (θ_run _ _ _).mono (fun r h => ⟨fun c => (h c).2.2.2.2.2.2.2.2, sem_eq_zero_of_no_sems (by decide) r.2⟩) (Cert.ProjReferenceIdeal.Line.run m g)

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Attn.Equal
public import proofs.«01_k».proof.Proof.Tail.Equal
public import proofs.«01_k».proof.Proof.Proj.Equal
public import Idealize.ShloMosaic.Adequacy
public import Idealize.ShloMosaic.Init

@[expose] public section

noncomputable section

namespace Cert.Proof

open Idealize.ShloMosaic Idealize.SL.Sem

/-- The reference leaves its arguments as they were and every counter at zero. -/
theorem reference_frame : Cert.quiescent_ReferenceIdeal := by
  intro m g _
  refine (θ_run _ _ _).mono (fun r h => ⟨fun c => (h c).2, sem_eq_zero_of_no_sems (by decide) r.2⟩) (Cert.ReferenceIdeal.Value.run m g)

/-- Every claim: the frames, the named scale and the three equations with the references. -/
theorem claim : Cert.Claim := ⟨Cert.Kernel.Gen.facts, Cert.KernelIdeal.Gen.facts, Cert.ReferenceIdeal.Gen.facts, Cert.Tail.Gen.facts, Cert.TailIdeal.Gen.facts,
  Cert.TailReferenceIdeal.Gen.facts, Cert.Proj.Gen.facts, Cert.ProjIdeal.Gen.facts, Cert.ProjReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial,
  fun m ρ _ => Cert.Tail.Gen.frame m ρ, fun m ρ _ => Cert.TailIdeal.Gen.frame m ρ, Cert.Tail.reference_frame,
  fun m ρ _ => Cert.Proj.Gen.frame m ρ, fun m ρ _ => Cert.ProjIdeal.Gen.frame m ρ, Cert.Proj.reference_frame,
  IdealRules.named_const.statement Cert.KernelIdeal.κ "scale_log2e" .f32 0x3E0293EE#32 _ rfl,
  Cert.Attn.bounded, trivial, Cert.Tail.stage_equal, trivial, Cert.Proj.projections_equal⟩

end Cert.Proof

end
